-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_keys [hPre_finite_keys : Cert.Pre_finite_keys.Facts] (m : (ℓ : Loc Cert.AttnIdeal.nD Cert.AttnIdeal.τ Cert.AttnIdeal.sig) → Buf (Elt Ideal) ℓ) : Prop :=
  ∀ c : Dev Cert.AttnIdeal.nD,
    (Cert.Pre_finite_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_keys.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_keys [hPre_finite_keys : Cert.Pre_finite_keys.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_keys.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def Pre_LastPrompt (m : (ℓ : Loc Cert.LastPrompt.nD Cert.LastPrompt.τ Cert.LastPrompt.sig) → Buf (Elt Bits) ℓ) : Prop :=
  True

def Pre_LastPromptIdeal (m : (ℓ : Loc Cert.LastPromptIdeal.nD Cert.LastPromptIdeal.τ Cert.LastPromptIdeal.sig) → Buf (Elt Ideal) ℓ) : Prop :=
  True

def Pre_LastPromptRefIdeal (m : (ℓ : Loc Cert.LastPromptRefIdeal.nD Cert.LastPromptRefIdeal.τ Cert.LastPromptRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.1 = (fun _ => 1#1)
    ∧ (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6))).2.2.2.2.2 = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.1 = (fun _ => 1#1)
    ∧ (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6))).2.2.2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_keys [hAttnIdeal : Cert.AttnIdeal.Facts] [hPre_finite_keys : Cert.Pre_finite_keys.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_keys m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_keys [hAttnRefIdeal : Cert.AttnRefIdeal.Facts] [hPre_finite_keys : Cert.Pre_finite_keys.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_keys m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1))
      ∧ r.2.sem = fun _ => 0)

def quiescent_LastPrompt [hLastPrompt : Cert.LastPrompt.Facts] : Prop :=
  ∀ (m : (ℓ : Loc Cert.LastPrompt.nD Cert.LastPrompt.τ Cert.LastPrompt.sig) → Buf (Elt Bits) ℓ) (g : Dev Cert.LastPrompt.nD → PrngReg), Pre_LastPrompt m →
    θ_run (Cert.LastPrompt.defs (F := Bits)) (onTc (τ := Cert.LastPrompt.τ) (Cert.LastPrompt.main (F := Bits))) ⟨m, fun _ => 0, g⟩ (fun r => (∀ c : Dev Cert.LastPrompt.nD,
      r.2.mem ((c.tc : Thread Cert.LastPrompt.nD Cert.LastPrompt.τ).loc Cert.LastPrompt.main_arg0) = m ((c.tc : Thread Cert.LastPrompt.nD Cert.LastPrompt.τ).loc Cert.LastPrompt.main_arg0)
      ∧ r.2.mem ((c.tc : Thread Cert.LastPrompt.nD Cert.LastPrompt.τ).loc Cert.LastPrompt.main_arg1) = m ((c.tc : Thread Cert.LastPrompt.nD Cert.LastPrompt.τ).loc Cert.LastPrompt.main_arg1))
      ∧ r.2.sem = fun _ => 0)

def quiescent_LastPromptIdeal [hLastPromptIdeal : Cert.LastPromptIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg), Pre_LastPromptIdeal m →
    θ_run (Cert.LastPromptIdeal.defs (F := Ideal)) (onTc (τ := Cert.LastPromptIdeal.τ) (Cert.LastPromptIdeal.main (F := Ideal))) ⟨m, fun _ => 0, g⟩ (fun r => (∀ c : Dev Cert.LastPromptIdeal.nD,
      r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
      ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1))
      ∧ r.2.sem = fun _ => 0)

def quiescent_LastPromptRefIdeal [hLastPromptRefIdeal : Cert.LastPromptRefIdeal.Facts] : Prop :=
  ∀ (m : (ℓ : Loc Cert.LastPromptRefIdeal.nD Cert.LastPromptRefIdeal.τ Cert.LastPromptRefIdeal.sig) → Buf (Elt Ideal) ℓ) (g : Dev Cert.LastPromptRefIdeal.nD → PrngReg), Pre_LastPromptRefIdeal m →
    θ_run (Cert.LastPromptRefIdeal.defs (F := Ideal)) (onTc (τ := Cert.LastPromptRefIdeal.τ) (Cert.LastPromptRefIdeal.main (F := Ideal))) ⟨m, fun _ => 0, g⟩ (fun r => (∀ c : Dev Cert.LastPromptRefIdeal.nD,
      r.2.mem ((c.tc : Thread Cert.LastPromptRefIdeal.nD Cert.LastPromptRefIdeal.τ).loc Cert.LastPromptRefIdeal.main_arg0) = m ((c.tc : Thread Cert.LastPromptRefIdeal.nD Cert.LastPromptRefIdeal.τ).loc Cert.LastPromptRefIdeal.main_arg0)
      ∧ r.2.mem ((c.tc : Thread Cert.LastPromptRefIdeal.nD Cert.LastPromptRefIdeal.τ).loc Cert.LastPromptRefIdeal.main_arg1) = m ((c.tc : Thread Cert.LastPromptRefIdeal.nD Cert.LastPromptRefIdeal.τ).loc Cert.LastPromptRefIdeal.main_arg1))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6))
      ∧ r.2.sem = fun _ => 0)

def preserves_Attn_AttnIdeal : Prop :=
  True

def algebraic_AttnIdeal_AttnRefIdeal_pre_finite_keys [hAttnIdeal : Cert.AttnIdeal.Facts] [hAttnRefIdeal : Cert.AttnRefIdeal.Facts] [hPre_finite_keys : Cert.Pre_finite_keys.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_keys m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v19)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v122) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v2_0)) (v1 : (c : Dev Cert.InProjIdeal.nD) → Buf (Elt Ideal) ((c.tc : Thread Cert.InProjIdeal.nD Cert.InProjIdeal.τ).loc Cert.InProjIdeal.main_v2_1)) (v2 : (c : Dev Cert.InProjIdeal.nD) → Buf (Elt Ideal) ((c.tc : Thread Cert.InProjIdeal.nD Cert.InProjIdeal.τ).loc Cert.InProjIdeal.main_v2_2)) (v3 : (c : Dev Cert.InProjIdeal.nD) → Buf (Elt Ideal) ((c.tc : Thread Cert.InProjIdeal.nD Cert.InProjIdeal.τ).loc Cert.InProjIdeal.main_v2_3)) (v4 : (c : Dev Cert.InProjIdeal.nD) → Buf (Elt Ideal) ((c.tc : Thread Cert.InProjIdeal.nD Cert.InProjIdeal.τ).loc Cert.InProjIdeal.main_v2_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2_0) = v0 c
          ∧ r.2.mem ((c.tc : Thread Cert.InProjIdeal.nD Cert.InProjIdeal.τ).loc Cert.InProjIdeal.main_v2_1) = v1 c
          ∧ r.2.mem ((c.tc : Thread Cert.InProjIdeal.nD Cert.InProjIdeal.τ).loc Cert.InProjIdeal.main_v2_2) = v2 c
          ∧ r.2.mem ((c.tc : Thread Cert.InProjIdeal.nD Cert.InProjIdeal.τ).loc Cert.InProjIdeal.main_v2_3) = v3 c
          ∧ r.2.mem ((c.tc : Thread Cert.InProjIdeal.nD Cert.InProjIdeal.τ).loc Cert.InProjIdeal.main_v2_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v60) = v0 c
          ∧ r.2.mem ((c.tc : Thread Cert.InProjRefIdeal.nD Cert.InProjRefIdeal.τ).loc Cert.InProjRefIdeal.main_v56) = v1 c
          ∧ r.2.mem ((c.tc : Thread Cert.InProjRefIdeal.nD Cert.InProjRefIdeal.τ).loc Cert.InProjRefIdeal.main_v57) = v2 c
          ∧ r.2.mem ((c.tc : Thread Cert.InProjRefIdeal.nD Cert.InProjRefIdeal.τ).loc Cert.InProjRefIdeal.main_v58) = v3 c
          ∧ r.2.mem ((c.tc : Thread Cert.InProjRefIdeal.nD Cert.InProjRefIdeal.τ).loc Cert.InProjRefIdeal.main_v59) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v24) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)) (v3 : (c : Dev Cert.QkvIdeal.nD) → Buf (Elt Ideal) ((c.tc : Thread Cert.QkvIdeal.nD Cert.QkvIdeal.τ).loc Cert.QkvIdeal.main_v2_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_v2_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v34) = v0 c
          ∧ r.2.mem ((c.tc : Thread Cert.QkvRefIdeal.nD Cert.QkvRefIdeal.τ).loc Cert.QkvRefIdeal.main_v36) = v1 c
          ∧ r.2.mem ((c.tc : Thread Cert.QkvRefIdeal.nD Cert.QkvRefIdeal.τ).loc Cert.QkvRefIdeal.main_v37) = v2 c
          ∧ r.2.mem ((c.tc : Thread Cert.QkvRefIdeal.nD Cert.QkvRefIdeal.τ).loc Cert.QkvRefIdeal.main_v38) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)) →
    ∃ (v0 : (c : Dev Cert.LastSampleIdeal.nD) → Buf (Elt Ideal) ((c.tc : Thread Cert.LastSampleIdeal.nD Cert.LastSampleIdeal.τ).loc Cert.LastSampleIdeal.main_v1)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v1) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v15) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1))

def preserves_LastPrompt_LastPromptIdeal : Prop :=
  True

def algebraic_LastPromptIdeal_LastPromptRefIdeal [hLastPromptIdeal : Cert.LastPromptIdeal.Facts] [hLastPromptRefIdeal : Cert.LastPromptRefIdeal.Facts] : Prop :=
  ∀ (m : (ℓ : Loc Cert.LastPromptIdeal.nD Cert.LastPromptIdeal.τ Cert.LastPromptIdeal.sig) → Buf (Elt Ideal) ℓ) (g : Dev Cert.LastPromptIdeal.nD → PrngReg)
    (m' : (ℓ : Loc Cert.LastPromptRefIdeal.nD Cert.LastPromptRefIdeal.τ Cert.LastPromptRefIdeal.sig) → Buf (Elt Ideal) ℓ) (g' : Dev Cert.LastPromptRefIdeal.nD → PrngReg), Pre_LastPromptIdeal m →
    (∀ c : Dev Cert.LastPromptIdeal.nD,
      m' ((c.tc : Thread Cert.LastPromptRefIdeal.nD Cert.LastPromptRefIdeal.τ).loc Cert.LastPromptRefIdeal.main_arg0) = m ((c.tc : Thread Cert.LastPromptIdeal.nD Cert.LastPromptIdeal.τ).loc Cert.LastPromptIdeal.main_arg0)
      ∧ m' ((c.tc : Thread Cert.LastPromptRefIdeal.nD Cert.LastPromptRefIdeal.τ).loc Cert.LastPromptRefIdeal.main_arg1) = m ((c.tc : Thread Cert.LastPromptIdeal.nD Cert.LastPromptIdeal.τ).loc Cert.LastPromptIdeal.main_arg1)) →
    ∃ (v0 : (c : Dev Cert.LastPromptIdeal.nD) → Buf (Elt Ideal) ((c.tc : Thread Cert.LastPromptIdeal.nD Cert.LastPromptIdeal.τ).loc Cert.LastPromptIdeal.main_v1)),
      θ_run (Cert.LastPromptIdeal.defs (F := Ideal)) (onTc (τ := Cert.LastPromptIdeal.τ) (Cert.LastPromptIdeal.main (F := Ideal))) ⟨m, fun _ => 0, g⟩ (fun r => ∀ c : Dev Cert.LastPromptIdeal.nD,
          r.2.mem ((c.tc : Thread Cert.LastPromptIdeal.nD Cert.LastPromptIdeal.τ).loc Cert.LastPromptIdeal.main_v1) = v0 c
          ∧ r.2.mem ((c.tc : Thread Cert.LastPromptIdeal.nD Cert.LastPromptIdeal.τ).loc Cert.LastPromptIdeal.main_arg0) = m ((c.tc : Thread Cert.LastPromptIdeal.nD Cert.LastPromptIdeal.τ).loc Cert.LastPromptIdeal.main_arg0)
          ∧ r.2.mem ((c.tc : Thread Cert.LastPromptIdeal.nD Cert.LastPromptIdeal.τ).loc Cert.LastPromptIdeal.main_arg1) = m ((c.tc : Thread Cert.LastPromptIdeal.nD Cert.LastPromptIdeal.τ).loc Cert.LastPromptIdeal.main_arg1))
      ∧ θ_run (Cert.LastPromptRefIdeal.defs (F := Ideal)) (onTc (τ := Cert.LastPromptRefIdeal.τ) (Cert.LastPromptRefIdeal.main (F := Ideal))) ⟨m', fun _ => 0, g'⟩ (fun r => ∀ c : Dev Cert.LastPromptRefIdeal.nD,
          r.2.mem ((c.tc : Thread Cert.LastPromptRefIdeal.nD Cert.LastPromptRefIdeal.τ).loc Cert.LastPromptRefIdeal.main_v15) = v0 c
          ∧ r.2.mem ((c.tc : Thread Cert.LastPromptRefIdeal.nD Cert.LastPromptRefIdeal.τ).loc Cert.LastPromptRefIdeal.main_arg0) = m' ((c.tc : Thread Cert.LastPromptRefIdeal.nD Cert.LastPromptRefIdeal.τ).loc Cert.LastPromptRefIdeal.main_arg0)
          ∧ r.2.mem ((c.tc : Thread Cert.LastPromptRefIdeal.nD Cert.LastPromptRefIdeal.τ).loc Cert.LastPromptRefIdeal.main_arg1) = m' ((c.tc : Thread Cert.LastPromptRefIdeal.nD Cert.LastPromptRefIdeal.τ).loc Cert.LastPromptRefIdeal.main_arg1))

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)) →
    ∃ (v0 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_1) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v58_7) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hQkv : Cert.Qkv.Facts) (hQkvIdeal : Cert.QkvIdeal.Facts) (hQkvRefIdeal : Cert.QkvRefIdeal.Facts) (hLastSample : Cert.LastSample.Facts) (hLastSampleIdeal : Cert.LastSampleIdeal.Facts) (hLastSampleRefIdeal : Cert.LastSampleRefIdeal.Facts) (hLastPrompt : Cert.LastPrompt.Facts) (hLastPromptIdeal : Cert.LastPromptIdeal.Facts) (hLastPromptRefIdeal : Cert.LastPromptRefIdeal.Facts) (hScan : Cert.Scan.Facts) (hScanIdeal : Cert.ScanIdeal.Facts) (hScanRefIdeal : Cert.ScanRefIdeal.Facts) (hPre_finite_keys : Cert.Pre_finite_keys.Facts) (hPre_finite_scan : Cert.Pre_finite_scan.Facts),
    quiescent_Attn (hAttn := hAttn)
    ∧ quiescent_AttnIdeal (hAttnIdeal := hAttnIdeal)
    ∧ quiescent_AttnIdeal_pre_finite_keys (hAttnIdeal := hAttnIdeal) (hPre_finite_keys := hPre_finite_keys)
    ∧ quiescent_AttnRefIdeal (hAttnRefIdeal := hAttnRefIdeal)
    ∧ quiescent_AttnRefIdeal_pre_finite_keys (hAttnRefIdeal := hAttnRefIdeal) (hPre_finite_keys := hPre_finite_keys)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Qkv (hQkv := hQkv)
    ∧ quiescent_QkvIdeal (hQkvIdeal := hQkvIdeal)
    ∧ quiescent_QkvRefIdeal (hQkvRefIdeal := hQkvRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ quiescent_LastPrompt (hLastPrompt := hLastPrompt)
    ∧ quiescent_LastPromptIdeal (hLastPromptIdeal := hLastPromptIdeal)
    ∧ quiescent_LastPromptRefIdeal (hLastPromptRefIdeal := hLastPromptRefIdeal)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ preserves_Attn_AttnIdeal
    ∧ algebraic_AttnIdeal_AttnRefIdeal_pre_finite_keys (hAttnIdeal := hAttnIdeal) (hAttnRefIdeal := hAttnRefIdeal) (hPre_finite_keys := hPre_finite_keys)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Qkv_QkvIdeal
    ∧ algebraic_QkvIdeal_QkvRefIdeal (hQkvIdeal := hQkvIdeal) (hQkvRefIdeal := hQkvRefIdeal)
    ∧ preserves_LastSample_LastSampleIdeal
    ∧ algebraic_LastSampleIdeal_LastSampleRefIdeal (hLastSampleIdeal := hLastSampleIdeal) (hLastSampleRefIdeal := hLastSampleRefIdeal)
    ∧ preserves_LastPrompt_LastPromptIdeal
    ∧ algebraic_LastPromptIdeal_LastPromptRefIdeal (hLastPromptIdeal := hLastPromptIdeal) (hLastPromptRefIdeal := hLastPromptRefIdeal)
    ∧ preserves_Scan_ScanIdeal
    ∧ algebraic_ScanIdeal_ScanRefIdeal_pre_finite_scan (hScanIdeal := hScanIdeal) (hScanRefIdeal := hScanRefIdeal) (hPre_finite_scan := hPre_finite_scan)
-- ==== Pre_finite_keys.lean ====
abbrev S16384x1024 : Shape := ⟨2, ![16384, 1024]⟩
abbrev S16384x256 : Shape := ⟨2, ![16384, 256]⟩
abbrev S8x512x2x128 : Shape := ⟨4, ![8, 512, 2, 128]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)
  bcast_S_S8x512x2x128 : S_.BroadcastsInDim S8x512x2x128 (![] : Fin 0 → Fin S8x512x2x128.rank)

variable [Facts]

def fn {F : FTy → Type} [FloatOps F] (main_arg0 : FVec F S16384x1024 .bf16) (main_arg1 : FVec F S16384x256 .bf16) (main_arg2 : FVec F S16384x256 .bf16) (main_arg3 : FVec F S8x512x2x128 .f32) (main_arg4 : FVec F S8x512x2x128 .f32) : IVec S16384x1024 1 × IVec S16384x256 1 × IVec S8x512x2x128 1 :=
  let main_v0 : FVec F S16384x1024 .bf16 := Host.absf main_arg0
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x256 .bf16 := Host.absf main_arg1
  let main_cst_0 : FVec F S_ .bf16 := constant S_ .bf16 0x7F80#16
  let main_v4 : FVec F S16384x256 .bf16 := broadcastInDim S16384x256 ![] bcast_S_S16384x256 main_cst_0
  let main_v5 : IVec S16384x256 1 := cmpf .olt main_v3 main_v4
  let main_v6 : FVec F S8x512x2x128 .f32 := Host.absf main_arg3
  let main_cst_1 : FVec F S_ .f32 := constant S_ .f32 0x7F800000#32
  let main_v7 : FVec F S8x512x2x128 .f32 := broadcastInDim S8x512x2x128 ![] bcast_S_S8x512x2x128 main_cst_1
  let main_v8 : IVec S8x512x2x128 1 := cmpf .olt main_v6 main_v7
  (main_v2, main_v5, main_v8)
-- ==== Pre_finite_scan.lean ====
abbrev S20480x512 : Shape := ⟨2, ![20480, 512]⟩
abbrev S2x20480x512 : Shape := ⟨3, ![2, 20480, 512]⟩
abbrev S16x2x8x64x64 : Shape := ⟨5, ![16, 2, 8, 64, 64]⟩
abbrev S_ : Shape := ⟨0, ![]⟩

class Facts : Prop where
  bcast_S_S20480x512 : S_.BroadcastsInDim S20480x512 (![] : Fin 0 → Fin S20480x512.rank)
  bcast_S_S2x20480x512 : S_.BroadcastsInDim S2x20480x512 (![] : Fin 0 → Fin S2x20480x512.rank)
  bcast_S_S16x2x8x64x64 : S_.BroadcastsInDim S16x2x8x64x64 (![] : Fin 0 → Fin S16x2x8x64x64.rank)

variable [Facts]

def fn {F : FTy → Type} [FloatOps F] (main_arg0 : FVec F S20480x512 .f32) (main_arg1 : FVec F S20480x512 .f32) (main_arg2 : FVec F S20480x512 .f32) (main_arg3 : FVec F S2x20480x512 .f32) (main_arg4 : FVec F S2x20480x512 .f32) (main_arg5 : FVec F S2x20480x512 .f32) (main_arg6 : FVec F S16x2x8x64x64 .f32) : IVec S20480x512 1 × IVec S20480x512 1 × IVec S2x20480x512 1 × IVec S2x20480x512 1 × IVec S2x20480x512 1 × IVec S16x2x8x64x64 1 :=
  let main_v0 : FVec F S20480x512 .f32 := Host.absf main_arg1
  let main_cst : FVec F S_ .f32 := constant S_ .f32 0x7F800000#32
  let main_v1 : FVec F S20480x512 .f32 := broadcastInDim S20480x512 ![] bcast_S_S20480x512 main_cst
  let main_v2 : IVec S20480x512 1 := cmpf .olt main_v0 main_v1
  let main_v3 : FVec F S20480x512 .f32 := Host.absf main_arg2
  let main_cst_0 : FVec F S_ .f32 := constant S_ .f32 0x7F800000#32
  let main_v4 : FVec F S20480x512 .f32 := broadcastInDim S20480x512 ![] bcast_S_S20480x512 main_cst_0
  let main_v5 : IVec S20480x512 1 := cmpf .olt main_v3 main_v4
  let main_v6 : FVec F S2x20480x512 .f32 := Host.absf main_arg3
  let main_cst_1 : FVec F S_ .f32 := constant S_ .f32 0x7F800000#32
  let main_v7 : FVec F S2x20480x512 .f32 := broadcastInDim S2x20480x512 ![] bcast_S_S2x20480x512 main_cst_1
  let main_v8 : IVec S2x20480x512 1 := cmpf .olt main_v6 main_v7
  let main_v9 : FVec F S2x20480x512 .f32 := Host.absf main_arg4
  let main_cst_2 : FVec F S_ .f32 := constant S_ .f32 0x7F800000#32
  let main_v10 : FVec F S2x20480x512 .f32 := broadcastInDim S2x20480x512 ![] bcast_S_S2x20480x512 main_cst_2
  let main_v11 : IVec S2x20480x512 1 := cmpf .olt main_v9 main_v10
  let main_v12 : FVec F S2x20480x512 .f32 := Host.absf main_arg5
  let main_cst_3 : FVec F S_ .f32 := constant S_ .f32 0x7F800000#32
  let main_v13 : FVec F S2x20480x512 .f32 := broadcastInDim S2x20480x512 ![] bcast_S_S2x20480x512 main_cst_3
  let main_v14 : IVec S2x20480x512 1 := cmpf .olt main_v12 main_v13
  let main_v15 : FVec F S16x2x8x64x64 .f32 := Host.absf main_arg6
  let main_cst_4 : FVec F S_ .f32 := constant S_ .f32 0x7F800000#32
  let main_v16 : FVec F S16x2x8x64x64 .f32 := broadcastInDim S16x2x8x64x64 ![] bcast_S_S16x2x8x64x64 main_cst_4
  let main_v17 : IVec S16x2x8x64x64 1 := cmpf .olt main_v15 main_v16
  (main_v2, main_v5, main_v8, main_v11, main_v14, main_v17)
-- ==== Attn.lean ====
abbrev S16384x1024 : Shape := ⟨2, ![16384, 1024]⟩
abbrev S16384x256 : Shape := ⟨2, ![16384, 256]⟩
abbrev S8x512x2x128 : Shape := ⟨4, ![8, 512, 2, 128]⟩
abbrev S8x512x256 : Shape := ⟨3, ![8, 512, 256]⟩
abbrev S256x1024 : Shape := ⟨2, ![256, 1024]⟩
abbrev S2048x256 : Shape := ⟨2, ![2048, 256]⟩
abbrev S1x512x256 : Shape := ⟨3, ![1, 512, 256]⟩
abbrev S2048x128 : Shape := ⟨2, ![2048, 128]⟩
abbrev S1x512x128 : Shape := ⟨3, ![1, 512, 128]⟩
abbrev S512x128 : Shape := ⟨2, ![512, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x512x2x128, .f32⟩
  | .hbm, ⟨4, _⟩ => ⟨S8x512x2x128, .f32⟩
  | .hbm, ⟨5, _⟩ => ⟨S8x512x256, .f32⟩
  | .hbm, ⟨6, _⟩ => ⟨S8x512x256, .f32⟩
  | .hbm, ⟨7, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S256x1024, .bf16⟩
  | .local _ .vmem, ⟨11, _⟩ => ⟨S256x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16384x1024 : Shape := ⟨2, ![16384, 1024]⟩
abbrev S16384x256 : Shape := ⟨2, ![16384, 256]⟩
abbrev S8x512x2x128 : Shape := ⟨4, ![8, 512, 2, 128]⟩
abbrev S8x2048x2x4x128 : Shape := ⟨5, ![8, 2048, 2, 4, 128]⟩
abbrev S8x2048x2x128 : Shape := ⟨4, ![8, 2048, 2, 128]⟩
abbrev S8x2560x2x128 : Shape := ⟨4, ![8, 2560, 2, 128]⟩
abbrev S8x2x2560x2048x4 : Shape := ⟨5, ![8, 2, 2560, 2048, 4]⟩
abbrev S8x2x4x2048x2560 : Shape := ⟨5, ![8, 2, 4, 2048, 2560]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S16384x256, .bf16⟩
  | .hbm, ⟨3, _⟩ => ⟨S8x512x2x128, .f32⟩
  | .hbm, ⟨4, _⟩ => ⟨S8x512x2x128, .f32⟩
  | .hbm, ⟨5, _⟩ => ⟨S16384x1024, .f32⟩
  | .hbm, ⟨6, _⟩ => ⟨S8x2048x2x4x128, .f32⟩
  | .hbm, ⟨7, _⟩ => ⟨S16384x256, .f32⟩
  | .hbm, ⟨8, _⟩ => ⟨S8x2048x2x128, .f32⟩
  | .hbm, ⟨9, _⟩ => ⟨S16384x256, .f32⟩
  | .hbm, ⟨10, _⟩ => ⟨S8x2048x2x128, .f32⟩
  | .hbm, ⟨11, _⟩ => ⟨S8x2560x2x128, .f32⟩
  | .hbm, ⟨12, _⟩ => ⟨S8x2560x2x128, .f32⟩
  | .hbm, ⟨13, _⟩ => ⟨S8x2x2560x2048x4, .f32⟩
  | .hbm, ⟨14, _⟩ => ⟨S8x2x4x2048x2560, .f32⟩
  | .hbm, ⟨15, _⟩ => ⟨S_, .f32⟩
  | .hbm, ⟨16, _⟩ => ⟨S8x2x4x2048, .f32⟩
  | .hbm, ⟨17, _⟩ => ⟨S_, .f32⟩
  | .hbm, ⟨18, _⟩ => ⟨S8x2x4x2048, .f32⟩
  | .hbm, ⟨19, _⟩ => ⟨S8x2x4x2048, .f32⟩
  | .hbm, ⟨20, _⟩ => ⟨S8x2x4x2048x1, .f32⟩
  | .hbm, ⟨21, _⟩ => ⟨S8x2x4x2048x2560, .f32⟩
  | .hbm, ⟨22, _⟩ => ⟨S8x2x4x2048x2560, .f32⟩
  | .hbm, ⟨23, _⟩ => ⟨S8x2x4x2048x2560, .f32⟩
  | .hbm, ⟨24, _⟩ => ⟨S_, .f32⟩
  | .hbm, ⟨25, _⟩ => ⟨S8x2x4x2048, .f32⟩
  | .hbm, ⟨26, _⟩ => ⟨S8x2x4x2048x1, .f32⟩
  | .hbm, ⟨27, _⟩ => ⟨S8x2x4x2048x2560, .f32⟩
  | .hbm, ⟨28, _⟩ => ⟨S8x2x4x2048x2560, .f32⟩
  | .hbm, ⟨29, _⟩ => ⟨S8x2x128x4x2048, .f32⟩
  | .hbm, ⟨30, _⟩ => ⟨S8x2048x2x4x128, .f32⟩
  | .hbm, ⟨31, _⟩ => ⟨S16384x1024, .f32⟩
  | .hbm, ⟨32, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Ffn.lean ====
abbrev S20480x2048 : Shape := ⟨2, ![20480, 2048]⟩
abbrev S2048 : Shape := ⟨1, ![2048]⟩
abbrev S16x1x2048 : Shape := ⟨3, ![16, 1, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S1x2048 : Shape := ⟨2, ![1, 2048]⟩
abbrev S2048x5504 : Shape := ⟨2, ![2048, 5504]⟩
abbrev S_ : Shape := ⟨0, ![]⟩
abbrev S2048x5632 : Shape := ⟨2, ![2048, 5632]⟩
abbrev S3x5504 : Shape := ⟨2, ![3, 5504]⟩
abbrev S3x5632 : Shape := ⟨2, ![3, 5632]⟩
abbrev S5504 : Shape := ⟨1, ![5504]⟩
abbrev S1x5504 : Shape := ⟨2, ![1, 5504]⟩
abbrev S1x5632 : Shape := ⟨2, ![1, 5632]⟩
abbrev S5632x2048 : Shape := ⟨2, ![5632, 2048]⟩
abbrev S512x2048 : Shape := ⟨2, ![512, 2048]⟩
abbrev S16x2048 : Shape := ⟨2, ![16, 2048]⟩
abbrev S1x1x2048 : Shape := ⟨3, ![1, 1, 2048]⟩
abbrev S2048x512 : Shape := ⟨2, ![2048, 512]⟩
abbrev S3x512 : Shape := ⟨2, ![3, 512]⟩
abbrev S1x512 : Shape := ⟨2, ![1, 512]⟩
abbrev S544x2048 : Shape := ⟨2, ![544, 2048]⟩
abbrev S544x512 : Shape := ⟨2, ![544, 512]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x512 : Shape := ⟨2, ![512, 512]⟩

abbrev nBuf : Space → Nat
  | .hbm => 43
  | .vmem => 33
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16x1x2048, .f32⟩
  | .hbm, ⟨3, _⟩ => ⟨S16x1x2048, .f32⟩
  | .hbm, ⟨4, _⟩ => ⟨S16x1x2048, .f32⟩
  | .hbm, ⟨5, _⟩ => ⟨S2048x11008, .f32⟩
  | .hbm, ⟨6, _⟩ => ⟨S3x11008, .f32⟩
  | .hbm, ⟨7, _⟩ => ⟨S11008, .f32⟩
  | .hbm, ⟨8, _⟩ => ⟨S5504x2048, .f32⟩
  | .hbm, ⟨9, _⟩ => ⟨S1x2048, .f32⟩
  | .hbm, ⟨10, _⟩ => ⟨S2048x5504, .f32⟩
  | .hbm, ⟨11, _⟩ => ⟨S_, .i32⟩
  | .hbm, ⟨12, _⟩ => ⟨S_, .f32⟩
  | .hbm, ⟨13, _⟩ => ⟨S2048x5632, .f32⟩
  | .hbm, ⟨14, _⟩ => ⟨S2048x5632, .bf16⟩
  | .hbm, ⟨15, _⟩ => ⟨S2048x5504, .f32⟩
  | .hbm, ⟨16, _⟩ => ⟨S_, .i32⟩
  | .hbm, ⟨17, _⟩ => ⟨S_, .f32⟩
  | .hbm, ⟨18, _⟩ => ⟨S2048x5632, .f32⟩
  | .hbm, ⟨19, _⟩ => ⟨S2048x5632, .bf16⟩
  | .hbm, ⟨20, _⟩ => ⟨S3x5504, .f32⟩
  | .hbm, ⟨21, _⟩ => ⟨S_, .i32⟩
  | .hbm, ⟨22, _⟩ => ⟨S_, .f32⟩
  | .hbm, ⟨23, _⟩ => ⟨S3x5632, .f32⟩
  | .hbm, ⟨24, _⟩ => ⟨S3x5504, .f32⟩
  | .hbm, ⟨25, _⟩ => ⟨S_, .i32⟩
  | .hbm, ⟨26, _⟩ => ⟨S_, .f32⟩
  | .hbm, ⟨27, _⟩ => ⟨S3x5632, .f32⟩
  | .hbm, ⟨28, _⟩ => ⟨S5504, .f32⟩
  | .hbm, ⟨29, _⟩ => ⟨S1x5504, .f32⟩
  | .hbm, ⟨30, _⟩ => ⟨S_, .i32⟩
  | .hbm, ⟨31, _⟩ => ⟨S_, .f32⟩
  | .hbm, ⟨32, _⟩ => ⟨S1x5632, .f32⟩
  | .hbm, ⟨33, _⟩ => ⟨S5504, .f32⟩
  | .hbm, ⟨34, _⟩ => ⟨S1x5504, .f32⟩
  | .hbm, ⟨35, _⟩ => ⟨S_, .i32⟩
  | .hbm, ⟨36, _⟩ => ⟨S_, .f32⟩
  | .hbm, ⟨37, _⟩ => ⟨S1x5632, .f32⟩
  | .hbm, ⟨38, _⟩ => ⟨S_, .i32⟩
  | .hbm, ⟨39, _⟩ => ⟨S_, .f32⟩
  | .hbm, ⟨40, _⟩ => ⟨S5632x2048, .f32⟩
  | .hbm, ⟨41, _⟩ => ⟨S5632x2048, .bf16⟩
  | .hbm, ⟨42, _⟩ => ⟨S20480x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S3x512, .f32⟩
  | .local _ .vmem, ⟨18, _⟩ => ⟨S3x512, .f32⟩
  | .local _ .vmem, ⟨19, _⟩ => ⟨S3x512, .f32⟩
  | .local _ .vmem, ⟨20, _⟩ => ⟨S3x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S512x2048, .bf16⟩
  | .local _ .vmem, ⟨26, _⟩ => ⟨S512x2048, .bf16⟩
  | .local _ .vmem, ⟨27, _⟩ => ⟨S512x2048, .f32⟩
  | .local _ .vmem, ⟨28, _⟩ => ⟨S512x2048, .f32⟩
  | .local _ .vmem, ⟨29, _⟩ => ⟨S544x2048, .bf16⟩
  | .local _ .vmem, ⟨30, _⟩ => ⟨S544x512, .f32⟩
  | .local _ .vmem, ⟨31, _⟩ => ⟨S544x512, .f32⟩
  | .local _ .vmem, ⟨32, _⟩ => ⟨S512x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_call3_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_call4_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_call5_v0 : Ref sig .tc := ⟨.hbm, 36, rfl⟩
abbrev main_v16 : Ref sig .tc := ⟨.hbm, 37, rfl⟩
abbrev main_c_5 : Ref sig .tc := ⟨.hbm, 38, rfl⟩
abbrev main_call6_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![40, 11], ![false, false]⟩

def k0_cond4 (i : grid0.Coords) : BitVec 1 :=
  let arg1 : BitVec 32 := BitVec.ofNat 32 (i 1).val
  let c10_i32 : BitVec 32 := 10#32
  let v107 : BitVec 1 := Scalar.cmpi .eq arg1 c10_i32
  let v108 : BitVec 32 := Scalar.extui v107
  let c0_i32_44 : BitVec 32 := 0#32
  let v109 : BitVec 1 := Scalar.cmpi .ne v108 c0_i32_44
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1279_i32 : BitVec 32 := 1279#32
  let v2 : BitVec 32 := Scalar.minsi v1 c1279_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnRefIdeal.lean ====
abbrev S20480x2048 : Shape := ⟨2, ![20480, 2048]⟩
abbrev S2048 : Shape := ⟨1, ![2048]⟩
abbrev S16x1x2048 : Shape := ⟨3, ![16, 1, 2048]⟩
abbrev S2048x11008 : Shape := ⟨2, ![2048, 11008]⟩
abbrev S3x11008 : Shape := ⟨2, ![3, 11008]⟩
abbrev S11008 : Shape := ⟨1, ![11008]⟩
abbrev S5504x2048 : Shape := ⟨2, ![5504, 2048]⟩
abbrev S16384x2048 : Shape := ⟨2, ![16384, 2048]⟩
abbrev S8x2048x2048 : Shape := ⟨3, ![8, 2048, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11008 : Shape := ⟨3, ![8, 2048, 11008]⟩
abbrev S8x2050x11008 : Shape := ⟨3, ![8, 2050, 11008]⟩
abbrev S1x11008 : Shape := ⟨2, ![1, 11008]⟩
abbrev S1x1x11008 : Shape := ⟨3, ![1, 1, 11008]⟩
abbrev S8x2048x5504 : Shape := ⟨3, ![8, 2048, 5504]⟩
abbrev S4096x2048 : Shape := ⟨2, ![4096, 2048]⟩
abbrev S16x256x2048 : Shape := ⟨3, ![16, 256, 2048]⟩
abbrev S2x1x2048 : Shape := ⟨3, ![2, 1, 2048]⟩
abbrev S2x8x1x2048 : Shape := ⟨4, ![2, 8, 1, 2048]⟩
abbrev S16x256 : Shape := ⟨2, ![16, 256]⟩
abbrev S16x256x1 : Shape := ⟨3, ![16, 256, 1]⟩
abbrev S16x256x11008 : Shape := ⟨3, ![16, 256, 11008]⟩
abbrev S16x258x11008 : Shape := ⟨3, ![16, 258, 11008]⟩
abbrev S16x256x5504 : Shape := ⟨3, ![16, 256, 5504]⟩

abbrev nBuf : Space → Nat
  | .hbm => 160
  | .vmem => 0
  | .smem => 0
  | _ => 0

abbrev hbmTy0_0 (i : Nat) : BufTy := match i % 128 with
  | 0 => ⟨S20480x2048, .f32⟩
  | 1 => ⟨S2048, .f32⟩
  | 2 => ⟨S16x1x2048, .f32⟩
  | 3 => ⟨S16x1x2048, .f32⟩
  | 4 => ⟨S16x1x2048, .f32⟩
  | 5 => ⟨S2048x11008, .f32⟩
  | 6 => ⟨S3x11008, .f32⟩
  | 7 => ⟨S11008, .f32⟩
  | 8 => ⟨S5504x2048, .f32⟩
  | 9 => ⟨S16384x2048, .f32⟩
  | 10 => ⟨S8x2048x2048, .f32⟩
  | 11 => ⟨S8x1x2048, .f32⟩
  | 12 => ⟨S8x1x2048, .f32⟩
  | 13 => ⟨S8x1x2048, .f32⟩
  | 14 => ⟨S8x2048x2048, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x2048, .f32⟩
  | 26 => ⟨S8x2048x2048, .f32⟩
  | 27 => ⟨S1x1x2048, .f32⟩
  | 28 => ⟨S8x2048x2048, .f32⟩
  | 29 => ⟨S8x2048x2048, .f32⟩
  | 30 => ⟨S_, .f32⟩
  | 31 => ⟨S8x1x2048, .f32⟩
  | 32 => ⟨S8x1x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x11008, .f32⟩
  | 38 => ⟨S_, .i32⟩
  | 39 => ⟨S_, .f32⟩
  | 40 => ⟨S8x2050x11008, .f32⟩
  | 41 => ⟨S1x11008, .f32⟩
  | 42 => ⟨S11008, .f32⟩
  | 43 => ⟨S8x2048x11008, .f32⟩
  | 44 => ⟨S1x1x11008, .f32⟩
  | 45 => ⟨S8x2048x11008, .f32⟩
  | 46 => ⟨S8x2048x11008, .f32⟩
  | 47 => ⟨S1x11008, .f32⟩
  | 48 => ⟨S11008, .f32⟩
  | 49 => ⟨S8x2048x11008, .f32⟩
  | 50 => ⟨S1x1x11008, .f32⟩
  | 51 => ⟨S8x2048x11008, .f32⟩
  | 52 => ⟨S8x2048x11008, .f32⟩
  | 53 => ⟨S8x2048x11008, .f32⟩
  | 54 => ⟨S1x11008, .f32⟩
  | 55 => ⟨S11008, .f32⟩
  | 56 => ⟨S8x2048x11008, .f32⟩
  | 57 => ⟨S1x1x11008, .f32⟩
  | 58 => ⟨S8x2048x11008, .f32⟩
  | 59 => ⟨S8x2048x11008, .f32⟩
  | 60 => ⟨S8x2048x11008, .f32⟩
  | 61 => ⟨S1x1x11008, .f32⟩
  | 62 => ⟨S8x2048x11008, .f32⟩
  | 63 => ⟨S8x2048x11008, .f32⟩
  | 64 => ⟨S8x2048x5504, .f32⟩
  | 65 => ⟨S8x2048x5504, .f32⟩
  | 66 => ⟨S8x2048x5504, .f32⟩
  | 67 => ⟨S8x2048x5504, .f32⟩
  | 68 => ⟨S_, .f32⟩
  | 69 => ⟨S8x2048x5504, .f32⟩
  | 70 => ⟨S8x2048x5504, .f32⟩
  | 71 => ⟨S_, .f32⟩
  | 72 => ⟨S8x2048x5504, .f32⟩
  | 73 => ⟨S8x2048x5504, .f32⟩
  | 74 => ⟨S8x2048x5504, .f32⟩
  | 75 => ⟨S8x2048x5504, .f32⟩
  | 76 => ⟨S8x2048x2048, .f32⟩
  | 77 => ⟨S8x2048x2048, .f32⟩
  | 78 => ⟨S8x2048x2048, .f32⟩
  | 79 => ⟨S8x2048x2048, .f32⟩
  | 80 => ⟨S4096x2048, .f32⟩
  | 81 => ⟨S16x256x2048, .f32⟩
  | 82 => ⟨S2x1x2048, .f32⟩
  | 83 => ⟨S2x8x1x2048, .f32⟩
  | 84 => ⟨S16x1x2048, .f32⟩
  | 85 => ⟨S2x1x2048, .f32⟩
  | 86 => ⟨S2x8x1x2048, .f32⟩
  | 87 => ⟨S16x1x2048, .f32⟩
  | 88 => ⟨S2x1x2048, .f32⟩
  | 89 => ⟨S2x8x1x2048, .f32⟩
  | 90 => ⟨S16x1x2048, .f32⟩
  | 91 => ⟨S16x256x2048, .f32⟩
  | 92 => ⟨S_, .f32⟩
  | 93 => ⟨S16x256, .f32⟩
  | 94 => ⟨S16x256x1, .f32⟩
  | 95 => ⟨S_, .f32⟩
  | 96 => ⟨S16x256x1, .f32⟩
  | 97 => ⟨S16x256x1, .f32⟩
  | 98 => ⟨S_, .f32⟩
  | 99 => ⟨S16x256x1, .f32⟩
  | 100 => ⟨S16x256x1, .f32⟩
  | 101 => ⟨S16x256x1, .f32⟩
  | 102 => ⟨S16x256x2048, .f32⟩
  | 103 => ⟨S16x256x2048, .f32⟩
  | 104 => ⟨S1x1x2048, .f32⟩
  | 105 => ⟨S16x256x2048, .f32⟩
  | 106 => ⟨S16x256x2048, .f32⟩
  | 107 => ⟨S_, .f32⟩
  | 108 => ⟨S16x1x2048, .f32⟩
  | 109 => ⟨S16x1x2048, .f32⟩
  | 110 => ⟨S16x256x2048, .f32⟩
  | 111 => ⟨S16x256x2048, .f32⟩
  | 112 => ⟨S16x256x2048, .f32⟩
  | 113 => ⟨S16x256x2048, .f32⟩
  | 114 => ⟨S16x256x11008, .f32⟩
  | 115 => ⟨S_, .i32⟩
  | 116 => ⟨S_, .f32⟩
  | 117 => ⟨S16x258x11008, .f32⟩
  | 118 => ⟨S1x11008, .f32⟩
  | 119 => ⟨S11008, .f32⟩
  | 120 => ⟨S16x256x11008, .f32⟩
  | 121 => ⟨S1x1x11008, .f32⟩
  | 122 => ⟨S16x256x11008, .f32⟩
  | 123 => ⟨S16x256x11008, .f32⟩
  | 124 => ⟨S1x11008, .f32⟩
  | 125 => ⟨S11008, .f32⟩
  | 126 => ⟨S16x256x11008, .f32⟩
  | 127 => ⟨S1x1x11008, .f32⟩
  | _ => ⟨S20480x2048, .f32⟩

abbrev hbmTy0_1 (i : Nat) : BufTy := match i % 128 with
  | 0 => ⟨S16x256x11008, .f32⟩
  | 1 => ⟨S16x256x11008, .f32⟩
  | 2 => ⟨S16x256x11008, .f32⟩
  | 3 => ⟨S1x11008, .f32⟩
  | 4 => ⟨S11008, .f32⟩
  | 5 => ⟨S16x256x11008, .f32⟩
  | 6 => ⟨S1x1x11008, .f32⟩
  | 7 => ⟨S16x256x11008, .f32⟩
  | 8 => ⟨S16x256x11008, .f32⟩
  | 9 => ⟨S16x256x11008, .f32⟩
  | 10 => ⟨S1x1x11008, .f32⟩
  | 11 => ⟨S16x256x11008, .f32⟩
  | 12 => ⟨S16x256x11008, .f32⟩
  | 13 => ⟨S16x256x5504, .f32⟩
  | 14 => ⟨S16x256x5504, .f32⟩
  | 15 => ⟨S16x256x5504, .f32⟩
  | 16 => ⟨S16x256x5504, .f32⟩
  | 17 => ⟨S_, .f32⟩
  | 18 => ⟨S16x256x5504, .f32⟩
  | 19 => ⟨S16x256x5504, .f32⟩
  | 20 => ⟨S_, .f32⟩
  | 21 => ⟨S16x256x5504, .f32⟩
  | 22 => ⟨S16x256x5504, .f32⟩
  | 23 => ⟨S16x256x5504, .f32⟩
  | 24 => ⟨S16x256x5504, .f32⟩
  | 25 => ⟨S16x256x2048, .f32⟩
  | 26 => ⟨S16x256x2048, .f32⟩
  | 27 => ⟨S16x256x2048, .f32⟩
  | 28 => ⟨S16x256x2048, .f32⟩
  | 29 => ⟨S16384x2048, .f32⟩
  | 30 => ⟨S4096x2048, .f32⟩
  | 31 => ⟨S20480x2048, .f32⟩
  | _ => ⟨S20480x2048, .f32⟩

abbrev hbmTy (i : Nat) : BufTy := match i / 128 with
  | 0 => hbmTy0_0 i
  | 1 => hbmTy0_1 i
  | _ => ⟨S20480x2048, .f32⟩

abbrev bufTy : (tb : Table) → Fin (tcTables nBuf tb) → BufTy
  | .hbm, ⟨i, _⟩ => hbmTy i
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_3 : Ref sig .tc := ⟨.hbm, 92, rfl⟩
abbrev main_v69 : Ref sig .tc := ⟨.hbm, 93, rfl⟩
abbrev main_v70 : Ref sig .tc := ⟨.hbm, 94, rfl⟩
abbrev main_cst_4 : Ref sig .tc := ⟨.hbm, 95, rfl⟩
abbrev main_v71 : Ref sig .tc := ⟨.hbm, 96, rfl⟩
abbrev main_v72 : Ref sig .tc := ⟨.hbm, 97, rfl⟩
abbrev main_cst_5 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_6 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_7 : Ref sig .tc := ⟨.hbm, 115, rfl⟩
abbrev main_call2_v0 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_call3_v0 : Ref sig .tc := ⟨.hbm, 143, rfl⟩
abbrev main_call3_v1 : Ref sig .tc := ⟨.hbm, 144, rfl⟩
abbrev main_call3_cst : Ref sig .tc := ⟨.hbm, 145, rfl⟩
abbrev main_call3_v2 : Ref sig .tc := ⟨.hbm, 146, rfl⟩
abbrev main_call3_v3 : Ref sig .tc := ⟨.hbm, 147, rfl⟩
abbrev main_call3_cst_0 : Ref sig .tc := ⟨.hbm, 148, rfl⟩
abbrev main_call3_v4 : Ref sig .tc := ⟨.hbm, 149, rfl⟩
abbrev main_call3_v5 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩

abbrev nD : Nat := 1
abbrev τ : Topo := Topo.v7x

variable {F : FTy → Type} [FloatOps F]
-- ==== InProj.lean ====
abbrev S20480x2048 : Shape := ⟨2, ![20480, 2048]⟩
abbrev S2048 : Shape := ⟨1, ![2048]⟩
abbrev S16x1x2048 : Shape := ⟨3, ![16, 1, 2048]⟩
abbrev S2048x3840 : Shape := ⟨2, ![2048, 3840]⟩
abbrev S1x2048 : Shape := ⟨2, ![1, 2048]⟩
abbrev S20480x512 : Shape := ⟨2, ![20480, 512]⟩
abbrev S20480x1024 : Shape := ⟨2, ![20480, 1024]⟩
abbrev S20480x256 : Shape := ⟨2, ![20480, 256]⟩
abbrev S20480x1792 : Shape := ⟨2, ![20480, 1792]⟩
abbrev S512x2048 : Shape := ⟨2, ![512, 2048]⟩
abbrev S1x1x2048 : Shape := ⟨3, ![1, 1, 2048]⟩
abbrev S512x512 : Shape := ⟨2, ![512, 512]⟩
abbrev S512x1024 : Shape := ⟨2, ![512, 1024]⟩
abbrev S512x256 : Shape := ⟨2, ![512, 256]⟩
abbrev S512x1792 : Shape := ⟨2, ![512, 1792]⟩
abbrev S512 : Shape := ⟨1, ![512]⟩
abbrev S512x1 : Shape := ⟨2, ![512, 1]⟩
abbrev S2048x512 : Shape := ⟨2, ![2048, 512]⟩
abbrev S2048x1024 : Shape := ⟨2, ![2048, 1024]⟩
abbrev S2048x256 : Shape := ⟨2, ![2048, 256]⟩
abbrev S2048x1792 : Shape := ⟨2, ![2048, 1792]⟩

abbrev nBuf : Space → Nat
  | .hbm => 12
  | .vmem => 18
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16x1x2048, .f32⟩
  | .hbm, ⟨3, _⟩ => ⟨S16x1x2048, .f32⟩
  | .hbm, ⟨4, _⟩ => ⟨S2048x3840, .f32⟩
  | .hbm, ⟨5, _⟩ => ⟨S1x2048, .f32⟩
  | .hbm, ⟨6, _⟩ => ⟨S2048x3840, .bf16⟩
  | .hbm, ⟨7, _⟩ => ⟨S20480x512, .bf16⟩
  | .hbm, ⟨8, _⟩ => ⟨S20480x1024, .f32⟩
  | .hbm, ⟨9, _⟩ => ⟨S20480x256, .f32⟩
  | .hbm, ⟨10, _⟩ => ⟨S20480x256, .f32⟩
  | .hbm, ⟨11, _⟩ => ⟨S20480x1792, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3840, .bf16⟩
  | .local _ .vmem, ⟨8, _⟩ => ⟨S512x512, .bf16⟩
  | .local _ .vmem, ⟨9, _⟩ => ⟨S512x512, .bf16⟩
  | .local _ .vmem, ⟨10, _⟩ => ⟨S512x1024, .f32⟩
  | .local _ .vmem, ⟨11, _⟩ => ⟨S512x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1792, .f32⟩
  | .local _ .vmem, ⟨17, _⟩ => ⟨S512x1792, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3840 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1792 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S20480x2048 : Shape := ⟨2, ![20480, 2048]⟩
abbrev S2048 : Shape := ⟨1, ![2048]⟩
abbrev S16x1x2048 : Shape := ⟨3, ![16, 1, 2048]⟩
abbrev S2048x3840 : Shape := ⟨2, ![2048, 3840]⟩
abbrev S16384x2048 : Shape := ⟨2, ![16384, 2048]⟩
abbrev S8x2048x2048 : Shape := ⟨3, ![8, 2048, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x3840 : Shape := ⟨3, ![8, 2048, 3840]⟩
abbrev S4096x2048 : Shape := ⟨2, ![4096, 2048]⟩
abbrev S16x256x2048 : Shape := ⟨3, ![16, 256, 2048]⟩
abbrev S2x1x2048 : Shape := ⟨3, ![2, 1, 2048]⟩
abbrev S2x8x1x2048 : Shape := ⟨4, ![2, 8, 1, 2048]⟩
abbrev S16x256 : Shape := ⟨2, ![16, 256]⟩
abbrev S16x256x1 : Shape := ⟨3, ![16, 256, 1]⟩
abbrev S16x256x3840 : Shape := ⟨3, ![16, 256, 3840]⟩
abbrev S16384x3840 : Shape := ⟨2, ![16384, 3840]⟩
abbrev S4096x3840 : Shape := ⟨2, ![4096, 3840]⟩
abbrev S20480x3840 : Shape := ⟨2, ![20480, 3840]⟩
abbrev S20480x512 : Shape := ⟨2, ![20480, 512]⟩
abbrev S20480x1024 : Shape := ⟨2, ![20480, 1024]⟩
abbrev S20480x256 : Shape := ⟨2, ![20480, 256]⟩
abbrev S20480x1792 : Shape := ⟨2, ![20480, 1792]⟩

abbrev nBuf : Space → Nat
  | .hbm => 74
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16x1x2048, .f32⟩
  | .hbm, ⟨3, _⟩ => ⟨S16x1x2048, .f32⟩
  | .hbm, ⟨4, _⟩ => ⟨S2048x3840, .f32⟩
  | .hbm, ⟨5, _⟩ => ⟨S16384x2048, .f32⟩
  | .hbm, ⟨6, _⟩ => ⟨S8x2048x2048, .f32⟩
  | .hbm, ⟨7, _⟩ => ⟨S8x1x2048, .f32⟩
  | .hbm, ⟨8, _⟩ => ⟨S8x1x2048, .f32⟩
  | .hbm, ⟨9, _⟩ => ⟨S8x2048x2048, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x1x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x3840, .f32⟩
  | .hbm, ⟨33, _⟩ => ⟨S4096x2048, .f32⟩
  | .hbm, ⟨34, _⟩ => ⟨S16x256x2048, .f32⟩
  | .hbm, ⟨35, _⟩ => ⟨S2x1x2048, .f32⟩
  | .hbm, ⟨36, _⟩ => ⟨S2x8x1x2048, .f32⟩
  | .hbm, ⟨37, _⟩ => ⟨S16x1x2048, .f32⟩
  | .hbm, ⟨38, _⟩ => ⟨S2x1x2048, .f32⟩
  | .hbm, ⟨39, _⟩ => ⟨S2x8x1x2048, .f32⟩
  | .hbm, ⟨40, _⟩ => ⟨S16x1x2048, .f32⟩
  | .hbm, ⟨41, _⟩ => ⟨S16x256x2048, .f32⟩
  | .hbm, ⟨42, _⟩ => ⟨S_, .f32⟩
  | .hbm, ⟨43, _⟩ => ⟨S16x256, .f32⟩
  | .hbm, ⟨44, _⟩ => ⟨S16x256x1, .f32⟩
  | .hbm, ⟨45, _⟩ => ⟨S_, .f32⟩
  | .hbm, ⟨46, _⟩ => ⟨S16x256x1, .f32⟩
  | .hbm, ⟨47, _⟩ => ⟨S16x256x1, .f32⟩
  | .hbm, ⟨48, _⟩ => ⟨S_, .f32⟩
  | .hbm, ⟨49, _⟩ => ⟨S16x256x1, .f32⟩
  | .hbm, ⟨50, _⟩ => ⟨S16x256x1, .f32⟩
  | .hbm, ⟨51, _⟩ => ⟨S16x256x1, .f32⟩
  | .hbm, ⟨52, _⟩ => ⟨S16x256x2048, .f32⟩
  | .hbm, ⟨53, _⟩ => ⟨S16x256x2048, .f32⟩
  | .hbm, ⟨54, _⟩ => ⟨S1x1x2048, .f32⟩
  | .hbm, ⟨55, _⟩ => ⟨S16x256x2048, .f32⟩
  | .hbm, ⟨56, _⟩ => ⟨S16x256x2048, .f32⟩
  | .hbm, ⟨57, _⟩ => ⟨S_, .f32⟩
  | .hbm, ⟨58, _⟩ => ⟨S16x1x2048, .f32⟩
  | .hbm, ⟨59, _⟩ => ⟨S16x1x2048, .f32⟩
  | .hbm, ⟨60, _⟩ => ⟨S16x256x2048, .f32⟩
  | .hbm, ⟨61, _⟩ => ⟨S16x256x2048, .f32⟩
  | .hbm, ⟨62, _⟩ => ⟨S16x256x2048, .f32⟩
  | .hbm, ⟨63, _⟩ => ⟨S16x256x2048, .f32⟩
  | .hbm, ⟨64, _⟩ => ⟨S16x256x3840, .f32⟩
  | .hbm, ⟨65, _⟩ => ⟨S16384x3840, .f32⟩
  | .hbm, ⟨66, _⟩ => ⟨S4096x3840, .f32⟩
  | .hbm, ⟨67, _⟩ => ⟨S20480x3840, .f32⟩
  | .hbm, ⟨68, _⟩ => ⟨S20480x512, .f32⟩
  | .hbm, ⟨69, _⟩ => ⟨S20480x1024, .f32⟩
  | .hbm, ⟨70, _⟩ => ⟨S20480x256, .f32⟩
  | .hbm, ⟨71, _⟩ => ⟨S20480x256, .f32⟩
  | .hbm, ⟨72, _⟩ => ⟨S20480x1792, .f32⟩
  | .hbm, ⟨73, _⟩ => ⟨S20480x512, .bf16⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩

abbrev nD : Nat := 1
abbrev τ : Topo := Topo.v7x

variable {F : FTy → Type} [FloatOps F]
-- ==== OutProj.lean ====
abbrev S20480x512 : Shape := ⟨2, ![20480, 512]⟩
abbrev S20480x1024 : Shape := ⟨2, ![20480, 1024]⟩
abbrev S20480x2048 : Shape := ⟨2, ![20480, 2048]⟩
abbrev S16x1x2048 : Shape := ⟨3, ![16, 1, 2048]⟩
abbrev S2048x2048 : Shape := ⟨2, ![2048, 2048]⟩
abbrev S512x512 : Shape := ⟨2, ![512, 512]⟩
abbrev S512x1024 : Shape := ⟨2, ![512, 1024]⟩
abbrev S512x2048 : Shape := ⟨2, ![512, 2048]⟩
abbrev S1x1x2048 : Shape := ⟨3, ![1, 1, 2048]⟩
abbrev S1024x2048 : Shape := ⟨2, ![1024, 2048]⟩
abbrev S1x2048 : Shape := ⟨2, ![1, 2048]⟩

abbrev nBuf : Space → Nat
  | .hbm => 8
  | .vmem => 13
  | .smem => 0
  | _ => 0

abbrev bufTy : (tb : Table) → Fin (tcTables nBuf tb) → BufTy
  | .hbm, ⟨0, _⟩ => ⟨S20480x512, .bf16⟩
  | .hbm, ⟨1, _⟩ => ⟨S20480x1024, .bf16⟩
  | .hbm, ⟨2, _⟩ => ⟨S20480x512, .bf16⟩
  | .hbm, ⟨3, _⟩ => ⟨S20480x2048, .f32⟩
  | .hbm, ⟨4, _⟩ => ⟨S16x1x2048, .f32⟩
  | .hbm, ⟨5, _⟩ => ⟨S2048x2048, .f32⟩
  | .hbm, ⟨6, _⟩ => ⟨S2048x2048, .bf16⟩
  | .hbm, ⟨7, _⟩ => ⟨S20480x2048, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S20480x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S20480x512 : Shape := ⟨2, ![20480, 512]⟩
abbrev S20480x1024 : Shape := ⟨2, ![20480, 1024]⟩
abbrev S20480x2048 : Shape := ⟨2, ![20480, 2048]⟩
abbrev S16x1x2048 : Shape := ⟨3, ![16, 1, 2048]⟩
abbrev S2048x2048 : Shape := ⟨2, ![2048, 2048]⟩
abbrev S16384x2048 : Shape := ⟨2, ![16384, 2048]⟩
abbrev S8x2048x2048 : Shape := ⟨3, ![8, 2048, 2048]⟩
abbrev S8x1x2048 : Shape := ⟨3, ![8, 1, 2048]⟩
abbrev S4096x2048 : Shape := ⟨2, ![4096, 2048]⟩
abbrev S16x256x2048 : Shape := ⟨3, ![16, 256, 2048]⟩
abbrev S2x1x2048 : Shape := ⟨3, ![2, 1, 2048]⟩
abbrev S2x8x1x2048 : Shape := ⟨4, ![2, 8, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S20480x512, .bf16⟩
  | .hbm, ⟨1, _⟩ => ⟨S20480x1024, .bf16⟩
  | .hbm, ⟨2, _⟩ => ⟨S20480x512, .bf16⟩
  | .hbm, ⟨3, _⟩ => ⟨S20480x2048, .f32⟩
  | .hbm, ⟨4, _⟩ => ⟨S16x1x2048, .f32⟩
  | .hbm, ⟨5, _⟩ => ⟨S2048x2048, .f32⟩
  | .hbm, ⟨6, _⟩ => ⟨S20480x2048, .bf16⟩
  | .hbm, ⟨7, _⟩ => ⟨S20480x2048, .f32⟩
  | .hbm, ⟨8, _⟩ => ⟨S16384x2048, .f32⟩
  | .hbm, ⟨9, _⟩ => ⟨S8x2048x2048, .f32⟩
  | .hbm, ⟨10, _⟩ => ⟨S16384x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S4096x2048, .f32⟩
  | .hbm, ⟨18, _⟩ => ⟨S16x256x2048, .f32⟩
  | .hbm, ⟨19, _⟩ => ⟨S4096x2048, .f32⟩
  | .hbm, ⟨20, _⟩ => ⟨S16x256x2048, .f32⟩
  | .hbm, ⟨21, _⟩ => ⟨S2x1x2048, .f32⟩
  | .hbm, ⟨22, _⟩ => ⟨S2x8x1x2048, .f32⟩
  | .hbm, ⟨23, _⟩ => ⟨S16x1x2048, .f32⟩
  | .hbm, ⟨24, _⟩ => ⟨S16x256x2048, .f32⟩
  | .hbm, ⟨25, _⟩ => ⟨S16x256x2048, .f32⟩
  | .hbm, ⟨26, _⟩ => ⟨S16x256x2048, .f32⟩
  | .hbm, ⟨27, _⟩ => ⟨S16x256x2048, .f32⟩
  | .hbm, ⟨28, _⟩ => ⟨S16384x2048, .f32⟩
  | .hbm, ⟨29, _⟩ => ⟨S4096x2048, .f32⟩
  | .hbm, ⟨30, _⟩ => ⟨S20480x2048, .f32⟩
  | _, _ => ⟨S20480x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Qkv.lean ====
abbrev S20480x1024 : Shape := ⟨2, ![20480, 1024]⟩
abbrev S20480x256 : Shape := ⟨2, ![20480, 256]⟩
abbrev S128 : Shape := ⟨1, ![128]⟩
abbrev S1x128 : Shape := ⟨2, ![1, 128]⟩
abbrev S4096x1024 : Shape := ⟨2, ![4096, 1024]⟩
abbrev S4096x256 : Shape := ⟨2, ![4096, 256]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S20480x1024, .f32⟩
  | .hbm, ⟨1, _⟩ => ⟨S20480x256, .f32⟩
  | .hbm, ⟨2, _⟩ => ⟨S20480x256, .f32⟩
  | .hbm, ⟨3, _⟩ => ⟨S128, .f32⟩
  | .hbm, ⟨4, _⟩ => ⟨S128, .f32⟩
  | .hbm, ⟨5, _⟩ => ⟨S1x128, .f32⟩
  | .hbm, ⟨6, _⟩ => ⟨S1x128, .f32⟩
  | .hbm, ⟨7, _⟩ => ⟨S4096x1024, .bf16⟩
  | .hbm, ⟨8, _⟩ => ⟨S4096x256, .bf16⟩
  | .hbm, ⟨9, _⟩ => ⟨S4096x256, .bf16⟩
  | .hbm, ⟨10, _⟩ => ⟨S4096x256, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .f32⟩
  | .local _ .vmem, ⟨15, _⟩ => ⟨S256x256, .f32⟩
  | _, _ => ⟨S20480x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvRefIdeal.lean ====
abbrev S20480x1024 : Shape := ⟨2, ![20480, 1024]⟩
abbrev S20480x256 : Shape := ⟨2, ![20480, 256]⟩
abbrev S128 : Shape := ⟨1, ![128]⟩
abbrev S4096x1024 : Shape := ⟨2, ![4096, 1024]⟩
abbrev S16x256x8x128 : Shape := ⟨4, ![16, 256, 8, 128]⟩
abbrev S_ : Shape := ⟨0, ![]⟩
abbrev S16x256x8 : Shape := ⟨3, ![16, 256, 8]⟩
abbrev S16x256x8x1 : Shape := ⟨4, ![16, 256, 8, 1]⟩
abbrev S1x1x1x128 : Shape := ⟨4, ![1, 1, 1, 128]⟩
abbrev S4096x256 : Shape := ⟨2, ![4096, 256]⟩
abbrev S16x256x2x128 : Shape := ⟨4, ![16, 256, 2, 128]⟩
abbrev S16x256x2 : Shape := ⟨3, ![16, 256, 2]⟩
abbrev S16x256x2x1 : Shape := ⟨4, ![16, 256, 2, 1]⟩

abbrev nBuf : Space → Nat
  | .hbm => 51
  | .vmem => 0
  | .smem => 0
  | _ => 0

abbrev bufTy : (tb : Table) → Fin (tcTables nBuf tb) → BufTy
  | .hbm, ⟨0, _⟩ => ⟨S20480x1024, .f32⟩
  | .hbm, ⟨1, _⟩ => ⟨S20480x256, .f32⟩
  | .hbm, ⟨2, _⟩ => ⟨S20480x256, .f32⟩
  | .hbm, ⟨3, _⟩ => ⟨S128, .f32⟩
  | .hbm, ⟨4, _⟩ => ⟨S128, .f32⟩
  | .hbm, ⟨5, _⟩ => ⟨S4096x1024, .f32⟩
  | .hbm, ⟨6, _⟩ => ⟨S16x256x8x128, .f32⟩
  | .hbm, ⟨7, _⟩ => ⟨S16x256x8x128, .f32⟩
  | .hbm, ⟨8, _⟩ => ⟨S_, .f32⟩
  | .hbm, ⟨9, _⟩ => ⟨S16x256x8, .f32⟩
  | .hbm, ⟨10, _⟩ => ⟨S16x256x8x1, .f32⟩
  | .hbm, ⟨11, _⟩ => ⟨S_, .f32⟩
  | .hbm, ⟨12, _⟩ => ⟨S16x256x8x1, .f32⟩
  | .hbm, ⟨13, _⟩ => ⟨S16x256x8x1, .f32⟩
  | .hbm, ⟨14, _⟩ => ⟨S_, .f32⟩
  | .hbm, ⟨15, _⟩ => ⟨S16x256x8x1, .f32⟩
  | .hbm, ⟨16, _⟩ => ⟨S16x256x8x1, .f32⟩
  | .hbm, ⟨17, _⟩ => ⟨S16x256x8x1, .f32⟩
  | .hbm, ⟨18, _⟩ => ⟨S16x256x8x128, .f32⟩
  | .hbm, ⟨19, _⟩ => ⟨S16x256x8x128, .f32⟩
  | .hbm, ⟨20, _⟩ => ⟨S1x1x1x128, .f32⟩
  | .hbm, ⟨21, _⟩ => ⟨S16x256x8x128, .f32⟩
  | .hbm, ⟨22, _⟩ => ⟨S16x256x8x128, .f32⟩
  | .hbm, ⟨23, _⟩ => ⟨S_, .f32⟩
  | .hbm, ⟨24, _⟩ => ⟨S16x256x8x128, .f32⟩
  | .hbm, ⟨25, _⟩ => ⟨S16x256x8x128, .f32⟩
  | .hbm, ⟨26, _⟩ => ⟨S4096x256, .f32⟩
  | .hbm, ⟨27, _⟩ => ⟨S16x256x2x128, .f32⟩
  | .hbm, ⟨28, _⟩ => ⟨S16x256x2x128, .f32⟩
  | .hbm, ⟨29, _⟩ => ⟨S_, .f32⟩
  | .hbm, ⟨30, _⟩ => ⟨S16x256x2, .f32⟩
  | .hbm, ⟨31, _⟩ => ⟨S16x256x2x1, .f32⟩
  | .hbm, ⟨32, _⟩ => ⟨S_, .f32⟩
  | .hbm, ⟨33, _⟩ => ⟨S16x256x2x1, .f32⟩
  | .hbm, ⟨34, _⟩ => ⟨S16x256x2x1, .f32⟩
  | .hbm, ⟨35, _⟩ => ⟨S_, .f32⟩
  | .hbm, ⟨36, _⟩ => ⟨S16x256x2x1, .f32⟩
  | .hbm, ⟨37, _⟩ => ⟨S16x256x2x1, .f32⟩
  | .hbm, ⟨38, _⟩ => ⟨S16x256x2x1, .f32⟩
  | .hbm, ⟨39, _⟩ => ⟨S16x256x2x128, .f32⟩
  | .hbm, ⟨40, _⟩ => ⟨S16x256x2x128, .f32⟩
  | .hbm, ⟨41, _⟩ => ⟨S1x1x1x128, .f32⟩
  | .hbm, ⟨42, _⟩ => ⟨S16x256x2x128, .f32⟩
  | .hbm, ⟨43, _⟩ => ⟨S16x256x2x128, .f32⟩
  | .hbm, ⟨44, _⟩ => ⟨S4096x256, .f32⟩
  | .hbm, ⟨45, _⟩ => ⟨S4096x1024, .f32⟩
  | .hbm, ⟨46, _⟩ => ⟨S4096x1024, .bf16⟩
  | .hbm, ⟨47, _⟩ => ⟨S4096x256, .f32⟩
  | .hbm, ⟨48, _⟩ => ⟨S4096x256, .bf16⟩
  | .hbm, ⟨49, _⟩ => ⟨S4096x256, .bf16⟩
  | .hbm, ⟨50, _⟩ => ⟨S4096x256, .f32⟩
  | _, _ => ⟨S20480x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== LastSample.lean ====
abbrev S20480x2048 : Shape := ⟨2, ![20480, 2048]⟩
abbrev S2048 : Shape := ⟨1, ![2048]⟩
abbrev S1x2048 : Shape := ⟨2, ![1, 2048]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastSampleRefIdeal.lean ====
abbrev S20480x2048 : Shape := ⟨2, ![20480, 2048]⟩
abbrev S2048 : Shape := ⟨1, ![2048]⟩
abbrev S16384x2048 : Shape := ⟨2, ![16384, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S16384x2048, .f32⟩
  | .hbm, ⟨3, _⟩ => ⟨S8x2048x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S16384x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== LastPrompt.lean ====
abbrev S20480x2048 : Shape := ⟨2, ![20480, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LastPromptRefIdeal.lean ====
abbrev S20480x2048 : Shape := ⟨2, ![20480, 2048]⟩
abbrev S2048 : Shape := ⟨1, ![2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S2048, .f32⟩
  | .hbm, ⟨2, _⟩ => ⟨S4096x2048, .f32⟩
  | .hbm, ⟨3, _⟩ => ⟨S16x256x2048, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | .hbm, ⟨20, _⟩ => ⟨S4096x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Scan.lean ====
abbrev S20480x512 : Shape := ⟨2, ![20480, 512]⟩
abbrev S2x20480x512 : Shape := ⟨3, ![2, 20480, 512]⟩
abbrev S16x2x8x64x64 : Shape := ⟨5, ![16, 2, 8, 64, 64]⟩
abbrev S2x4096x512 : Shape := ⟨3, ![2, 4096, 512]⟩
abbrev S64x512 : Shape := ⟨2, ![64, 512]⟩
abbrev S1x64x512 : Shape := ⟨3, ![1, 64, 512]⟩
abbrev S1x1x8x64x64 : Shape := ⟨5, ![1, 1, 8, 64, 64]⟩
abbrev S8x64x64 : Shape := ⟨3, ![8, 64, 64]⟩
abbrev S64x64 : Shape := ⟨2, ![64, 64]⟩
abbrev S512 : Shape := ⟨1, ![512]⟩
abbrev S1x512 : Shape := ⟨2, ![1, 512]⟩
abbrev S1x64x64 : Shape := ⟨3, ![1, 64, 64]⟩
abbrev S1x64 : Shape := ⟨2, ![1, 64]⟩

abbrev nBuf : Space → Nat
  | .hbm => 9
  | .vmem => 19
  | .smem => 0
  | _ => 0

abbrev bufTy : (tb : Table) → Fin (tcTables nBuf tb) → BufTy
  | .hbm, ⟨0, _⟩ => ⟨S20480x512, .f32⟩
  | .hbm, ⟨1, _⟩ => ⟨S20480x512, .f32⟩
  | .hbm, ⟨2, _⟩ => ⟨S20480x512, .f32⟩
  | .hbm, ⟨3, _⟩ => ⟨S2x20480x512, .f32⟩
  | .hbm, ⟨4, _⟩ => ⟨S2x20480x512, .f32⟩
  | .hbm, ⟨5, _⟩ => ⟨S2x20480x512, .f32⟩
  | .hbm, ⟨6, _⟩ => ⟨S16x2x8x64x64, .f32⟩
  | .hbm, ⟨7, _⟩ => ⟨S2x4096x512, .f32⟩
  | .hbm, ⟨8, _⟩ => ⟨S16x2x8x64x64, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | .local _ .vmem, ⟨9, _⟩ => ⟨S1x64x512, .f32⟩
  | .local _ .vmem, ⟨10, _⟩ => ⟨S1x64x512, .f32⟩
  | .local _ .vmem, ⟨11, _⟩ => ⟨S1x64x512, .f32⟩
  | .local _ .vmem, ⟨12, _⟩ => ⟨S1x1x8x64x64, .f32⟩
  | .local _ .vmem, ⟨13, _⟩ => ⟨S1x1x8x64x64, .f32⟩
  | .local _ .vmem, ⟨14, _⟩ => ⟨S1x64x512, .f32⟩
  | .local _ .vmem, ⟨15, _⟩ => ⟨S1x64x512, .f32⟩
  | .local _ .vmem, ⟨16, _⟩ => ⟨S1x1x8x64x64, .f32⟩
  | .local _ .vmem, ⟨17, _⟩ => ⟨S1x1x8x64x64, .f32⟩
  | .local _ .vmem, ⟨18, _⟩ => ⟨S8x64x64, .f32⟩
  | _, _ => ⟨S20480x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 4], ![false, false, false]⟩

def k0_cond2 (i : grid0.Coords) : BitVec 1 :=
  let arg2 : BitVec 32 := BitVec.ofNat 32 (i 2).val
  let c3_i32 : BitVec 32 := 3#32
  let v1705 : BitVec 1 := Scalar.cmpi .eq arg2 c3_i32
  let v1706 : BitVec 32 := Scalar.extui v1705
  let c0_i32_469 : BitVec 32 := 0#32
  let v1707 : BitVec 1 := Scalar.cmpi .ne v1706 c0_i32_469
  v1707

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![v6.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![v6.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![v6.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![arg1.toNat, v6.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![arg1.toNat, v6.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c256_i32 : BitVec 32 := 256#32
  let v1 : BitVec 32 := Scalar.addi c256_i32 v0
  let c2_i32 : BitVec 32 := 2#32
  let v2 : BitVec 32 := Scalar.muli c2_i32 arg2
  let c3_i32 : BitVec 32 := 3#32
  let v3 : BitVec 32 := Scalar.subi c3_i32 v2
  let v4 : BitVec 32 := Scalar.muli arg1 v3
  let v5 : BitVec 32 := Scalar.addi arg2 v4
  let v6 : BitVec 32 := Scalar.addi v1 v5
  let c0_i32 : BitVec 32 := 0#32
  let c0_i32_0 : BitVec 32 := 0#32
  ![arg1.toNat, v6.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c2_i32 : BitVec 32 := 2#32
  let v1 : BitVec 32 := Scalar.muli c2_i32 arg2
  let c3_i32 : BitVec 32 := 3#32
  let v2 : BitVec 32 := Scalar.subi c3_i32 v1
  let v3 : BitVec 32 := Scalar.muli arg1 v2
  let v4 : BitVec 32 := Scalar.addi arg2 v3
  let v5 : BitVec 32 := Scalar.addi v0 v4
  let c0_i32 : BitVec 32 := 0#32
  let c0_i32_0 : BitVec 32 := 0#32
  ![arg1.toNat, v5.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ScanRefIdeal.lean ====
abbrev S20480x512 : Shape := ⟨2, ![20480, 512]⟩
abbrev S2x20480x512 : Shape := ⟨3, ![2, 20480, 512]⟩
abbrev S16x2x8x64x64 : Shape := ⟨5, ![16, 2, 8, 64, 64]⟩
abbrev S2x4096x512 : Shape := ⟨3, ![2, 4096, 512]⟩
abbrev S2x16x256x8x64 : Shape := ⟨5, ![2, 16, 256, 8, 64]⟩
abbrev S1x16x256x8x64 : Shape := ⟨5, ![1, 16, 256, 8, 64]⟩
abbrev S16x256x8x64 : Shape := ⟨4, ![16, 256, 8, 64]⟩
abbrev S4096x512 : Shape := ⟨2, ![4096, 512]⟩
abbrev S256x16x2x8x64 : Shape := ⟨5, ![256, 16, 2, 8, 64]⟩
abbrev S_ : Shape := ⟨0, ![]⟩
abbrev S1x16x2x8x64 : Shape := ⟨5, ![1, 16, 2, 8, 64]⟩
abbrev S16x2x8x64 : Shape := ⟨4, ![16, 2, 8, 64]⟩
abbrev S16x2x8x1x64 : Shape := ⟨5, ![16, 2, 8, 1, 64]⟩
abbrev S16x2x8x64x1 : Shape := ⟨5, ![16, 2, 8, 64, 1]⟩

abbrev nBuf : Space → Nat
  | .hbm => 157
  | .vmem => 0
  | .smem => 0
  | _ => 0

abbrev hbmTy0_0 (i : Nat) : BufTy := match i % 128 with
  | 0 => ⟨S20480x512, .f32⟩
  | 1 => ⟨S20480x512, .f32⟩
  | 2 => ⟨S20480x512, .f32⟩
  | 3 => ⟨S2x20480x512, .f32⟩
  | 4 => ⟨S2x20480x512, .f32⟩
  | 5 => ⟨S2x20480x512, .f32⟩
  | 6 => ⟨S16x2x8x64x64, .f32⟩
  | 7 => ⟨S2x20480x512, .f32⟩
  | 8 => ⟨S2x4096x512, .f32⟩
  | 9 => ⟨S2x16x256x8x64, .f32⟩
  | 10 => ⟨S1x16x256x8x64, .f32⟩
  | 11 => ⟨S16x256x8x64, .f32⟩
  | 12 => ⟨S2x4096x512, .f32⟩
  | 13 => ⟨S2x16x256x8x64, .f32⟩
  | 14 => ⟨S1x16x256x8x64, .f32⟩
  | 15 => ⟨S1x16x256x8x64, .f32⟩
  | 16 => ⟨S16x256x8x64, .f32⟩
  | 17 => ⟨S1x16x256x8x64, .f32⟩
  | 18 => ⟨S1x16x256x8x64, .f32⟩
  | 19 => ⟨S2x16x256x8x64, .f32⟩
  | 20 => ⟨S2x4096x512, .f32⟩
  | 21 => ⟨S2x16x256x8x64, .f32⟩
  | 22 => ⟨S1x16x256x8x64, .f32⟩
  | 23 => ⟨S16x256x8x64, .f32⟩
  | 24 => ⟨S2x4096x512, .f32⟩
  | 25 => ⟨S2x16x256x8x64, .f32⟩
  | 26 => ⟨S1x16x256x8x64, .f32⟩
  | 27 => ⟨S1x16x256x8x64, .f32⟩
  | 28 => ⟨S16x256x8x64, .f32⟩
  | 29 => ⟨S1x16x256x8x64, .f32⟩
  | 30 => ⟨S1x16x256x8x64, .f32⟩
  | 31 => ⟨S2x16x256x8x64, .f32⟩
  | 32 => ⟨S4096x512, .f32⟩
  | 33 => ⟨S16x256x8x64, .f32⟩
  | 34 => ⟨S4096x512, .f32⟩
  | 35 => ⟨S16x256x8x64, .f32⟩
  | 36 => ⟨S16x256x8x64, .f32⟩
  | 37 => ⟨S1x16x256x8x64, .f32⟩
  | 38 => ⟨S1x16x256x8x64, .f32⟩
  | 39 => ⟨S2x16x256x8x64, .f32⟩
  | 40 => ⟨S4096x512, .f32⟩
  | 41 => ⟨S16x256x8x64, .f32⟩
  | 42 => ⟨S4096x512, .f32⟩
  | 43 => ⟨S16x256x8x64, .f32⟩
  | 44 => ⟨S16x256x8x64, .f32⟩
  | 45 => ⟨S1x16x256x8x64, .f32⟩
  | 46 => ⟨S1x16x256x8x64, .f32⟩
  | 47 => ⟨S2x16x256x8x64, .f32⟩
  | 48 => ⟨S2x4096x512, .f32⟩
  | 49 => ⟨S2x16x256x8x64, .f32⟩
  | 50 => ⟨S1x16x256x8x64, .f32⟩
  | 51 => ⟨S16x256x8x64, .f32⟩
  | 52 => ⟨S2x4096x512, .f32⟩
  | 53 => ⟨S2x16x256x8x64, .f32⟩
  | 54 => ⟨S1x16x256x8x64, .f32⟩
  | 55 => ⟨S1x16x256x8x64, .f32⟩
  | 56 => ⟨S16x256x8x64, .f32⟩
  | 57 => ⟨S1x16x256x8x64, .f32⟩
  | 58 => ⟨S1x16x256x8x64, .f32⟩
  | 59 => ⟨S2x16x256x8x64, .f32⟩
  | 60 => ⟨S256x16x2x8x64, .f32⟩
  | 61 => ⟨S256x16x2x8x64, .f32⟩
  | 62 => ⟨S256x16x2x8x64, .f32⟩
  | 63 => ⟨S256x16x2x8x64, .f32⟩
  | 64 => ⟨S256x16x2x8x64, .f32⟩
  | 65 => ⟨S_, .i32⟩
  | 66 => ⟨S_, .i32⟩
  | 67 => ⟨S256x16x2x8x64, .f32⟩
  | 68 => ⟨S256x16x2x8x64, .f32⟩
  | 69 => ⟨S256x16x2x8x64, .f32⟩
  | 70 => ⟨S256x16x2x8x64, .f32⟩
  | 71 => ⟨S256x16x2x8x64, .f32⟩
  | 72 => ⟨S_, .i32⟩
  | 73 => ⟨S_, .i32⟩
  | 74 => ⟨S16x2x8x64x64, .f32⟩
  | 75 => ⟨S_, .i32⟩
  | 76 => ⟨S_, .i1⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S1x16x2x8x64, .f32⟩
  | 90 => ⟨S16x2x8x64, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S1x16x2x8x64, .f32⟩
  | 102 => ⟨S16x2x8x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S1x16x2x8x64, .f32⟩
  | 114 => ⟨S16x2x8x64, .f32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1x16x2x8x64, .f32⟩
  | 126 => ⟨S16x2x8x64, .f32⟩
  | 127 => ⟨S_, .i32⟩
  | _ => ⟨S20480x512, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S1x16x2x8x64, .f32⟩
  | 10 => ⟨S16x2x8x64, .f32⟩
  | 11 => ⟨S16x2x8x64, .f32⟩
  | 12 => ⟨S16x2x8x1x64, .f32⟩
  | 13 => ⟨S16x2x8x64x64, .f32⟩
  | 14 => ⟨S16x2x8x64x64, .f32⟩
  | 15 => ⟨S16x2x8x64x1, .f32⟩
  | 16 => ⟨S16x2x8x1x64, .f32⟩
  | 17 => ⟨S16x2x8x64x64, .f32⟩
  | 18 => ⟨S16x2x8x64x64, .f32⟩
  | 19 => ⟨S16x2x8x64x64, .f32⟩
  | 20 => ⟨S16x2x8x64x64, .f32⟩
  | 21 => ⟨S16x2x8x64x1, .f32⟩
  | 22 => ⟨S16x2x8x1x64, .f32⟩
  | 23 => ⟨S16x2x8x64x64, .f32⟩
  | 24 => ⟨S16x2x8x64x64, .f32⟩
  | 25 => ⟨S16x2x8x64x64, .f32⟩
  | 26 => ⟨S16x2x8x64x64, .f32⟩
  | 27 => ⟨S_, .i32⟩
  | 28 => ⟨S_, .i32⟩
  | _ => ⟨S20480x512, .f32⟩

abbrev hbmTy (i : Nat) : BufTy := match i / 128 with
  | 0 => hbmTy0_0 i
  | 1 => hbmTy0_1 i
  | _ => ⟨S20480x512, .f32⟩

abbrev bufTy : (tb : Table) → Fin (tcTables nBuf tb) → BufTy
  | .hbm, ⟨i, _⟩ => hbmTy i
  | _, _ => ⟨S20480x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_c : Ref sig .tc := ⟨.hbm, 65, rfl⟩
abbrev main_c_0 : Ref sig .tc := ⟨.hbm, 66, rfl⟩
abbrev main_v58_0 : Ref sig .tc := ⟨.hbm, 67, rfl⟩
abbrev main_v58_1 : Ref sig .tc := ⟨.hbm, 68, rfl⟩
abbrev main_v58_2 : Ref sig .tc := ⟨.hbm, 69, rfl⟩
abbrev main_v58_3 : Ref sig .tc := ⟨.hbm, 70, rfl⟩
abbrev main_v58_4 : Ref sig .tc := ⟨.hbm, 71, rfl⟩
abbrev main_v58_5 : Ref sig .tc := ⟨.hbm, 72, rfl⟩
abbrev main_v58_6 : Ref sig .tc := ⟨.hbm, 73, rfl⟩
abbrev main_v58_7 : Ref sig .tc := ⟨.hbm, 74, rfl⟩
abbrev main_while0c_c_8 : Ref sig .tc := ⟨.hbm, 75, rfl⟩
abbrev main_while0c_v59 : Ref sig .tc := ⟨.hbm, 76, rfl⟩
abbrev main_while0b_c_8 : Ref sig .tc := ⟨.hbm, 77, rfl⟩
abbrev main_while0b_v59 : Ref sig .tc := ⟨.hbm, 78, rfl⟩
abbrev main_while0b_call0_c : Ref sig .tc := ⟨.hbm, 79, rfl⟩
abbrev main_while0b_call0_v0 : Ref sig .tc := ⟨.hbm, 80, rfl⟩
abbrev main_while0b_call0_v1 : Ref sig .tc := ⟨.hbm, 81, rfl⟩
abbrev main_while0b_call0_c_0 : Ref sig .tc := ⟨.hbm, 82, rfl⟩
abbrev main_while0b_call0_v2 : Ref sig .tc := ⟨.hbm, 83, rfl⟩
abbrev main_while0b_call0_v3 : Ref sig .tc := ⟨.hbm, 84, rfl⟩
abbrev main_while0b_call0_c_1 : Ref sig .tc := ⟨.hbm, 85, rfl⟩
abbrev main_while0b_call0_c_2 : Ref sig .tc := ⟨.hbm, 86, rfl⟩
abbrev main_while0b_call0_c_3 : Ref sig .tc := ⟨.hbm, 87, rfl⟩
abbrev main_while0b_call0_c_4 : Ref sig .tc := ⟨.hbm, 88, rfl⟩
abbrev main_while0b_call0_v4 : Ref sig .tc := ⟨.hbm, 89, rfl⟩
abbrev main_while0b_v60 : Ref sig .tc := ⟨.hbm, 90, rfl⟩
abbrev main_while0b_call1_c : Ref sig .tc := ⟨.hbm, 91, rfl⟩
abbrev main_while0b_call1_v0 : Ref sig .tc := ⟨.hbm, 92, rfl⟩
abbrev main_while0b_call1_v1 : Ref sig .tc := ⟨.hbm, 93, rfl⟩
abbrev main_while0b_call1_c_0 : Ref sig .tc := ⟨.hbm, 94, rfl⟩
abbrev main_while0b_call1_v2 : Ref sig .tc := ⟨.hbm, 95, rfl⟩
abbrev main_while0b_call1_v3 : Ref sig .tc := ⟨.hbm, 96, rfl⟩
abbrev main_while0b_call1_c_1 : Ref sig .tc := ⟨.hbm, 97, rfl⟩
abbrev main_while0b_call1_c_2 : Ref sig .tc := ⟨.hbm, 98, rfl⟩
abbrev main_while0b_call1_c_3 : Ref sig .tc := ⟨.hbm, 99, rfl⟩
abbrev main_while0b_call1_c_4 : Ref sig .tc := ⟨.hbm, 100, rfl⟩
abbrev main_while0b_call1_v4 : Ref sig .tc := ⟨.hbm, 101, rfl⟩
abbrev main_while0b_v61 : Ref sig .tc := ⟨.hbm, 102, rfl⟩
abbrev main_while0b_call2_c : Ref sig .tc := ⟨.hbm, 103, rfl⟩
abbrev main_while0b_call2_v0 : Ref sig .tc := ⟨.hbm, 104, rfl⟩
abbrev main_while0b_call2_v1 : Ref sig .tc := ⟨.hbm, 105, rfl⟩
abbrev main_while0b_call2_c_0 : Ref sig .tc := ⟨.hbm, 106, rfl⟩
abbrev main_while0b_call2_v2 : Ref sig .tc := ⟨.hbm, 107, rfl⟩
abbrev main_while0b_call2_v3 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_c_3 : Ref sig .tc := ⟨.hbm, 111, rfl⟩
abbrev main_while0b_call2_c_4 : Ref sig .tc := ⟨.hbm, 112, rfl⟩
abbrev main_while0b_call2_v4 : Ref sig .tc := ⟨.hbm, 113, rfl⟩
abbrev main_while0b_v62 : Ref sig .tc := ⟨.hbm, 114, rfl⟩
abbrev main_while0b_call3_c : Ref sig .tc := ⟨.hbm, 115, rfl⟩
abbrev main_while0b_call3_v0 : Ref sig .tc := ⟨.hbm, 116, rfl⟩
abbrev main_while0b_call3_v1 : Ref sig .tc := ⟨.hbm, 117, rfl⟩
abbrev main_while0b_call3_c_0 : Ref sig .tc := ⟨.hbm, 118, rfl⟩
abbrev main_while0b_call3_v2 : Ref sig .tc := ⟨.hbm, 119, rfl⟩
abbrev main_while0b_call3_v3 : Ref sig .tc := ⟨.hbm, 120, rfl⟩
abbrev main_while0b_call3_c_1 : Ref sig .tc := ⟨.hbm, 121, rfl⟩
abbrev main_while0b_call3_c_2 : Ref sig .tc := ⟨.hbm, 122, rfl⟩
abbrev main_while0b_call3_c_3 : Ref sig .tc := ⟨.hbm, 123, rfl⟩
abbrev main_while0b_call3_c_4 : Ref sig .tc := ⟨.hbm, 124, rfl⟩
abbrev main_while0b_call3_v4 : Ref sig .tc := ⟨.hbm, 125, rfl⟩
abbrev main_while0b_v63 : Ref sig .tc := ⟨.hbm, 126, rfl⟩
abbrev main_while0b_call4_c : Ref sig .tc := ⟨.hbm, 127, rfl⟩
abbrev main_while0b_call4_v0 : Ref sig .tc := ⟨.hbm, 128, rfl⟩
abbrev main_while0b_call4_v1 : Ref sig .tc := ⟨.hbm, 129, rfl⟩
abbrev main_while0b_call4_c_0 : Ref sig .tc := ⟨.hbm, 130, rfl⟩
abbrev main_while0b_call4_v2 : Ref sig .tc := ⟨.hbm, 131, rfl⟩
abbrev main_while0b_call4_v3 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_call4_c_3 : Ref sig .tc := ⟨.hbm, 135, rfl⟩
abbrev main_while0b_call4_c_4 : Ref sig .tc := ⟨.hbm, 136, rfl⟩
abbrev main_while0b_call4_v4 : Ref sig .tc := ⟨.hbm, 137, rfl⟩
abbrev main_while0b_v64 : Ref sig .tc := ⟨.hbm, 138, rfl⟩
abbrev main_while0b_v65 : Ref sig .tc := ⟨.hbm, 139, rfl⟩
abbrev main_while0b_v66 : Ref sig .tc := ⟨.hbm, 140, rfl⟩
abbrev main_while0b_v67 : Ref sig .tc := ⟨.hbm, 141, rfl⟩
abbrev main_while0b_v68 : Ref sig .tc := ⟨.hbm, 142, rfl⟩
abbrev main_while0b_v69 : Ref sig .tc := ⟨.hbm, 143, rfl⟩
abbrev main_while0b_v70 : Ref sig .tc := ⟨.hbm, 144, rfl⟩
abbrev main_while0b_v71 : Ref sig .tc := ⟨.hbm, 145, rfl⟩
abbrev main_while0b_v72 : Ref sig .tc := ⟨.hbm, 146, rfl⟩
abbrev main_while0b_v73 : Ref sig .tc := ⟨.hbm, 147, rfl⟩
abbrev main_while0b_v74 : Ref sig .tc := ⟨.hbm, 148, rfl⟩
abbrev main_while0b_v75 : Ref sig .tc := ⟨.hbm, 149, rfl⟩
abbrev main_while0b_v76 : Ref sig .tc := ⟨.hbm, 150, rfl⟩
abbrev main_while0b_v77 : Ref sig .tc := ⟨.hbm, 151, rfl⟩
abbrev main_while0b_v78 : Ref sig .tc := ⟨.hbm, 152, rfl⟩
abbrev main_while0b_v79 : Ref sig .tc := ⟨.hbm, 153, rfl⟩
abbrev main_while0b_v80 : Ref sig .tc := ⟨.hbm, 154, rfl⟩
abbrev main_while0b_c_9 : Ref sig .tc := ⟨.hbm, 155, rfl⟩
abbrev main_while0b_v81 : Ref sig .tc := ⟨.hbm, 156, rfl⟩

abbrev nD : Nat := 1
abbrev τ : Topo := Topo.v7x

variable {F : FTy → Type} [FloatOps F]

abbrev main_while0_count : Scf.Loop 32 := ⟨0#32, 256#32, 1#32⟩
-- ==== Proof.Attn.Precondition.lean ====
/-
  THE PRECONDITION, read: the queries, the keys and the cached keys are real numbers.
-/
module

public import proofs.«01_k».proof.Defs
public import proofs.«01_k».proof.Proof.Gen.AttnIdeal
public import proofs.«01_k».proof.Proof.Gen.Pre_finite_keys
public import Idealize.ShloMosaic.PureOps.Ideal.Laws
public import Idealize.ShloMosaic.Lib.Pointwise

@[expose] public section

noncomputable section

namespace Cert.Attention

open Idealize.ShloMosaic Idealize.ShloMosaic.TcCoe Idealize.SL.Sem Cert.AttnIdeal

/-- A number whose absolute value is below `⊤` is real. -/
theorem real_of_abs_lt (x : EReal) (h : max x (-x) < ⊤) : ∃ r : ℝ, x = r := by
  induction x with
  | bot => simp at h
  | coe r => exact ⟨r, rfl⟩
  | top => simp at h

theorem real_of_below_top {φ : FTy} (x : Ideal φ) (b : BitVec φ.bits) (hb : Ideal.ofBits φ b = ⊤)
    (h : FloatOps.cmpf (F := Ideal) .olt (FloatOps.hostAbsf x) (FloatOps.ofBits φ b) = 1#1) : ∃ r : ℝ, x = (r : EReal) := by
  refine real_of_abs_lt x ?_
  by_contra hc
  have e : FloatOps.cmpf (F := Ideal) .olt (FloatOps.hostAbsf x) (FloatOps.ofBits φ b) = Ideal.cmp .olt (max x (-x)) (Ideal.ofBits φ b) := rfl
  rw [e, hb] at h
  simp [Ideal.cmp, hc] at h

theorem top16 : Ideal.ofBits .bf16 0x7F80#16 = ⊤ := by simp [Ideal.ofBits, Ideal.ieee]
theorem top32 : Ideal.ofBits .f32 0x7F800000#32 = ⊤ := by simp [Ideal.ofBits, Ideal.ieee]

variable (m : (ℓ : Loc nD τ sig) → Buf (Elt Ideal) ℓ)

theorem query_real (h : Pre_AttnIdeal_finite_keys m) (c : Dev nD) (i : S16384x1024.Idx) :
    ∃ r : ℝ, m ((c : Thread nD τ).loc main_arg0) i = (r : EReal) := by
  have e := congrFun (h c).1 i
  simp only [Cert.Pre_finite_keys.fn, cmpf, Host.absf, broadcastInDim, constant] at e
  exact real_of_below_top _ _ top16 e

theorem key_real (h : Pre_AttnIdeal_finite_keys m) (c : Dev nD) (i : S16384x256.Idx) :
    ∃ r : ℝ, m ((c : Thread nD τ).loc main_arg1) i = (r : EReal) := by
  have e := congrFun (h c).2.1 i
  simp only [Cert.Pre_finite_keys.fn, cmpf, Host.absf, broadcastInDim, constant] at e
  exact real_of_below_top _ _ top16 e

theorem cached_real (h : Pre_AttnIdeal_finite_keys m) (c : Dev nD) (i : S8x512x2x128.Idx) :
    ∃ r : ℝ, m ((c : Thread nD τ).loc main_arg3) i = (r : EReal) := by
  have e := congrFun (h c).2.2 i
  simp only [Cert.Pre_finite_keys.fn, cmpf, Host.absf, broadcastInDim, constant] at e
  exact real_of_below_top _ _ top32 e

end Cert.Attention
-- ==== Proof.Attn.Softmax.lean ====
/-
  THE ALGEBRA OF ONE ATTENTION ROW on extended reals. A row of scores `s` over one set of keys and `c` over another:
  the maximum over both, the exponentials of the differences, their sum, and the weighted sum of the values. Dividing the
  weighted sum by the sum of the exponentials is the same as weighting the values by the divided exponentials, as soon
  as every score is a real number.
-/
module

public import Idealize.ShloMosaic.PureOps.Ideal

@[expose] public section

noncomputable section

namespace Cert.Attention

open Idealize.ShloMosaic
open scoped BigOperators

/-- A finite sum of reals is the same sum of extended reals. -/
theorem sum_of_reals {ι : Type*} (A : Finset ι) (f : ι → ℝ) : ∑ i ∈ A, (f i : EReal) = ((∑ i ∈ A, f i : ℝ) : EReal) := by
  classical
  induction A using Finset.induction_on with
  | empty => simp
  | insert a A ha ih => rw [Finset.sum_insert ha, Finset.sum_insert ha, ih, EReal.coe_add]

/-- A nonnegative real factor moves out of a finite sum of extended reals. -/
theorem sum_mul_of_nonneg {ι : Type*} (A : Finset ι) (f : ι → EReal) (r : ℝ) (hr : 0 ≤ r) :
    ∑ i ∈ A, f i * (r : EReal) = (∑ i ∈ A, f i) * (r : EReal) := by
  classical
  induction A using Finset.induction_on with
  | empty => simp
  | insert a A ha ih =>
    rw [Finset.sum_insert ha, Finset.sum_insert ha, ih,
      EReal.right_distrib_of_nonneg_of_ne_top (EReal.coe_nonneg.mpr hr) (EReal.coe_ne_top r)]

/-- The largest of a row's scores, `⊥` of an empty row. -/
def rowMax {ι : Type*} [Fintype ι] (t : ι → EReal) : EReal := Finset.univ.fold max ⊥ t

/-- The sum of the exponentials of a row's scores less `M`. -/
def rowSum {ι : Type*} [Fintype ι] (M : EReal) (t : ι → EReal) : EReal := ∑ i, Ideal.exp (t i - M)

/-- A row's exponentials times the values, summed. -/
def rowDot {ι : Type*} [Fintype ι] (M : EReal) (t v : ι → EReal) : EReal := ∑ i, Ideal.exp (t i - M) * v i

theorem rowMax_eq_sup {ι : Type*} [Fintype ι] (t : ι → EReal) : rowMax t = Finset.univ.sup t := rfl

/-- The largest score of a nonempty row of reals is real. -/
theorem rowMax_real {ι : Type*} [Fintype ι] [Nonempty ι] (t : ι → EReal) (ht : ∀ i, ∃ r : ℝ, t i = r) :
    ∃ r : ℝ, rowMax t = r := by
  obtain ⟨i, -, hi⟩ := Finset.exists_mem_eq_sup Finset.univ Finset.univ_nonempty t
  obtain ⟨r, hr⟩ := ht i
  exact ⟨r, by rw [rowMax_eq_sup, hi, hr]⟩

/-- The sum of the exponentials of a nonempty row of reals is a positive real. -/
theorem rowSum_real {ι : Type*} [Fintype ι] [Nonempty ι] (t : ι → EReal) (ht : ∀ i, ∃ r : ℝ, t i = r) (M : ℝ) :
    ∃ l : ℝ, 0 < l ∧ rowSum M t = l := by
  choose r hr using ht
  refine ⟨∑ i, Real.exp (r i - M), Finset.sum_pos (fun i _ => Real.exp_pos _) Finset.univ_nonempty, ?_⟩
  unfold rowSum
  have : ∀ i, Ideal.exp (t i - M) = ((Real.exp (r i - M) : ℝ) : EReal) := fun i => by
    rw [hr i, ← EReal.coe_sub, Ideal.exp_coe]
  rw [Finset.sum_congr rfl fun i _ => this i, sum_of_reals]

/-- ONE ROW: the values weighted by the divided exponentials are the weighted sum divided once. -/
theorem weighted_eq {ι : Type*} [Fintype ι] [Nonempty ι] (t v : ι → EReal) (ht : ∀ i, ∃ r : ℝ, t i = r) :
    ∑ i, v i * Ideal.div (Ideal.exp (t i - rowMax t)) (rowSum (rowMax t) t)
      = Ideal.div (rowDot (rowMax t) t v) (rowSum (rowMax t) t) := by
  obtain ⟨M, hM⟩ := rowMax_real t ht
  obtain ⟨l, hl, hL⟩ := rowSum_real t ht M
  rw [hM, hL, Ideal.div_coe hl.ne', rowDot, ← sum_mul_of_nonneg _ _ _ (by positivity)]
  refine Finset.sum_congr rfl fun i _ => ?_
  rw [Ideal.div_coe hl.ne', ← mul_assoc, mul_comm (v i)]

/-- Two rows of scores laid one after the other. -/
def join {n p : ℕ} {α : Type*} (s : Fin n → α) (c : Fin p → α) : Fin (n + p) → α := Fin.addCases s c

theorem rowMax_join {n p : ℕ} (s : Fin n → EReal) (c : Fin p → EReal) :
    rowMax (join s c) = max (rowMax s) (rowMax c) := by
  apply le_antisymm
  · rw [rowMax_eq_sup]
    refine Finset.sup_le fun k _ => ?_
    refine Fin.addCases (fun i => ?_) (fun i => ?_) k
    · rw [join, Fin.addCases_left]
      exact le_max_of_le_left (by rw [rowMax_eq_sup]; exact Finset.le_sup (f := s) (Finset.mem_univ i))
    · rw [join, Fin.addCases_right]
      exact le_max_of_le_right (by rw [rowMax_eq_sup]; exact Finset.le_sup (f := c) (Finset.mem_univ i))
  · refine max_le ?_ ?_
    · rw [rowMax_eq_sup s]
      refine Finset.sup_le fun i _ => ?_
      have := Finset.le_sup (f := join s c) (Finset.mem_univ (Fin.castAdd p i))
      rwa [join, Fin.addCases_left] at this
    · rw [rowMax_eq_sup c]
      refine Finset.sup_le fun i _ => ?_
      have := Finset.le_sup (f := join s c) (Finset.mem_univ (Fin.natAdd n i))
      rwa [join, Fin.addCases_right] at this

theorem rowSum_join {n p : ℕ} (M : EReal) (s : Fin n → EReal) (c : Fin p → EReal) :
    rowSum M (join s c) = rowSum M s + rowSum M c := by
  simp only [rowSum, Fin.sum_univ_add, join, Fin.addCases_left, Fin.addCases_right]

theorem rowDot_join {n p : ℕ} (M : EReal) (s v : Fin n → EReal) (c w : Fin p → EReal) :
    rowDot M (join s c) (join v w) = rowDot M s v + rowDot M c w := by
  simp only [rowDot, Fin.sum_univ_add, join, Fin.addCases_left, Fin.addCases_right]

/-- One row of attention over two sets of keys: scores `s` with values `v`, scores `c` with values `w`. -/
def attnRow {n p : ℕ} (s v : Fin n → EReal) (c w : Fin p → EReal) : EReal :=
  Ideal.div (rowDot (max (rowMax s) (rowMax c)) s v + rowDot (max (rowMax s) (rowMax c)) c w)
    (rowSum (max (rowMax s) (rowMax c)) s + rowSum (max (rowMax s) (rowMax c)) c)

/-- A row of reals laid over both sets: the divided exponentials weighting the values make `attnRow`. -/
theorem joined_eq {n p : ℕ} [NeZero (n + p)] (s v : Fin n → EReal) (c w : Fin p → EReal) (hs : ∀ i, ∃ r : ℝ, s i = r)
    (hc : ∀ i, ∃ r : ℝ, c i = r) :
    ∑ k, join v w k * Ideal.div (Ideal.exp (join s c k - rowMax (join s c))) (rowSum (rowMax (join s c)) (join s c))
      = attnRow s v c w := by
  rw [weighted_eq (join s c) (join v w) (fun k => by
    refine Fin.addCases (fun i => ?_) (fun i => ?_) k
    · rw [join, Fin.addCases_left]; exact hs i
    · rw [join, Fin.addCases_right]; exact hc i), rowSum_join, rowDot_join, rowMax_join, attnRow]

/-- A finite sum of products of reals is real. -/
theorem dot_real {ι : Type*} [Fintype ι] (a b : ι → EReal) (ha : ∀ i, ∃ r : ℝ, a i = r) (hb : ∀ i, ∃ r : ℝ, b i = r) :
    ∃ r : ℝ, ∑ i, a i * b i = r := by
  choose x hx using ha
  choose y hy using hb
  exact ⟨∑ i, x i * y i, by
    rw [← sum_of_reals]
    exact Finset.sum_congr rfl fun i _ => by rw [hx i, hy i, EReal.coe_mul]⟩

end Cert.Attention
-- ==== Proof.Attn.Block.lean ====
/-
  WHAT ONE BLOCK COMPUTES. The body runs over one block of 256 query rows and writes eight strips of 128 columns, one
  per query head. Each strip, read at a row and a column, is one attention row (`attnRow`) over the block's keys and
  the cached keys of the strip's key head. The eight printed strips are one expression at eight sets of operands.
-/
module

public import proofs.«01_k».proof.Proof.Attn.Softmax
public import proofs.«01_k».proof.Proof.Gen.AttnIdeal.Value
public import Idealize.ShloMosaic.Lib.Pointwise
public import Idealize.ShloMosaic.Lib.Pipeline.ValueKit

@[expose] public section

set_option maxRecDepth 16384

noncomputable section

namespace Cert.AttnIdeal.Block

open Cert.AttnIdeal Cert.AttnIdeal.Gen Cert.Attention Idealize.ShloMosaic Idealize.ShloMosaic.TcCoe Idealize.SL.Sem
open scoped BigOperators

/-- The word of minus infinity is `⊥`. -/
theorem negInf : Ideal.ofBits .f32 0xFF800000#32 = ⊥ := by simp [Ideal.ofBits, Ideal.ieee]

/-- One head at one query row and one output column: `q` the query row, `k` and `kc` the new and cached keys, `v` and
    `vc` the column of the new and cached values. -/
def headVal (q : Fin 128 → EReal) (k : Fin 2048 → Fin 128 → EReal) (kc : Fin 512 → Fin 128 → EReal) (v : Fin 2048 → EReal)
    (vc : Fin 512 → EReal) : EReal :=
  attnRow (fun j => ∑ e, q e * k j e) v (fun j => ∑ e, q e * kc j e) vc

theorem pay4_apply (v0 v1 : FVec Ideal S2048x128 .bf16) (v2 v5 : FVec Ideal S1x512x128 .f32) (v8 : FVec Ideal S256x128 .bf16)
    (r : Fin 256) (d : Fin 128) :
    k0_pay4 (F := Ideal) v0 v1 v2 v5 v8 (ix2 r d) = headVal (fun e => v8 (ix2 r e)) (fun j e => v0 (ix2 j e)) (fun j e => v2 (ix3 0 j e))
      (fun j => v1 (ix2 j d)) (fun j => v5 (ix3 0 j d)) := by
  pointwise [k0_pay4, k0_pay2, k0_pay3]
  simp only [negInf]
  rfl

theorem pay5_eq (v0 v1 : FVec Ideal S2048x128 .bf16) (v2 v5 : FVec Ideal S1x512x128 .f32) (v8 : FVec Ideal S256x128 .bf16) :
   k0_pay5 (F := Ideal) v0 v1 (k0_pay2 (F := Ideal) v2) (k0_pay3 (F := Ideal) v5) v8 = k0_pay4 (F := Ideal) v0 v1 v2 v5 v8 := rfl

theorem pay10_eq (v0 v1 : FVec Ideal S2048x128 .bf16) (v2 v5 : FVec Ideal S1x512x128 .f32) (v8 : FVec Ideal S256x128 .bf16) :
   k0_pay10 (F := Ideal) v1 (k0_pay3 (F := Ideal) v5) (k0_pay7 (F := Ideal) (k0_pay2 (F := Ideal) v2) v8) (k0_pay8 (F := Ideal) v0 (k0_pay2 (F := Ideal) v2) v8) (k0_pay9 (F := Ideal) v0 (k0_pay2 (F := Ideal) v2) v8) = k0_pay4 (F := Ideal) v0 v1 v2 v5 v8 := rfl

theorem pay11_eq (v0 v1 : FVec Ideal S2048x128 .bf16) (v2 v5 : FVec Ideal S1x512x128 .f32) (v8 : FVec Ideal S256x128 .bf16) :
   k0_pay11 (F := Ideal) v0 v1 (k0_pay2 (F := Ideal) v2) (k0_pay3 (F := Ideal) v5) v8 = k0_pay4 (F := Ideal) v0 v1 v2 v5 v8 := rfl

theorem pay14_eq (v0 v1 : FVec Ideal S2048x128 .bf16) (v2 v5 : FVec Ideal S1x512x128 .f32) (v8 : FVec Ideal S256x128 .bf16) :
   k0_pay14 (F := Ideal) v0 v1 v2 v5 v8 = k0_pay4 (F := Ideal) v0 v1 v2 v5 v8 := rfl

theorem pay15_eq (v0 v1 : FVec Ideal S2048x128 .bf16) (v2 v5 : FVec Ideal S1x512x128 .f32) (v8 : FVec Ideal S256x128 .bf16) :
   k0_pay15 (F := Ideal) v0 v1 (k0_pay12 (F := Ideal) v2) (k0_pay13 (F := Ideal) v5) v8 = k0_pay4 (F := Ideal) v0 v1 v2 v5 v8 := rfl

theorem pay20_eq (v0 v1 : FVec Ideal S2048x128 .bf16) (v2 v5 : FVec Ideal S1x512x128 .f32) (v8 : FVec Ideal S256x128 .bf16) :
   k0_pay20 (F := Ideal) v1 (k0_pay13 (F := Ideal) v5) (k0_pay17 (F := Ideal) (k0_pay12 (F := Ideal) v2) v8) (k0_pay18 (F := Ideal) v0 (k0_pay12 (F := Ideal) v2) v8) (k0_pay19 (F := Ideal) v0 (k0_pay12 (F := Ideal) v2) v8) = k0_pay4 (F := Ideal) v0 v1 v2 v5 v8 := rfl

theorem pay1_eq (v0 v1 : FVec Ideal S2048x128 .bf16) (v2 v5 : FVec Ideal S1x512x128 .f32) (v8 : FVec Ideal S256x128 .bf16) :
   k0_pay1 (F := Ideal) (k0_pay26 (F := Ideal) v0 v1 (k0_pay12 (F := Ideal) v2) (k0_pay13 (F := Ideal) v5) v8) (k0_pay27 (F := Ideal) v0 (k0_pay12 (F := Ideal) v2) v8) = k0_pay4 (F := Ideal) v0 v1 v2 v5 v8 := rfl

end Cert.AttnIdeal.Block
-- ==== Proof.Attn.Strips.lean ====
/-
  WHAT THE BODY LEAVES IN ITS OUTPUT BLOCK: the eight strips together, read at a row and a column of the block. The
  column's query head is its quotient by 128, its key head its quotient by 512.
-/
module

public import proofs.«01_k».proof.Proof.Attn.Block

@[expose] public section

set_option maxRecDepth 16384

noncomputable section

namespace Cert.AttnIdeal.Block

open Cert.AttnIdeal Cert.AttnIdeal.Gen Cert.Attention Idealize.ShloMosaic Idealize.ShloMosaic.TcCoe Idealize.SL.Sem
open scoped BigOperators

/-- A column of the output block: its query head's first column plus `e`. -/
abbrev qcol (n : Fin 1024) (e : Fin 128) : Fin 1024 := ⟨n.val / 128 * 128 + e.val, by omega⟩
/-- Its key head's first column plus `e`. -/
abbrev kcol (n : Fin 1024) (e : Fin 128) : Fin 256 := ⟨n.val / 512 * 128 + e.val, by omega⟩
/-- The value column it reads. -/
abbrev vcol (n : Fin 1024) : Fin 256 := ⟨n.val / 512 * 128 + n.val % 128, by omega⟩

/-- The block's entry at a row and a column. -/
def blockVal (x0 : FVec Ideal S256x1024 .bf16) (x1 x2 : FVec Ideal S2048x256 .bf16) (x3 x4 : FVec Ideal S1x512x256 .f32)
    (r : Fin 256) (n : Fin 1024) : EReal :=
  headVal (fun e => x0 (ix2 r (qcol n e))) (fun j e => x1 (ix2 j (kcol n e))) (fun j e => x3 (ix3 0 j (kcol n e)))
    (fun j => x2 (ix2 j (vcol n))) (fun j => x4 (ix3 0 j (vcol n)))

/-- A strip at query-head column `o` and key-head column `p`. -/
theorem strip (x0 : FVec Ideal S256x1024 .bf16) (x1 x2 : FVec Ideal S2048x256 .bf16) (x3 x4 : FVec Ideal S1x512x256 .f32)
    (h : ℕ) (hh : h < 8)
    (v0 v1 : FVec Ideal S2048x128 .bf16) (v2 v5 : FVec Ideal S1x512x128 .f32) (v8 : FVec Ideal S256x128 .bf16)
    (h0 : ∀ j e, v0 (ix2 j e) = x1 (ix2 j ⟨h / 4 * 128 + e.val, by omega⟩))
    (h1 : ∀ j e, v1 (ix2 j e) = x2 (ix2 j ⟨h / 4 * 128 + e.val, by omega⟩))
    (h2 : ∀ j e, v2 (ix3 0 j e) = x3 (ix3 0 j ⟨h / 4 * 128 + e.val, by omega⟩))
    (h5 : ∀ j e, v5 (ix3 0 j e) = x4 (ix3 0 j ⟨h / 4 * 128 + e.val, by omega⟩))
    (h8 : ∀ r e, v8 (ix2 r e) = x0 (ix2 r ⟨h * 128 + e.val, by omega⟩)) (r : Fin 256) (d : Fin 128) :
    k0_pay4 (F := Ideal) v0 v1 v2 v5 v8 (ix2 r d) = blockVal x0 x1 x2 x3 x4 r ⟨h * 128 + d.val, by omega⟩ := by
  rw [pay4_apply, blockVal]
  have e1 : (h * 128 + d.val) / 128 = h := by omega
  have e2 : (h * 128 + d.val) / 512 = h / 4 := by omega
  have e3 : (h * 128 + d.val) % 128 = d.val := by omega
  simp only [h0, h1, h2, h5, h8, qcol, kcol, vcol, e1, e2, e3]

theorem out_apply (x0 : FVec Ideal S256x1024 .bf16) (x1 x2 : FVec Ideal S2048x256 .bf16) (x3 x4 : FVec Ideal S1x512x256 .f32)
    (y : S256x1024.Idx) : out0_5 (F := Ideal) x0 x1 x2 x3 x4 y = blockVal x0 x1 x2 x3 x4 (y 0) (y 1) := by
  unfold_out out0_5
  refine View.canon_apply_of_pieces (Val := Elt Ideal) (fun y => blockVal x0 x1 x2 x3 x4 (y 0) (y 1)) _ ?_ y (cover0_5 _ _ _ _ _ _ _ _ y)
  simp only [List.mem_cons, List.not_mem_nil, or_false, forall_eq_or_imp, forall_eq]
  refine ⟨?_, ?_, ?_, ?_, ?_, ?_, ?_, ?_⟩
  · intro x
    obtain ⟨r, d, rfl⟩ : ∃ (r : Fin 256) (d : Fin 128), x = ix2 r d := ⟨x 0, x 1, eq_ix2 x⟩
    refine ((congrFun (pay1_eq _ _ _ _ _) (ix2 r d)).trans (strip x0 x1 x2 x3 x4 7 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 7 * 128 + d.val = 896 + 1 * d.val; omega
  · intro x
    obtain ⟨r, d, rfl⟩ : ∃ (r : Fin 256) (d : Fin 128), x = ix2 r d := ⟨x 0, x 1, eq_ix2 x⟩
    refine ((congrFun (pay20_eq _ _ _ _ _) (ix2 r d)).trans (strip x0 x1 x2 x3 x4 6 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 6 * 128 + d.val = 768 + 1 * d.val; omega
  · intro x
    obtain ⟨r, d, rfl⟩ : ∃ (r : Fin 256) (d : Fin 128), x = ix2 r d := ⟨x 0, x 1, eq_ix2 x⟩
    refine ((congrFun (pay15_eq _ _ _ _ _) (ix2 r d)).trans (strip x0 x1 x2 x3 x4 5 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 5 * 128 + d.val = 640 + 1 * d.val; omega
  · intro x
    obtain ⟨r, d, rfl⟩ : ∃ (r : Fin 256) (d : Fin 128), x = ix2 r d := ⟨x 0, x 1, eq_ix2 x⟩
    refine ((congrFun (pay14_eq _ _ _ _ _) (ix2 r d)).trans (strip x0 x1 x2 x3 x4 4 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 4 * 128 + d.val = 512 + 1 * d.val; omega
  · intro x
    obtain ⟨r, d, rfl⟩ : ∃ (r : Fin 256) (d : Fin 128), x = ix2 r d := ⟨x 0, x 1, eq_ix2 x⟩
    refine ((congrFun (pay11_eq _ _ _ _ _) (ix2 r d)).trans (strip x0 x1 x2 x3 x4 3 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 3 * 128 + d.val = 384 + 1 * d.val; omega
  · intro x
    obtain ⟨r, d, rfl⟩ : ∃ (r : Fin 256) (d : Fin 128), x = ix2 r d := ⟨x 0, x 1, eq_ix2 x⟩
    refine ((congrFun (pay10_eq _ _ _ _ _) (ix2 r d)).trans (strip x0 x1 x2 x3 x4 2 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 2 * 128 + d.val = 256 + 1 * d.val; omega
  · intro x
    obtain ⟨r, d, rfl⟩ : ∃ (r : Fin 256) (d : Fin 128), x = ix2 r d := ⟨x 0, x 1, eq_ix2 x⟩
    refine ((congrFun (pay5_eq _ _ _ _ _) (ix2 r d)).trans (strip x0 x1 x2 x3 x4 1 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 1 * 128 + d.val = 128 + 1 * d.val; omega
  · intro x
    obtain ⟨r, d, rfl⟩ : ∃ (r : Fin 256) (d : Fin 128), x = ix2 r d := ⟨x 0, x 1, eq_ix2 x⟩
    refine ((strip x0 x1 x2 x3 x4 0 (by omega) _ _ _ _ _ ?_ ?_ ?_ ?_ ?_ r d)).trans ?_
    · intro j e; pointwise
    · intro j e; pointwise
    · intro j e; pointwise
    · intro j e; pointwise
    · intro j e; pointwise
    · refine congr_arg₂ (blockVal x0 x1 x2 x3 x4) (Fin.ext ?_) (Fin.ext ?_)
      · show r.val = 0 + 1 * r.val; omega
      · show 0 * 128 + d.val = 0 + 1 * d.val; omega

end Cert.AttnIdeal.Block
-- ==== Proof.Attn.Array.lean ====
/-
  WHAT THE RESULT ARRAY HOLDS after the run: at row `i` and column `n` one attention row, with the query row `i`, the
  keys and values of the sequence of row `i` (2048 rows each) and the cached ones of that sequence. `OUT` says it as a
  function of the five argument arrays; the 64 blocks tile the array.
-/
module

public import proofs.«01_k».proof.Proof.Attn.Strips
public import Idealize.ShloMosaic.Lib.Claim

@[expose] public section

set_option maxRecDepth 16384

noncomputable section

namespace Cert.AttnIdeal.Block

open Cert.AttnIdeal Cert.AttnIdeal.Gen Cert.Attention Idealize.ShloMosaic Idealize.ShloMosaic.TcCoe Idealize.SL.Sem
open Idealize.ShloMosaic.Pipeline (Dat)
open scoped BigOperators

/-- The result at row `i` and column `n`, from the queries, keys, values and the two caches. -/
def OUT (q : FVec Ideal S16384x1024 .bf16) (k v : FVec Ideal S16384x256 .bf16) (ck cv : FVec Ideal S8x512x2x128 .f32)
    (i : Fin 16384) (n : Fin 1024) : EReal :=
  headVal (fun e => q (ix2 i (qcol n e)))
    (fun j e => k (ix2 (⟨i.val / 2048 * 2048 + j.val, by omega⟩ : Fin 16384) (kcol n e)))
    (fun j e => ck (ix4 (⟨i.val / 2048, by omega⟩ : Fin 8) j (⟨n.val / 512, by omega⟩ : Fin 2) e))
    (fun j => v (ix2 (⟨i.val / 2048 * 2048 + j.val, by omega⟩ : Fin 16384) (vcol n)))
    (fun j => cv (ix4 (⟨i.val / 2048, by omega⟩ : Fin 8) j (⟨n.val / 512, by omega⟩ : Fin 2) (⟨n.val % 128, by omega⟩ : Fin 128)))

variable (m : (ℓ : Loc nD τ sig) → Buf (Elt Ideal) ℓ)

/-- Every window's block at every point of the grid. -/
theorem idx : ∀ t : Fin cfg0.N, win0_0.index t = ![t.val, 0] ∧ win0_1.index t = ![t.val / 8, 0] ∧ win0_2.index t = ![t.val / 8, 0]
    ∧ win0_3.index t = ![t.val / 8, 0, 0] ∧ win0_4.index t = ![t.val / 8, 0, 0] ∧ win0_5.index t = ![t.val, 0] :=
  (by decide +kernel : ∀ t : Fin grid0.N, _)

/-- The cached keys as the kernel finds them: the argument with its two last axes laid side by side. -/
theorem V_keys (c : Dev nD) : V m c main_v0 = shapeCast S8x512x256 (m ((c : Thread nD τ).loc main_arg3)) shapeCasts_S8x512x2x128_S8x512x256 := by
  unfold V hostOps0
  after_results
  rfl

theorem V_vals (c : Dev nD) : V m c main_v1 = shapeCast S8x512x256 (m ((c : Thread nD τ).loc main_arg4)) shapeCasts_S8x512x2x128_S8x512x256 := by
  unfold V hostOps0
  after_results
  rfl

/-- What each argument's block holds, at coordinates of the argument. -/
theorem blk0 (c : Dev nD) (t : Fin cfg0.N) (r : Fin 256) (n : Fin 1024) (h : t.val * 256 + r.val < 16384) :
    iblk m c 0 t (ix2 r n) = m ((c : Thread nD τ).loc main_arg0) (ix2 (⟨t.val * 256 + r.val, h⟩ : Fin 16384) n) := by
  blk_ext! [iblk, V, idx t]

theorem blk1 (c : Dev nD) (t : Fin cfg0.N) (j : Fin 2048) (n : Fin 256) (h : t.val / 8 * 2048 + j.val < 16384) :
    iblk m c 1 t (ix2 j n) = m ((c : Thread nD τ).loc main_arg1) (ix2 (⟨t.val / 8 * 2048 + j.val, h⟩ : Fin 16384) n) := by
  blk_ext! [iblk, V, idx t]

theorem blk2 (c : Dev nD) (t : Fin cfg0.N) (j : Fin 2048) (n : Fin 256) (h : t.val / 8 * 2048 + j.val < 16384) :
    iblk m c 2 t (ix2 j n) = m ((c : Thread nD τ).loc main_arg2) (ix2 (⟨t.val / 8 * 2048 + j.val, h⟩ : Fin 16384) n) := by
  blk_ext! [iblk, V, idx t]

theorem blk3 (c : Dev nD) (t : Fin cfg0.N) (j : Fin 512) (n : Fin 256) (h : t.val / 8 < 8) :
    iblk m c 3 t (ix3 0 j n) = m ((c : Thread nD τ).loc main_arg3)
      (ix4 (⟨t.val / 8, h⟩ : Fin 8) j (⟨n.val / 128, by omega⟩ : Fin 2) (⟨n.val % 128, by omega⟩ : Fin 128)) := by
  blk_ext! [iblk, V_keys, idx t]

theorem blk4 (c : Dev nD) (t : Fin cfg0.N) (j : Fin 512) (n : Fin 256) (h : t.val / 8 < 8) :
    iblk m c 4 t (ix3 0 j n) = m ((c : Thread nD τ).loc main_arg4)
      (ix4 (⟨t.val / 8, h⟩ : Fin 8) j (⟨n.val / 128, by omega⟩ : Fin 2) (⟨n.val % 128, by omega⟩ : Fin 128)) := by
  blk_ext! [iblk, V_vals, idx t]

/-- The block's entry is the array's, at the row and the column it is written to. -/
theorem at_block (c : Dev nD) (t : Fin cfg0.N) (r : Fin 256) (n : Fin 1024) (i : Fin 16384) (n' : Fin 1024)
    (hi : i.val = t.val * 256 + r.val) (hn : n'.val = n.val) :
    blockVal (iblk m c 0 t) (iblk m c 1 t) (iblk m c 2 t) (iblk m c 3 t) (iblk m c 4 t) r n
      = OUT (m ((c : Thread nD τ).loc main_arg0)) (m ((c : Thread nD τ).loc main_arg1)) (m ((c : Thread nD τ).loc main_arg2))
        (m ((c : Thread nD τ).loc main_arg3)) (m ((c : Thread nD τ).loc main_arg4)) i n' := by
  obtain rfl : n' = n := Fin.ext hn
  have hN : t.val < 64 := t.isLt
  obtain ⟨i, hlt⟩ := i
  obtain rfl : i = t.val * 256 + r.val := hi
  have e : (t.val * 256 + r.val) / 2048 = t.val / 8 := by omega
  have f1 : ∀ e : Fin 128, (n'.val / 512 * 128 + e.val) / 128 = n'.val / 512 := fun e => by omega
  have f2 : ∀ e : Fin 128, (n'.val / 512 * 128 + e.val) % 128 = e.val := fun e => by omega
  have f3 : (n'.val / 512 * 128 + n'.val % 128) / 128 = n'.val / 512 := by omega
  have f4 : (n'.val / 512 * 128 + n'.val % 128) % 128 = n'.val % 128 := by omega
  unfold blockVal OUT
  congr 1
  · exact funext fun e => blk0 m c t r _ (by omega)
  · exact funext fun j => funext fun e' => (blk1 m c t j _ (by omega)).trans (by simp only [e])
  · exact funext fun j => funext fun e' => (blk3 m c t j _ (by omega)).trans (by simp only [e, f1, f2])
  · exact funext fun j => (blk2 m c t j _ (by omega)).trans (by simp only [e])
  · exact funext fun j => (blk4 m c t j _ (by omega)).trans (by simp only [e, f3, f4])

theorem final (c : Dev nD) : (dats m 0 c).arrAt 5 cfg0.N
    = fun i : S16384x1024.Idx => OUT (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t _ y => ?_
  blk_simp
  rw [after0_5, out_apply]
  have e0 : ((win0_5.blk t).view.emb y 0 : Fin 16384).val = t.val * 256 + (y 0).val := by blk_simp [idx t]
  have e1 : ((win0_5.blk t).view.emb y 1 : Fin 1024).val = (y 1).val := by blk_simp [idx t]
  have hN : t.val < 64 := t.isLt
  exact at_block m c t (y 0) (y 1) _ _ e0 e1

end Cert.AttnIdeal.Block
-- ==== Proof.Attn.Reference.lean ====
/-
  WHAT THE REFERENCE COMPUTES, entry by entry: the scores of a query row with the keys of its sequence and the cached
  ones laid behind them, their exponentials less the row's largest score, divided by their sum, weighting the values.
  Where the queries and keys are real this is the array the kernel leaves (`Block.OUT`).
-/
module

public import proofs.«01_k».proof.Proof.Gen.AttnRefIdeal.Read
public import proofs.«01_k».proof.Proof.Attn.Array

@[expose] public section

set_option maxRecDepth 16384

noncomputable section

namespace Cert.AttnRefIdeal.Row

open Cert.AttnRefIdeal Cert.AttnRefIdeal.Gen Cert.AttnRefIdeal.Read Cert.Attention Idealize.ShloMosaic Idealize.ShloMosaic.TcCoe
open Idealize.SL.Sem Idealize.ShloMosaic.StableHlo
open scoped BigOperators

/-- A joined row read at a position: the first part where the position is one of its, the second otherwise. -/
theorem join_dite {n p : ℕ} {α : Type*} (s : Fin n → α) (c : Fin p → α) (k : Fin (n + p)) :
    join s c k = if h : k.val < n then s ⟨k.val, h⟩ else c ⟨k.val - n, by omega⟩ := by
  refine Fin.addCases (fun i => ?_) (fun i => ?_) k
  · rw [join, Fin.addCases_left, dif_pos (show (Fin.castAdd p i).val < n from i.isLt)]; rfl
  · rw [join, Fin.addCases_right, dif_neg (show ¬(Fin.natAdd n i).val < n by simp)]
    congr 1
    exact Fin.ext (by simp)

variable (x0 : FVec Ideal S16384x1024 .bf16) (x1 x2 : FVec Ideal S16384x256 .bf16) (x3 x4 : FVec Ideal S8x512x2x128 .f32)

/-- The query row of a sequence's position and head, a key row of it, and a cached one. -/
def qrow (b : Fin 8) (h : Fin 2) (g : Fin 4) (t : Fin 2048) (e : Fin 128) : EReal :=
  x0 (ix2 (⟨b.val * 2048 + t.val, by omega⟩ : Fin 16384) (⟨h.val * 512 + g.val * 128 + e.val, by omega⟩ : Fin 1024))
def krow (b : Fin 8) (h : Fin 2) (j : Fin 2048) (e : Fin 128) : EReal :=
  x1 (ix2 (⟨b.val * 2048 + j.val, by omega⟩ : Fin 16384) (⟨h.val * 128 + e.val, by omega⟩ : Fin 256))

/-- The keys with the cached ones behind them, and the values likewise. -/
theorem keys_apply (b : Fin 8) (h : Fin 2) (s : Fin (2048 + 512)) (d : Fin 128) :
    val_main_v6 (F := Ideal) x1 x3 (ix4 b s h d) = join (fun j => krow x1 b h j d) (fun j => x3 (ix4 b j h d)) s := by
  rw [join_dite]
  pointwise [val_main_v6, val_main_v3, val_main_v2, krow]

theorem vals_apply (b : Fin 8) (h : Fin 2) (s : Fin (2048 + 512)) (d : Fin 128) :
    val_main_v7 (F := Ideal) x2 x4 (ix4 b s h d) = join (fun j => krow x2 b h j d) (fun j => x4 (ix4 b j h d)) s := by
  rw [join_dite]
  pointwise [val_main_v7, val_main_v5, val_main_v4, krow]

/-- The scores of a query row. -/
def scores (b : Fin 8) (h : Fin 2) (g : Fin 4) (t : Fin 2048) : Fin (2048 + 512) → EReal :=
  join (fun j => ∑ e, qrow x0 b h g t e * krow x1 b h j e) (fun j => ∑ e, qrow x0 b h g t e * x3 (ix4 b j h e))

theorem scores_apply (b : Fin 8) (h : Fin 2) (g : Fin 4) (t : Fin 2048) (s : Fin (2048 + 512)) :
    val_main_v9 (F := Ideal) x0 x1 x3 (ix5 b h g t s) = scores x0 x1 x3 b h g t s := by
  have e : val_main_v9 (F := Ideal) x0 x1 x3 (ix5 b h g t s)
      = ∑ e, val_main_v6 (F := Ideal) x1 x3 (ix4 b s h e) * qrow x0 b h g t e := by
    pointwise [val_main_v9, val_main_v8, val_main_v1, val_main_v0, qrow]
  rw [e, scores]
  refine Fin.addCases (fun i => ?_) (fun i => ?_) s
  · simp only [keys_apply, join, Fin.addCases_left]
    exact Finset.sum_congr rfl fun e _ => mul_comm _ _
  · simp only [keys_apply, join, Fin.addCases_right]
    exact Finset.sum_congr rfl fun e _ => mul_comm _ _

/-- The row's largest score. -/
theorem max_apply (b : Fin 8) (h : Fin 2) (g : Fin 4) (t : Fin 2048) :
    val_main_v10 (F := Ideal) x0 x1 x3 (ix4 b h g t) = rowMax (scores x0 x1 x3 b h g t) := by
  have e : val_main_v10 (F := Ideal) x0 x1 x3 (ix4 b h g t)
      = Finset.fold max ⊥ (fun s : Fin 2560 => val_main_v9 (F := Ideal) x0 x1 x3 (ix5 b h g t s)) Finset.univ := by
    unfold val_main_v10
    generalize val_main_v9 (F := Ideal) x0 x1 x3 = w
    rw [← Cert.AttnIdeal.Block.negInf]
    pointwise [val_main_cst]
  rw [e, rowMax]
  exact Finset.fold_congr fun s _ => scores_apply x0 x1 x3 b h g t s

theorem top_apply (b : Fin 8) (h : Fin 2) (g : Fin 4) (t : Fin 2048) :
    val_main_v12 (F := Ideal) x0 x1 x3 (ix4 b h g t) = rowMax (scores x0 x1 x3 b h g t) := by
  rw [val_main_v12_apply, max_apply, val_main_v11_apply, val_main_cst_0_apply]
  show max (Ideal.ofBits .f32 0xFF800000#32) _ = _
  rw [Cert.AttnIdeal.Block.negInf]
  exact max_eq_right bot_le

/-- The exponential of a score less the largest, their sum, and the weight. -/
theorem exp_apply (b : Fin 8) (h : Fin 2) (g : Fin 4) (t : Fin 2048) (s : Fin (2048 + 512)) :
    val_main_v16 (F := Ideal) x0 x1 x3 (ix5 b h g t s)
      = Ideal.exp (scores x0 x1 x3 b h g t s - rowMax (scores x0 x1 x3 b h g t)) := by
  rw [val_main_v16_apply, val_main_v15_apply, val_main_v14_apply, val_main_v13_apply, scores_apply,
    show idx_main_v13 (idx_main_v14 (ix5 b h g t s)) = ix4 b h g t from
      funext fun a => Fin.ext (match a with | ⟨0, _⟩ => rfl | ⟨1, _⟩ => rfl | ⟨2, _⟩ => rfl | ⟨3, _⟩ => rfl), top_apply]
  rfl

theorem sum_apply (b : Fin 8) (h : Fin 2) (g : Fin 4) (t : Fin 2048) :
    val_main_v17 (F := Ideal) x0 x1 x3 (ix4 b h g t)
      = rowSum (rowMax (scores x0 x1 x3 b h g t)) (scores x0 x1 x3 b h g t) := by
  rw [val_main_v17_apply, val_main_cst_1_apply]
  show Ideal.ofBits .f32 0x00000000#32 + _ = _
  rw [show Ideal.ofBits .f32 0x00000000#32 = 0 by simp [Ideal.ofBits, Ideal.ieee], zero_add, rowSum]
  refine Finset.sum_congr rfl fun s _ => ?_
  rw [show idx_main_v17 (ix4 b h g t) s = ix5 b h g t s from
      funext fun a => Fin.ext (match a with | ⟨0, _⟩ => rfl | ⟨1, _⟩ => rfl | ⟨2, _⟩ => rfl | ⟨3, _⟩ => rfl | ⟨4, _⟩ => rfl)]
  exact exp_apply x0 x1 x3 b h g t s

theorem weight_apply (b : Fin 8) (h : Fin 2) (g : Fin 4) (t : Fin 2048) (s : Fin (2048 + 512)) :
    val_main_v20 (F := Ideal) x0 x1 x3 (ix5 b h g t s)
      = Ideal.div (Ideal.exp (scores x0 x1 x3 b h g t s - rowMax (scores x0 x1 x3 b h g t)))
          (rowSum (rowMax (scores x0 x1 x3 b h g t)) (scores x0 x1 x3 b h g t)) := by
  rw [val_main_v20_apply, exp_apply, val_main_v19_apply, val_main_v18_apply,
    show idx_main_v18 (idx_main_v19 (ix5 b h g t s)) = ix4 b h g t from
      funext fun a => Fin.ext (match a with | ⟨0, _⟩ => rfl | ⟨1, _⟩ => rfl | ⟨2, _⟩ => rfl | ⟨3, _⟩ => rfl), sum_apply]
  rfl

/-- The reference's entry is the kernel's, where the queries and the keys are real. -/
theorem result_apply (h0 : ∀ i, ∃ r : ℝ, x0 i = r) (h1 : ∀ i, ∃ r : ℝ, x1 i = r) (h3 : ∀ i, ∃ r : ℝ, x3 i = r)
    (i : Fin 16384) (n : Fin 1024) :
    val_main_v24 (F := Ideal) x0 x1 x2 x3 x4 (ix2 i n) = Cert.AttnIdeal.Block.OUT x0 x1 x2 x3 x4 i n := by
  have e : val_main_v24 (F := Ideal) x0 x1 x2 x3 x4 (ix2 i n)
      = ∑ s : Fin 2560, val_main_v7 (F := Ideal) x2 x4 (ix4 (⟨i.val / 2048, by omega⟩ : Fin 8) s (⟨n.val / 512, by omega⟩ : Fin 2) (⟨n.val % 128, by omega⟩ : Fin 128))
          * val_main_v20 (F := Ideal) x0 x1 x3 (ix5 (⟨i.val / 2048, by omega⟩ : Fin 8) (⟨n.val / 512, by omega⟩ : Fin 2) (⟨n.val / 128 % 4, by omega⟩ : Fin 4) (⟨i.val % 2048, by omega⟩ : Fin 2048) s) := by
    pointwise [val_main_v24, val_main_v23, val_main_v22, val_main_v21]
  refine e.trans ((Finset.sum_congr rfl fun s _ => congrArg₂ (· * ·) (vals_apply x2 x4 _ _ s _) (weight_apply x0 x1 x3 _ _ _ _ s)).trans ?_)
  unfold scores
  refine (joined_eq _ _ _ _ (fun j => dot_real _ _ (fun _ => h0 _) fun _ => h1 _) (fun j => dot_real _ _ (fun _ => h0 _) fun _ => h3 _)).trans ?_
  have e1 : i.val / 2048 * 2048 + i.val % 2048 = i.val := by omega
  have e2 : ∀ e : Fin 128, n.val / 512 * 512 + n.val / 128 % 4 * 128 + e.val = n.val / 128 * 128 + e.val := fun e => by omega
  unfold Cert.AttnIdeal.Block.OUT Cert.AttnIdeal.Block.headVal
  simp only [qrow, krow, e1, e2]

end Cert.AttnRefIdeal.Row
-- ==== Proof.Attn.Equal.lean ====
/-
  THE ATTENTION'S EQUATION: under the precondition the kernel's result array and the reference's are equal.
-/
module

public import proofs.«01_k».proof.Proof.Attn.Precondition
public import proofs.«01_k».proof.Proof.Attn.Reference

@[expose] public section

noncomputable section

namespace Cert.Attention

open Idealize.ShloMosaic Idealize.ShloMosaic.TcCoe Idealize.SL.Sem Cert.AttnIdeal

theorem algebraic : algebraic_AttnIdeal_AttnRefIdeal_pre_finite_keys := by
  pair_intro
  · run_from (Cert.AttnIdeal.Value.run_blocks m g)
  · run_from (Cert.AttnRefIdeal.Value.run m' g')
    obtain ⟨e0, e1, e2, e3, e4⟩ := hagree c
    rw [Cert.AttnRefIdeal.Read.val_main_v24_eq, Cert.AttnIdeal.Block.final m c, e0, e1, e2, e3, e4]
    funext i
    rw [eq_ix2 i]
    exact Cert.AttnRefIdeal.Row.result_apply _ _ _ _ _ (query_real m hpre c) (key_real m hpre c) (cached_real m hpre c) (i 0) (i 1)

end Cert.Attention
-- ==== Proof.Ffn.Cases.lean ====
/-
  WHAT THE BODY LEAVES at a grid point, by its three cases: the first column tile of a row block (normalise the rows into
  the carried scratch, start the accumulator), a later one (add to the accumulator), the last one (write the result).
-/
module

public import proofs.«01_k».proof.Proof.Gen.FfnIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Block

open Cert.FfnIdeal Cert.FfnIdeal.Gen Idealize.ShloMosaic Idealize.ShloMosaic.TcCoe Idealize.SL.Sem

/-- The carried scratch: 16 rows before the block, the block's 512 rows, 16 rows after it, each row normalised. -/
def rows (x0 : FVec Ideal S512x2048 .f32) (x1 x2 : FVec Ideal S16x2048 .f32) (x3 : FVec Ideal S1x2048 .f32)
    (x4 x5 : FVec Ideal S1x1x2048 .f32) : FVec Ideal S544x2048 .bf16 :=
  View.canon [
    (⟨Rect.unit (s := S544x2048) ![528, 0] S16x2048.size inb_S544x2048_S16x2048_528_0,
      k0_pay13 (F := Ideal) x2 (k0_pay9 x3) (k0_pay10 x4) (k0_pay11 x5) (k0_pay12 x2)⟩ : View.Piece (Elt Ideal) S544x2048 .bf16),
    ⟨Rect.unit (s := S544x2048) ![16, 0] S512x2048.size inb_S544x2048_S512x2048_16_0,
      k0_pay8 (F := Ideal) x0 (k0_pay6 x3) (k0_pay7 x4) x5⟩,
    ⟨Rect.unit (s := S544x2048) ![0, 0] S16x2048.size inb_S544x2048_S16x2048_0_0, k0_pay5 (F := Ideal) x1 x3 x4 x5⟩]

/-- Row `k` of the three convolution weights. -/
def tap0 (w : FVec Ideal S3x512 .f32) : FVec Ideal S1x512 .f32 := View.ld (Val := Elt Ideal) (e' := .f32) w (Rect.unit (s := S3x512) ![0, 0] S1x512.size inb_S3x512_S1x512_0_0)
def tap1 (w : FVec Ideal S3x512 .f32) : FVec Ideal S1x512 .f32 := View.ld (Val := Elt Ideal) (e' := .f32) w (Rect.unit (s := S3x512) ![1, 0] S1x512.size inb_S3x512_S1x512_1_0)
def tap2 (w : FVec Ideal S3x512 .f32) : FVec Ideal S1x512 .f32 := View.ld (Val := Elt Ideal) (e' := .f32) w (Rect.unit (s := S3x512) ![2, 0] S1x512.size inb_S3x512_S1x512_2_0)

/-- The block's rows, one row earlier, in place, one row later. -/
def from15 (u : FVec Ideal S544x512 .f32) : FVec Ideal S512x512 .f32 := View.ld (Val := Elt Ideal) (e' := .f32) u (Rect.unit (s := S544x512) ![15, 0] S512x512.size inb_S544x512_S512x512_15_0)
def from16 (u : FVec Ideal S544x512 .f32) : FVec Ideal S512x512 .f32 := View.ld (Val := Elt Ideal) (e' := .f32) u (Rect.unit (s := S544x512) ![16, 0] S512x512.size inb_S544x512_S512x512_16_0)
def from17 (u : FVec Ideal S544x512 .f32) : FVec Ideal S512x512 .f32 := View.ld (Val := Elt Ideal) (e' := .f32) u (Rect.unit (s := S544x512) ![17, 0] S512x512.size inb_S544x512_S512x512_17_0)

/-- One column tile's contribution to the block's rows of the down projection. -/
def part (i : grid0.Coords) (h : FVec Ideal S544x2048 .bf16) (x7 x8 : FVec Ideal S2048x512 .bf16) (x9 x10 : FVec Ideal S3x512 .f32)
    (x11 x12 : FVec Ideal S1x512 .f32) (x13 : FVec Ideal S512x2048 .bf16) : FVec Ideal S512x2048 .f32 :=
  k0_pay1 (F := Ideal)
    (k0_pay21 (k0_pay19 i) (k0_pay20 i) (tap0 x9) (from15 (k0_pay14 h x7)) (tap1 x9) (from16 (k0_pay14 h x7)) (tap2 x9)
      (from17 (k0_pay14 h x7)) x11)
    (k0_pay22 (k0_pay17 i) (k0_pay18 i)) (k0_pay23 (k0_pay18 i) (from15 (k0_pay15 h x8))) (k0_pay24 (tap0 x10)) (tap1 x10)
    (from16 (k0_pay15 h x8)) (tap2 x10) (from17 (k0_pay15 h x8)) x12 x13

variable (c : Dev nD) (i : grid0.Coords)
  (arg2 : Memref sig .tc .vmem S512x2048 .f32) (harg2 : arg2.IsWhole)
  (arg3 : Memref sig .tc .vmem S16x2048 .f32) (harg3 : arg3.IsWhole)
  (arg4 : Memref sig .tc .vmem S16x2048 .f32) (harg4 : arg4.IsWhole)
  (arg5 : Memref sig .tc .vmem S1x2048 .f32) (harg5 : arg5.IsWhole)
  (arg6 : Memref sig .tc .vmem S1x1x2048 .f32) (harg6 : arg6.IsWhole)
  (arg7 : Memref sig .tc .vmem S1x1x2048 .f32) (harg7 : arg7.IsWhole)
  (arg8 : Memref sig .tc .vmem S1x1x2048 .f32) (harg8 : arg8.IsWhole)
  (arg9 : Memref sig .tc .vmem S2048x512 .bf16) (harg9 : arg9.IsWhole)
  (arg10 : Memref sig .tc .vmem S2048x512 .bf16) (harg10 : arg10.IsWhole)
  (arg11 : Memref sig .tc .vmem S3x512 .f32) (harg11 : arg11.IsWhole)
  (arg12 : Memref sig .tc .vmem S3x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S512x2048 .bf16) (harg15 : arg15.IsWhole)
  (arg16 : Memref sig .tc .vmem S512x2048 .f32) (harg16 : arg16.IsWhole)
  (arg17 : Memref sig .tc .vmem S544x2048 .bf16) (harg17 : arg17.IsWhole)
  (arg18 : Memref sig .tc .vmem S544x512 .f32) (harg18 : arg18.IsWhole)
  (arg19 : Memref sig .tc .vmem S544x512 .f32) (harg19 : arg19.IsWhole)
  (arg20 : Memref sig .tc .vmem S512x2048 .f32) (harg20 : arg20.IsWhole)
  (x0 : FVec Ideal S512x2048 .f32) (x1 : FVec Ideal S16x2048 .f32) (x2 : FVec Ideal S16x2048 .f32) (x3 : FVec Ideal S1x2048 .f32) (x4 : FVec Ideal S1x1x2048 .f32) (x5 : FVec Ideal S1x1x2048 .f32) (x6 : FVec Ideal S1x1x2048 .f32) (x7 : FVec Ideal S2048x512 .bf16) (x8 : FVec Ideal S2048x512 .bf16) (x9 : FVec Ideal S3x512 .f32) (x10 : FVec Ideal S3x512 .f32) (x11 : FVec Ideal S1x512 .f32) (x12 : FVec Ideal S1x512 .f32) (x13 : FVec Ideal S512x2048 .bf16)

/-- The first column tile leaves the normalised rows in the carried scratch. -/
theorem scratch_A (hc0 : cond0_0 i) (hc1 : cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 = (rows x0 x1 x2 x3 x4 x5) := by
  unfold sout0_A_0
  rw [View.read_writes_eq_canon _ _ _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13)]
  unfold kernelRun0_A
  dsimp only
  sl_unfold_words
  simp (disch := decide) only [↓ View.readCov_fill, View.readAt_eq_ld, Memref.IsWhole.read_unread, View.ld_unit_lit, View.canon_cons_unit_lit, View.readCov_eq_canon']
  rfl

/-- The first column tile starts the accumulator. -/
theorem acc_A (hc0 : cond0_0 i) (hc1 : cond0_1 i) (hc2 : ¬cond0_2 i) (hc3 : ¬cond0_3 i) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 = part i (rows x0 x1 x2 x3 x4 x5) x7 x8 x9 x10 x11 x12 x13 := by
  unfold sout0_A_3
  rw [View.read_writes_eq_canon _ _ _ (scover0_A_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13)]
  unfold kernelRun0_A
  dsimp only
  sl_unfold_words
  simp (disch := decide) only [↓ View.readCov_fill, View.readAt_eq_ld, Memref.IsWhole.read_unread, View.ld_unit_lit, View.canon_cons_unit_lit, View.readCov_eq_canon']
  unfold part tap0 tap1 tap2 from15 from16 from17 k0_pay2
  simp only [shapeCast_self]
  have e := View.ld_unit_lit (S := S544x2048) (Val := Elt Ideal) (e := .bf16) (off := ![0, 0]) inb_S544x2048_S544x2048_0_0
    (rows x0 x1 x2 x3 x4 x5) (by decide)
  refine Eq.trans (b := part i (View.ld (Val := Elt Ideal) (e' := .bf16) (rows x0 x1 x2 x3 x4 x5)
    (Rect.unit (s := S544x2048) ![0, 0] S544x2048.size inb_S544x2048_S544x2048_0_0)) x7 x8 x9 x10 x11 x12 x13) rfl ?_
  rw [e]
  unfold part tap0 tap1 tap2 from15 from16 from17
  rfl

/-- A later column tile adds to the accumulator. -/
theorem acc_B (hc0 : ¬cond0_0 i) (hc1 : ¬cond0_1 i) (hc2 : cond0_2 i) (hc3 : ¬cond0_3 i) (h : FVec Ideal S544x2048 .bf16) (acc : FVec Ideal S512x2048 .f32):
    sout0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 h acc = addf acc (part i h x7 x8 x9 x10 x11 x12 x13) := by
  unfold sout0_B_3
  rw [View.read_writes_eq_canon _ _ _ (scover0_B_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 h acc)]
  unfold kernelRun0_B
  dsimp only
  sl_unfold_words
  simp (disch := decide) only [↓ View.readCov_fill, View.readAt_eq_ld, Memref.IsWhole.read_unread, View.ld_unit_lit, View.canon_cons_unit_lit, View.readCov_eq_canon']
  unfold part tap0 tap1 tap2 from15 from16 from17 k0_pay3
  simp only [shapeCast_self]

/-- The last column tile writes the block's input plus the gate times the accumulator. -/
theorem out_C (hc0 : ¬cond0_0 i) (hc1 : ¬cond0_1 i) (hc2 : cond0_2 i) (hc3 : cond0_3 i) (h : FVec Ideal S544x2048 .bf16) (acc : FVec Ideal S512x2048 .f32):
    out0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 h acc = k0_pay4 (F := Ideal) x0 x6 (addf acc (part i h x7 x8 x9 x10 x11 x12 x13)) := by
  unfold out0_C_14
  rw [View.read_writes_eq_canon _ _ _ (cover0_C_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hc2 hc3 x0 x1 x2 x3 x4 x5 x6 x7 x8 x9 x10 x11 x12 x13 h acc)]
  unfold kernelRun0_C
  dsimp only
  sl_unfold_words
  simp (disch := decide) only [↓ View.readCov_fill, View.readAt_eq_ld, Memref.IsWhole.read_unread, View.ld_unit_lit, View.canon_cons_unit_lit, View.readCov_eq_canon']
  unfold part tap0 tap1 tap2 from15 from16 from17 k0_pay3
  simp only [shapeCast_self]

end Cert.FfnIdeal.Block

end
-- ==== Proof.Ffn.Math.lean ====
/-
  THE FEED-FORWARD PART WRITTEN AS ARITHMETIC, of one row and one column at a time: the row normalised and modulated,
  its up projection, the three-tap convolution along the row's sequence, the gate, the down projection.
-/
module

public import proofs.«01_k».proof.Proof.Ffn.Cases

@[expose] public section

set_option maxRecDepth 16384

noncomputable section

namespace Cert.Feed

open Cert.FfnIdeal Idealize.ShloMosaic Idealize.ShloMosaic.TcCoe Idealize.SL.Sem
open scoped BigOperators

/-- A row over the root of its mean square, times `g`, scaled by one plus `sc` and shifted by `sh`. -/
def normed (x g sc sh : Fin 2048 → EReal) (d : Fin 2048) : EReal :=
  x d * Ideal.rsqrt (Ideal.div (∑ e, x e * x e) (Ideal.ofBits FTy.f32 0x45000000#32) + Ideal.ofBits FTy.f32 0x358637BD#32)
    * g d * (1 + sc d) + sh d

/-- A row's product with one column. -/
def dot (h w : Fin 2048 → EReal) : EReal := ∑ d, h d * w d

/-- Three taps and a bias. -/
def taps (w0 w1 w2 b u0 u1 u2 : EReal) : EReal := w0 * u0 + w1 * u1 + w2 * u2 + b

theorem taps_congr (w0 w1 w2 b : EReal) {u0 u1 u2 v0 v1 v2 : EReal} (h0 : u0 = v0) (h1 : u1 = v1) (h2 : u2 = v2) :
    taps w0 w1 w2 b u0 u1 u2 = taps w0 w1 w2 b v0 v1 v2 := by rw [h0, h1, h2]

/-- The gate: `z` times its sigmoid, times `a`. -/
def gated (z a : EReal) : EReal := z * Ideal.logistic z * a

/-- The length of the sequence a row belongs to. -/
def len (n : ℕ) : ℕ := if n < 16384 then 2048 else 256

/-- The row's segment, whose modulation it takes. -/
def seg (n : Fin 20480) : Fin 16 := ⟨n.val / 2048, by omega⟩

/-- The row before and the row after (the first and the last stand for themselves: they begin and end a sequence). -/
def prev (n : Fin 20480) : Fin 20480 := ⟨n.val - 1, by omega⟩
def next (n : Fin 20480) : Fin 20480 := ⟨min (n.val + 1) 20479, by omega⟩

theorem len_pos (n : ℕ) : 0 < len n := by unfold len; split <;> omega

variable (x : FVec Ideal S20480x2048 .f32) (g : FVec Ideal S2048 .f32) (sc sh gt : FVec Ideal S16x1x2048 .f32)
  (up : FVec Ideal S2048x11008 .f32) (w : FVec Ideal S3x11008 .f32) (b : FVec Ideal S11008 .f32)
  (dn : FVec Ideal S5504x2048 .f32)

/-- Row `n`, normalised with the modulation of segment `s`. -/
def hrow (s : Fin 16) (n : Fin 20480) : Fin 2048 → EReal :=
  normed (fun e => x (ix2 n e)) (fun e => g (ix1 e)) (fun e => sc (ix3 s 0 e)) (fun e => sh (ix3 s 0 e))

/-- The up projection of row `n` at column `k`. -/
def hid (n : Fin 20480) (k : Fin 11008) : EReal := dot (hrow x g sc sh (seg n) n) (fun d => up (ix2 d k))

/-- The convolution along the row's sequence, zero outside it. -/
def conv (n : Fin 20480) (k : Fin 11008) : EReal :=
  taps (w (ix2 0 k)) (w (ix2 1 k)) (w (ix2 2 k)) (b (ix1 k))
    (if n.val % len n.val = 0 then 0 else hid x g sc sh up (prev n) k) (hid x g sc sh up n k)
    (if n.val % len n.val = len n.val - 1 then 0 else hid x g sc sh up (next n) k)

/-- The gated activation of row `n` at column `k` of the 5504. -/
def act (n : Fin 20480) (k : Fin 5504) : EReal :=
  gated (conv x g sc sh up w b n (⟨5504 + k.val, by omega⟩ : Fin 11008)) (conv x g sc sh up w b n (⟨k.val, by omega⟩ : Fin 11008))

/-- The part's result at row `n` and column `c`: the row plus the gated down projection of its activation. -/
def OUT (n : Fin 20480) (c : Fin 2048) : EReal :=
  x (ix2 n c) + gt (ix3 (seg n) 0 c) * ∑ k, act x g sc sh up w b n k * dn (ix2 k c)

/-- Column `k`'s share of the down projection, nothing from column 5504 on. -/
def term (n : Fin 20480) (c : Fin 2048) (k : ℕ) : EReal :=
  if h : k < 5504 then act x g sc sh up w b n ⟨k, h⟩ * dn (ix2 (⟨k, h⟩ : Fin 5504) c) else 0

/-- Summed over the eleven tiles' 5632 columns the shares are the sum over the 5504. -/
theorem sum_term (n : Fin 20480) (c : Fin 2048) :
    ∑ k ∈ Finset.range 5632, term x g sc sh up w b dn n c k = ∑ k, act x g sc sh up w b n k * dn (ix2 k c) := by
  rw [show (5632 : ℕ) = 5504 + 128 from rfl, Finset.sum_range_add,
    Finset.sum_eq_zero (s := Finset.range 128) fun k _ => dif_neg (by omega), add_zero, Finset.sum_range]
  exact Finset.sum_congr rfl fun k _ => dif_pos k.isLt

end Cert.Feed
end
-- ==== Proof.Ffn.Operands.lean ====
/-
  THE OPERANDS AS THE KERNEL FINDS THEM: the up projection, the convolution's taps and its bias in two halves of 5504
  columns, each widened with zeros to 5632, and the down projection widened with zero rows.
-/
module

public import proofs.«01_k».proof.Proof.Ffn.Math

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open scoped BigOperators

variable (m : (ℓ : Loc nD τ sig) → Buf (Elt Ideal) ℓ) (c : Dev nD)

/-- What fills the widened operands is zero. -/
theorem zero_pad : FloatOps.sitofp (F := Ideal) FTy.f32 0#32 = (0 : EReal) := by
  simp [FloatOps.sitofp]

theorem V0 : V m c main_v0 = shapeCast S1x2048 (m ((c : Thread nD τ).loc main_arg1)) shapeCasts_S2048_S1x2048 := by
  unfold V hostOps0
  after_results
  rfl

theorem V3 : V m c main_v3 = truncf .bf16 (pad S2048x5632 ![0, 0] ![0, 128] ![0, 0]
    (extractStridedSlice S2048x5504 ![0, 0] (m ((c : Thread nD τ).loc main_arg5)) slices_S2048x11008_S2048x5504_0_0 : FVec Ideal S2048x5504 .f32)
    (sitofp .f32 (constantI S_ 32 0#32) : FVec Ideal S_ .f32) pads_S2048x5504_S2048x5632_000_01280 h_S_) bitsLt_bf16_f32 := by
  unfold V hostOps0
  after_results
  rfl

theorem V6 : V m c main_v6 = truncf .bf16 (pad S2048x5632 ![0, 0] ![0, 128] ![0, 0]
    (extractStridedSlice S2048x5504 ![0, 5504] (m ((c : Thread nD τ).loc main_arg5)) slices_S2048x11008_S2048x5504_0_5504 : FVec Ideal S2048x5504 .f32)
    (sitofp .f32 (constantI S_ 32 0#32) : FVec Ideal S_ .f32) pads_S2048x5504_S2048x5632_000_01280 h_S_) bitsLt_bf16_f32 := by
  unfold V hostOps0
  after_results
  rfl

theorem V8 : V m c main_v8 = pad S3x5632 ![0, 0] ![0, 128] ![0, 0]
    (extractStridedSlice S3x5504 ![0, 0] (m ((c : Thread nD τ).loc main_arg6)) slices_S3x11008_S3x5504_0_0 : FVec Ideal S3x5504 .f32)
    (sitofp .f32 (constantI S_ 32 0#32) : FVec Ideal S_ .f32) pads_S3x5504_S3x5632_000_01280 h_S_ := by
  unfold V hostOps0
  after_results
  rfl

theorem V10 : V m c main_v10 = pad S3x5632 ![0, 0] ![0, 128] ![0, 0]
    (extractStridedSlice S3x5504 ![0, 5504] (m ((c : Thread nD τ).loc main_arg6)) slices_S3x11008_S3x5504_0_5504 : FVec Ideal S3x5504 .f32)
    (sitofp .f32 (constantI S_ 32 0#32) : FVec Ideal S_ .f32) pads_S3x5504_S3x5632_000_01280 h_S_ := by
  unfold V hostOps0
  after_results
  rfl

theorem V13 : V m c main_v13 = pad S1x5632 ![0, 0] ![0, 128] ![0, 0]
    (shapeCast S1x5504 (extractStridedSlice S5504 ![0] (m ((c : Thread nD τ).loc main_arg7)) slices_S11008_S5504_0) shapeCasts_S5504_S1x5504 : FVec Ideal S1x5504 .f32)
    (sitofp .f32 (constantI S_ 32 0#32) : FVec Ideal S_ .f32) pads_S1x5504_S1x5632_000_01280 h_S_ := by
  unfold V hostOps0
  after_results
  rfl

theorem V16 : V m c main_v16 = pad S1x5632 ![0, 0] ![0, 128] ![0, 0]
    (shapeCast S1x5504 (extractStridedSlice S5504 ![5504] (m ((c : Thread nD τ).loc main_arg7)) slices_S11008_S5504_5504) shapeCasts_S5504_S1x5504 : FVec Ideal S1x5504 .f32)
    (sitofp .f32 (constantI S_ 32 0#32) : FVec Ideal S_ .f32) pads_S1x5504_S1x5632_000_01280 h_S_ := by
  unfold V hostOps0
  after_results
  rfl

theorem V18 : V m c main_v18 = truncf .bf16 (pad S5632x2048 ![0, 0] ![128, 0] ![0, 0] ((m ((c : Thread nD τ).loc main_arg8)) : FVec Ideal S5504x2048 .f32)
    (sitofp .f32 (constantI S_ 32 0#32) : FVec Ideal S_ .f32) pads_S5504x2048_S5632x2048_01280_000 h_S_) bitsLt_bf16_f32 := by
  unfold V hostOps0
  after_results
  rfl

/-- The widened operands at an index: the argument's entry within its 5504 columns (rows), zero beyond them. -/
theorem V3_apply (r : Fin 2048) (k : Fin 5632) : V m c main_v3 (ix2 r k)
    = if h : k.val < 5504 then m ((c : Thread nD τ).loc main_arg5) (ix2 r (⟨k.val, by omega⟩ : Fin 11008)) else (0 : EReal) := by
  rw [V3, ← zero_pad]
  pointwise []

theorem V6_apply (r : Fin 2048) (k : Fin 5632) : V m c main_v6 (ix2 r k)
    = if h : k.val < 5504 then m ((c : Thread nD τ).loc main_arg5) (ix2 r (⟨5504 + k.val, by omega⟩ : Fin 11008)) else (0 : EReal) := by
  rw [V6, ← zero_pad]
  pointwise []

theorem V8_apply (r : Fin 3) (k : Fin 5632) : V m c main_v8 (ix2 r k)
    = if h : k.val < 5504 then m ((c : Thread nD τ).loc main_arg6) (ix2 r (⟨k.val, by omega⟩ : Fin 11008)) else (0 : EReal) := by
  rw [V8, ← zero_pad]
  pointwise []

theorem V10_apply (r : Fin 3) (k : Fin 5632) : V m c main_v10 (ix2 r k)
    = if h : k.val < 5504 then m ((c : Thread nD τ).loc main_arg6) (ix2 r (⟨5504 + k.val, by omega⟩ : Fin 11008)) else (0 : EReal) := by
  rw [V10, ← zero_pad]
  pointwise []

theorem V13_apply (k : Fin 5632) : V m c main_v13 (ix2 0 k)
    = if h : k.val < 5504 then m ((c : Thread nD τ).loc main_arg7) (ix1 (⟨k.val, by omega⟩ : Fin 11008)) else (0 : EReal) := by
  rw [V13, ← zero_pad]
  pointwise []

theorem V16_apply (k : Fin 5632) : V m c main_v16 (ix2 0 k)
    = if h : k.val < 5504 then m ((c : Thread nD τ).loc main_arg7) (ix1 (⟨5504 + k.val, by omega⟩ : Fin 11008)) else (0 : EReal) := by
  rw [V16, ← zero_pad]
  pointwise []

theorem widen_rows (x : FVec Ideal S5504x2048 .f32) (k : Fin 5632) (d : Fin 2048) :
    truncf .bf16 (pad S5632x2048 ![0, 0] ![128, 0] ![0, 0] x (sitofp .f32 (constantI S_ 32 0#32) : FVec Ideal S_ .f32)
      pads_S5504x2048_S5632x2048_01280_000 h_S_) bitsLt_bf16_f32 (ix2 k d)
    = if h : k.val < 5504 then x (ix2 (⟨k.val, h⟩ : Fin 5504) d) else (0 : EReal) := by
  rw [← zero_pad]
  pointwise []

theorem V18_apply (k : Fin 5632) (d : Fin 2048) : V m c main_v18 (ix2 k d)
    = if h : k.val < 5504 then m ((c : Thread nD τ).loc main_arg8) (ix2 (⟨k.val, h⟩ : Fin 5504) d) else (0 : EReal) := by
  rw [V18]
  exact widen_rows _ k d

end Cert.FfnIdeal.Block
end
-- ==== Proof.Ffn.Blocks.lean ====
/-
  WHAT THE WINDOWS' BLOCKS HOLD at a grid point, in coordinates of the arguments. The point `t` works on the row block
  `t / 11` and the column tile `t % 11`.
-/
module

public import proofs.«01_k».proof.Proof.Ffn.Operands
public import Idealize.ShloMosaic.Lib.Claim

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open Idealize.ShloMosaic.Pipeline (Dat)
open scoped BigOperators

/-- Every window's block at every point of the grid, and the point's row block. -/
theorem idx : ∀ t : Fin cfg0.N, win0_0.index t = ![t.val / 11, 0] ∧ win0_1.index t = ![t.val / 11 * 32 - 1, 0]
    ∧ win0_2.index t = ![min ((t.val / 11 + 1) * 32) 1279, 0] ∧ win0_3.index t = ![0, 0] ∧ win0_4.index t = ![t.val / 44, 0, 0]
    ∧ win0_5.index t = ![t.val / 44, 0, 0] ∧ win0_6.index t = ![t.val / 44, 0, 0] ∧ win0_7.index t = ![0, t.val % 11] :=
  (by decide +kernel : ∀ t : Fin grid0.N, _)

theorem idx' : ∀ t : Fin cfg0.N, win0_8.index t = ![0, t.val % 11] ∧ win0_9.index t = ![0, t.val % 11]
    ∧ win0_10.index t = ![0, t.val % 11] ∧ win0_11.index t = ![0, t.val % 11] ∧ win0_12.index t = ![0, t.val % 11]
    ∧ win0_13.index t = ![t.val % 11, 0] ∧ win0_14.index t = ![t.val / 11, 0] ∧ (grid0.coords t 0).val = t.val / 11 :=
  (by decide +kernel : ∀ t : Fin grid0.N, _)

variable (m : (ℓ : Loc nD τ sig) → Buf (Elt Ideal) ℓ) (c : Dev nD) (t : Fin cfg0.N)

theorem tlt : t.val < 440 := lt_of_lt_of_eq t.isLt (show cfg0.N = 440 from N_0)

/-- The three blocks of rows. -/
theorem blk0 (r : Fin 512) (e : Fin 2048) (n : Fin 20480) (hn : n.val = t.val / 11 * 512 + r.val) :
    iblk m c 0 t (ix2 r e) = m ((c : Thread nD τ).loc main_arg0) (ix2 n e) := by
  obtain ⟨n, h⟩ := n
  obtain rfl : n = _ := hn
  blk_ext! [iblk, V, idx t]

theorem blk1 (r : Fin 16) (e : Fin 2048) (n : Fin 20480) (hn : n.val = (t.val / 11 * 32 - 1) * 16 + r.val) :
    iblk m c 1 t (ix2 r e) = m ((c : Thread nD τ).loc main_arg0) (ix2 n e) := by
  obtain ⟨n, h⟩ := n
  obtain rfl : n = _ := hn
  blk_ext! [iblk, V, idx t]

theorem blk2 (r : Fin 16) (e : Fin 2048) (n : Fin 20480) (hn : n.val = min ((t.val / 11 + 1) * 32) 1279 * 16 + r.val) :
    iblk m c 2 t (ix2 r e) = m ((c : Thread nD τ).loc main_arg0) (ix2 n e) := by
  obtain ⟨n, h⟩ := n
  obtain rfl : n = _ := hn
  blk_ext! [iblk, V, idx t]

/-- The norm's weights and the segment's modulation. -/
theorem blk3_V (e : Fin 2048) : iblk m c 3 t (ix2 0 e) = V m c main_v0 (ix2 0 e) := by
  blk_ext! [iblk, idx t]

theorem V0_apply (e : Fin 2048) : V m c main_v0 (ix2 0 e) = m ((c : Thread nD τ).loc main_arg1) (ix1 e) := by
  rw [V0]
  pointwise []

theorem blk3 (e : Fin 2048) : iblk m c 3 t (ix2 0 e) = m ((c : Thread nD τ).loc main_arg1) (ix1 e) :=
  (blk3_V m c t e).trans (V0_apply m c e)

theorem blk4 (e : Fin 2048) (s : Fin 16) (hs : s.val = t.val / 44) :
    iblk m c 4 t (ix3 0 0 e) = m ((c : Thread nD τ).loc main_arg2) (ix3 s 0 e) := by
  obtain ⟨s, h⟩ := s
  obtain rfl : s = _ := hs
  blk_ext! [iblk, V, idx t]

theorem blk5 (e : Fin 2048) (s : Fin 16) (hs : s.val = t.val / 44) :
    iblk m c 5 t (ix3 0 0 e) = m ((c : Thread nD τ).loc main_arg3) (ix3 s 0 e) := by
  obtain ⟨s, h⟩ := s
  obtain rfl : s = _ := hs
  blk_ext! [iblk, V, idx t]

theorem blk6 (e : Fin 2048) (s : Fin 16) (hs : s.val = t.val / 44) :
    iblk m c 6 t (ix3 0 0 e) = m ((c : Thread nD τ).loc main_arg4) (ix3 s 0 e) := by
  obtain ⟨s, h⟩ := s
  obtain rfl : s = _ := hs
  blk_ext! [iblk, V, idx t]

/-- The column tile's operands, in the widened arrays. -/
theorem blk7 (d : Fin 2048) (q : Fin 512) (k : Fin 5632) (hk : k.val = t.val % 11 * 512 + q.val) :
    iblk m c 7 t (ix2 d q) = V m c main_v3 (ix2 d k) := by
  obtain ⟨k, h⟩ := k
  obtain rfl : k = _ := hk
  blk_ext! [iblk, idx t]

theorem blk8 (d : Fin 2048) (q : Fin 512) (k : Fin 5632) (hk : k.val = t.val % 11 * 512 + q.val) :
    iblk m c 8 t (ix2 d q) = V m c main_v6 (ix2 d k) := by
  obtain ⟨k, h⟩ := k
  obtain rfl : k = _ := hk
  blk_ext! [iblk, idx' t]

theorem blk9 (d : Fin 3) (q : Fin 512) (k : Fin 5632) (hk : k.val = t.val % 11 * 512 + q.val) :
    iblk m c 9 t (ix2 d q) = V m c main_v8 (ix2 d k) := by
  obtain ⟨k, h⟩ := k
  obtain rfl : k = _ := hk
  blk_ext! [iblk, idx' t]

theorem blk10 (d : Fin 3) (q : Fin 512) (k : Fin 5632) (hk : k.val = t.val % 11 * 512 + q.val) :
    iblk m c 10 t (ix2 d q) = V m c main_v10 (ix2 d k) := by
  obtain ⟨k, h⟩ := k
  obtain rfl : k = _ := hk
  blk_ext! [iblk, idx' t]

theorem blk11 (q : Fin 512) (k : Fin 5632) (hk : k.val = t.val % 11 * 512 + q.val) :
    iblk m c 11 t (ix2 0 q) = V m c main_v13 (ix2 0 k) := by
  obtain ⟨k, h⟩ := k
  obtain rfl : k = _ := hk
  blk_ext! [iblk, idx' t]

theorem blk12 (q : Fin 512) (k : Fin 5632) (hk : k.val = t.val % 11 * 512 + q.val) :
    iblk m c 12 t (ix2 0 q) = V m c main_v16 (ix2 0 k) := by
  obtain ⟨k, h⟩ := k
  obtain rfl : k = _ := hk
  blk_ext! [iblk, idx' t]

theorem blk13 (q : Fin 512) (d : Fin 2048) (k : Fin 5632) (hk : k.val = t.val % 11 * 512 + q.val) :
    iblk m c 13 t (ix2 q d) = V m c main_v18 (ix2 k d) := by
  obtain ⟨k, h⟩ := k
  obtain rfl : k = _ := hk
  blk_ext! [iblk, idx' t]

end Cert.FfnIdeal.Block
end
-- ==== Proof.Ffn.Scratch.lean ====
/-
  THE CARRIED SCRATCH, entry by entry: its 544 rows are the normalised rows of the three blocks of `x`.
-/
module

public import proofs.«01_k».proof.Proof.Ffn.Math

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open scoped BigOperators

section Rows
variable (x0 : FVec Ideal S512x2048 .f32) (x1 x2 : FVec Ideal S16x2048 .f32) (x3 : FVec Ideal S1x2048 .f32)
    (x4 x5 : FVec Ideal S1x1x2048 .f32)

/-- A row normalised with the block's modulation. -/
def nrow (x : Fin 2048 → EReal) : Fin 2048 → EReal :=
  normed x (fun e => x3 (ix2 0 e)) (fun e => x4 (ix3 0 0 e)) (fun e => x5 (ix3 0 0 e))

theorem mid_apply (r : Fin 512) (d : Fin 2048) :
    k0_pay8 (F := Ideal) x0 (k0_pay6 x3) (k0_pay7 x4) x5 (ix2 r d) = nrow x3 x4 x5 (fun e => x0 (ix2 r e)) d := by
  pointwise [k0_pay8, k0_pay6, k0_pay7, nrow, normed]

theorem lo_apply (r : Fin 16) (d : Fin 2048) :
    k0_pay5 (F := Ideal) x1 x3 x4 x5 (ix2 r d) = nrow x3 x4 x5 (fun e => x1 (ix2 r e)) d := by
  pointwise [k0_pay5, nrow, normed]

theorem hi_apply (r : Fin 16) (d : Fin 2048) :
    k0_pay13 (F := Ideal) x2 (k0_pay9 x3) (k0_pay10 x4) (k0_pay11 x5) (k0_pay12 x2) (ix2 r d)
      = nrow x3 x4 x5 (fun e => x2 (ix2 r e)) d := by
  pointwise [k0_pay13, k0_pay9, k0_pay10, k0_pay11, k0_pay12, nrow, normed]

/-- The row of `x` behind a scratch row. -/
def src (R : Fin 544) (e : Fin 2048) : EReal :=
  if h : R.val < 16 then x1 (ix2 (⟨R.val, h⟩ : Fin 16) e)
  else if h' : R.val < 528 then x0 (ix2 (⟨R.val - 16, by omega⟩ : Fin 512) e)
  else x2 (ix2 (⟨R.val - 528, by omega⟩ : Fin 16) e)

theorem src_lo (R : Fin 544) (k : Fin 16) (h : R.val = k.val) : (fun e => x1 (ix2 k e)) = src x0 x1 x2 R := by
  funext e
  have := k.isLt
  unfold src
  rw [dif_pos (by omega)]
  exact congrArg (fun k => x1 (ix2 k e)) (Fin.ext h.symm)

theorem src_mid (R : Fin 544) (k : Fin 512) (h : R.val = 16 + k.val) : (fun e => x0 (ix2 k e)) = src x0 x1 x2 R := by
  funext e
  have := k.isLt
  unfold src
  rw [dif_neg (by omega), dif_pos (by omega)]
  exact congrArg (fun k => x0 (ix2 k e)) (Fin.ext (by show _ = _ - 16; omega))

theorem src_hi (R : Fin 544) (k : Fin 16) (h : R.val = 528 + k.val) : (fun e => x2 (ix2 k e)) = src x0 x1 x2 R := by
  funext e
  have := k.isLt
  unfold src
  rw [dif_neg (by omega), dif_neg (by omega)]
  exact congrArg (fun k => x2 (ix2 k e)) (Fin.ext (by show _ = _ - 528; omega))

theorem rows_apply (R : Fin 544) (d : Fin 2048) :
    rows x0 x1 x2 x3 x4 x5 (ix2 R d) = nrow x3 x4 x5 (src x0 x1 x2 R) d := by
  unfold rows
  refine View.canon_apply_of_pieces (Val := Elt Ideal) (e := .bf16)
    (fun y : S544x2048.Idx => nrow x3 x4 x5 (src x0 x1 x2 (y 0)) (y 1)) _ ?_ (ix2 R d) ?_
  · intro p hp
    rcases List.mem_cons.1 hp with rfl | hp
    · intro y
      refine (congrArg _ (eq_ix2 y)).trans ((hi_apply x2 x3 x4 x5 (y 0) (y 1)).trans ?_)
      have e1 : ((Rect.unit (s := S544x2048) ![528, 0] S16x2048.size inb_S544x2048_S16x2048_528_0).emb y 1 : Fin 2048) = y 1 := Fin.ext (by blk_simp)
      have e0 : ((Rect.unit (s := S544x2048) ![528, 0] S16x2048.size inb_S544x2048_S16x2048_528_0).emb y 0 : Fin 544).val = 528 + (y 0).val := by blk_simp
      exact congrArg₂ (fun f k => nrow x3 x4 x5 f k) (src_hi x0 x1 x2 _ (y 0) e0) e1.symm
    rcases List.mem_cons.1 hp with rfl | hp
    · intro y
      refine (congrArg _ (eq_ix2 y)).trans ((mid_apply x0 x3 x4 x5 (y 0) (y 1)).trans ?_)
      have e1 : ((Rect.unit (s := S544x2048) ![16, 0] S512x2048.size inb_S544x2048_S512x2048_16_0).emb y 1 : Fin 2048) = y 1 := Fin.ext (by blk_simp)
      have e0 : ((Rect.unit (s := S544x2048) ![16, 0] S512x2048.size inb_S544x2048_S512x2048_16_0).emb y 0 : Fin 544).val = 16 + (y 0).val := by blk_simp
      exact congrArg₂ (fun f k => nrow x3 x4 x5 f k) (src_mid x0 x1 x2 _ (y 0) e0) e1.symm
    rcases List.mem_singleton.1 hp with rfl
    · intro y
      refine (congrArg _ (eq_ix2 y)).trans ((lo_apply x1 x3 x4 x5 (y 0) (y 1)).trans ?_)
      have e1 : ((Rect.unit (s := S544x2048) ![0, 0] S16x2048.size inb_S544x2048_S16x2048_0_0).emb y 1 : Fin 2048) = y 1 := Fin.ext (by blk_simp)
      have e0 : ((Rect.unit (s := S544x2048) ![0, 0] S16x2048.size inb_S544x2048_S16x2048_0_0).emb y 0 : Fin 544).val = (y 0).val := by blk_simp
      exact congrArg₂ (fun f k => nrow x3 x4 x5 f k) (src_lo x0 x1 x2 _ (y 0) e0) e1.symm
  · by_cases h : R.val < 16
    · have hm : (ix2 R d : S544x2048.Idx) ∈ (Rect.unit (s := S544x2048) ![0, 0] S16x2048.size inb_S544x2048_S16x2048_0_0).set := by
        refine Rect.mem_set_unit.2 fun a => ?_
        match a with
        | ⟨0, _⟩ => exact ⟨Nat.zero_le _, by show R.val < 0 + 16; omega⟩
        | ⟨1, _⟩ => exact ⟨Nat.zero_le _, by show d.val < 0 + 2048; omega⟩
      exact ⟨_, List.mem_cons_of_mem _ (List.mem_cons_of_mem _ (List.mem_singleton.2 rfl)), hm⟩
    · by_cases h' : R.val < 528
      · have hm : (ix2 R d : S544x2048.Idx) ∈ (Rect.unit (s := S544x2048) ![16, 0] S512x2048.size inb_S544x2048_S512x2048_16_0).set := by
          refine Rect.mem_set_unit.2 fun a => ?_
          match a with
          | ⟨0, _⟩ => exact ⟨by show 16 ≤ R.val; omega, by show R.val < 16 + 512; omega⟩
          | ⟨1, _⟩ => exact ⟨Nat.zero_le _, by show d.val < 0 + 2048; omega⟩
        exact ⟨_, List.mem_cons_of_mem _ (List.mem_cons_self ..), hm⟩
      · have hm : (ix2 R d : S544x2048.Idx) ∈ (Rect.unit (s := S544x2048) ![528, 0] S16x2048.size inb_S544x2048_S16x2048_528_0).set := by
          refine Rect.mem_set_unit.2 fun a => ?_
          match a with
          | ⟨0, _⟩ => exact ⟨by show 528 ≤ R.val; omega, by show R.val < 528 + 16; omega⟩
          | ⟨1, _⟩ => exact ⟨Nat.zero_le _, by show d.val < 0 + 2048; omega⟩
        exact ⟨_, List.mem_cons_self .., hm⟩

end Rows

end Cert.FfnIdeal.Block
end
-- ==== Proof.Ffn.Words.lean ====
/-
  A ROW'S PLACE IN ITS SEQUENCE, which the kernel computes in 32-bit words, is the row's number modulo the length.
-/
module

public import proofs.«01_k».proof.Proof.Ffn.Math

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open scoped BigOperators

/-- A row's number as the kernel's 32-bit word, and the length of its sequence. -/
def rowWord (i r : ℕ) : BitVec 32 := IntOp.addi (Scalar.muli (BitVec.ofNat 32 i) 512#32) (BitVec.ofNat 32 r)
def lenWord (i r : ℕ) : BitVec 32 := Scalar.select (IntOp.cmpi CmpIPredicate.slt (rowWord i r) 16384#32) 2048#32 256#32

theorem rem_word_fin : ∀ (i : Fin 40) (r : Fin 512), IntOp.remsi ArithUnit.vector (rowWord i.val r.val) (lenWord i.val r.val)
    = BitVec.ofNat 32 ((i.val * 512 + r.val) % len (i.val * 512 + r.val)) := by
  decide +kernel

theorem last_word_fin : ∀ (i : Fin 40) (r : Fin 512), IntOp.subi (lenWord i.val r.val) 1#32
    = BitVec.ofNat 32 (len (i.val * 512 + r.val) - 1) := by
  decide +kernel

/-- The row's place in its sequence, and the sequence's last place, as words. -/
theorem rem_word (i r : ℕ) (hi : i < 40) (hr : r < 512) : IntOp.remsi ArithUnit.vector (rowWord i r) (lenWord i r)
    = BitVec.ofNat 32 ((i * 512 + r) % len (i * 512 + r)) := rem_word_fin ⟨i, hi⟩ ⟨r, hr⟩

theorem last_word (i r : ℕ) (hi : i < 40) (hr : r < 512) : IntOp.subi (lenWord i r) 1#32
    = BitVec.ofNat 32 (len (i * 512 + r) - 1) := last_word_fin ⟨i, hi⟩ ⟨r, hr⟩

end Cert.FfnIdeal.Block
end
-- ==== Proof.Ffn.Masks.lean ====
/-
  THE KERNEL'S MASKS: the row's place in its sequence, computed in 32-bit words, says "first row" and "last row" of the
  sequence as a zero to multiply with, any other row as a one.
-/
module

public import proofs.«01_k».proof.Proof.Ffn.Words

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open scoped BigOperators

/-- "The words differ", read as a number. -/
theorem differ (a b : ℕ) (ha : a < 2048) (hb : b < 2048) :
    FloatOps.sitofp (F := Ideal) FTy.f32 (BitVec.setWidth 32 (IntOp.cmpi CmpIPredicate.ne (BitVec.ofNat 32 a) (BitVec.ofNat 32 b)))
      = if a = b then (0 : EReal) else 1 := by
  by_cases h : a = b
  · subst h
    rw [if_pos rfl]
    simp [IntOp.cmpi, FloatOps.sitofp]
  · rw [if_neg h]
    have : BitVec.ofNat 32 a ≠ BitVec.ofNat 32 b := fun e => h (by
      have := congrArg BitVec.toNat e
      simp only [BitVec.toNat_ofNat] at this
      omega)
    have e : (BitVec.ofNat 32 a != BitVec.ofNat 32 b) = true := by simpa using this
    simp [IntOp.cmpi, FloatOps.sitofp, e]

theorem len_le (n : ℕ) : len n ≤ 2048 := by unfold len; split <;> omega

section Pay
variable (i : grid0.Coords) (r : Fin 512)

/-- Zero on a sequence's first row, one elsewhere; and the same of its last row. -/
def notFirst (n : ℕ) : EReal := if n % len n = 0 then 0 else 1
def notLast (n : ℕ) : EReal := if n % len n = len n - 1 then 0 else 1

theorem first_mask : FloatOps.sitofp (F := Ideal) FTy.f32 (BitVec.setWidth 32 (IntOp.cmpi CmpIPredicate.ne
      (IntOp.remsi ArithUnit.vector (rowWord (i 0).val r.val) (lenWord (i 0).val r.val)) 0#32)) = notFirst ((i 0).val * 512 + r.val) := by
  rw [rem_word _ _ (i 0).isLt r.isLt]
  exact differ _ 0 (lt_of_lt_of_le (Nat.mod_lt _ (len_pos _)) (len_le _)) (by omega)

theorem last_mask : FloatOps.sitofp (F := Ideal) FTy.f32 (BitVec.setWidth 32 (IntOp.cmpi CmpIPredicate.ne
      (IntOp.remsi ArithUnit.vector (rowWord (i 0).val r.val) (lenWord (i 0).val r.val)) (IntOp.subi (lenWord (i 0).val r.val) 1#32)))
        = notLast ((i 0).val * 512 + r.val) := by
  rw [rem_word _ _ (i 0).isLt r.isLt, last_word _ _ (i 0).isLt r.isLt]
  have := len_le ((i 0).val * 512 + r.val)
  exact differ _ _ (lt_of_lt_of_le (Nat.mod_lt _ (len_pos _)) (len_le _)) (by omega)

theorem pay19_apply : k0_pay19 (F := Ideal) i (ix2 r 0) = notFirst ((i 0).val * 512 + r.val) := by
  rw [← first_mask]
  pointwise [k0_pay19, k0_pay18, k0_pay17, k0_pay16, rowWord, lenWord]

theorem pay20_apply : k0_pay20 (F := Ideal) i (ix2 r 0) = notLast ((i 0).val * 512 + r.val) := by
  rw [← last_mask]
  pointwise [k0_pay20, k0_pay18, k0_pay17, k0_pay16, rowWord, lenWord]

theorem pay22_apply : k0_pay22 (F := Ideal) (k0_pay17 i) (k0_pay18 i) (ix2 r 0) = notLast ((i 0).val * 512 + r.val) := by
  rw [← last_mask]
  pointwise [k0_pay22, k0_pay18, k0_pay17, k0_pay16, rowWord, lenWord]

theorem pay23_apply (u : FVec Ideal S512x512 .f32) (q : Fin 512) :
    k0_pay23 (F := Ideal) (k0_pay18 i) u (ix2 r q) = u (ix2 r q) * notFirst ((i 0).val * 512 + r.val) := by
  rw [← first_mask]
  pointwise [k0_pay23, k0_pay18, k0_pay17, k0_pay16, rowWord, lenWord]

end Pay

end Cert.FfnIdeal.Block
end
-- ==== Proof.Ffn.Part.lean ====
/-
  ONE COLUMN TILE'S CONTRIBUTION at a row and a column: the sum over the tile's 512 columns of the gated convolution of
  the scratch's up projections, times the down projection's entry.
-/
module

public import proofs.«01_k».proof.Proof.Ffn.Masks

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open scoped BigOperators

/-- One tap of a tile's convolution: the row before masked, the row itself, the row after masked. -/
def tapped (n : ℕ) (u : Fin 544 → EReal) (r : Fin 512) (w0 w1 w2 b : EReal) : EReal :=
  taps w0 w1 w2 b (u (⟨15 + r.val, by omega⟩ : Fin 544) * notFirst n) (u (⟨16 + r.val, by omega⟩ : Fin 544))
    (u (⟨17 + r.val, by omega⟩ : Fin 544) * notLast n)

section Part
variable (i : grid0.Coords) (h : FVec Ideal S544x2048 .bf16) (x7 x8 : FVec Ideal S2048x512 .bf16) (x9 x10 : FVec Ideal S3x512 .f32)
    (x11 x12 : FVec Ideal S1x512 .f32) (x13 : FVec Ideal S512x2048 .bf16)

/-- The convolution of the tile's column `q` at the block's row `r`. -/
def tconv (i : grid0.Coords) (h : FVec Ideal S544x2048 .bf16) (up : FVec Ideal S2048x512 .bf16) (w : FVec Ideal S3x512 .f32)
    (b : FVec Ideal S1x512 .f32) (r q : Fin 512) : EReal :=
  tapped ((i 0).val * 512 + r.val) (fun R => dot (fun d => h (ix2 R d)) (fun d => up (ix2 d q))) r
    (w (ix2 0 q)) (w (ix2 1 q)) (w (ix2 2 q)) (b (ix2 0 q))

theorem up14_apply (R : Fin 544) (q : Fin 512) :
    k0_pay14 (F := Ideal) h x7 (ix2 R q) = dot (fun d => h (ix2 R d)) (fun d => x7 (ix2 d q)) := by
  pointwise [k0_pay14, dot]
theorem up15_apply (R : Fin 544) (q : Fin 512) :
    k0_pay15 (F := Ideal) h x8 (ix2 R q) = dot (fun d => h (ix2 R d)) (fun d => x8 (ix2 d q)) := by
  pointwise [k0_pay15, dot]
theorem from15_apply (u : FVec Ideal S544x512 .f32) (r q : Fin 512) : from15 u (ix2 r q) = u (ix2 (⟨15 + r.val, by omega⟩ : Fin 544) q) := by
  pointwise [from15]
theorem from16_apply (u : FVec Ideal S544x512 .f32) (r q : Fin 512) : from16 u (ix2 r q) = u (ix2 (⟨16 + r.val, by omega⟩ : Fin 544) q) := by
  pointwise [from16]
theorem from17_apply (u : FVec Ideal S544x512 .f32) (r q : Fin 512) : from17 u (ix2 r q) = u (ix2 (⟨17 + r.val, by omega⟩ : Fin 544) q) := by
  pointwise [from17]
theorem tap0_apply (w : FVec Ideal S3x512 .f32) (q : Fin 512) : tap0 w (ix2 0 q) = w (ix2 0 q) := by
  pointwise [tap0]
theorem tap1_apply (w : FVec Ideal S3x512 .f32) (q : Fin 512) : tap1 w (ix2 0 q) = w (ix2 1 q) := by
  pointwise [tap1]
theorem tap2_apply (w : FVec Ideal S3x512 .f32) (q : Fin 512) : tap2 w (ix2 0 q) = w (ix2 2 q) := by
  pointwise [tap2]

/-- The first half's convolution, as the kernel forms it. -/
theorem value_apply (r q : Fin 512) :
    k0_pay21 (F := Ideal) (k0_pay19 i) (k0_pay20 i) (tap0 x9) (from15 (k0_pay14 h x7)) (tap1 x9) (from16 (k0_pay14 h x7)) (tap2 x9)
      (from17 (k0_pay14 h x7)) x11 (ix2 r q) = tconv i h x7 x9 x11 r q := by
  have e : ∀ (v29 v34 : FVec Ideal S512x1 .f32) (v35 v42 v48 v56 : FVec Ideal S1x512 .f32) (v37 v44 v50 : FVec Ideal S512x512 .f32),
      k0_pay21 (F := Ideal) v29 v34 v35 v37 v42 v44 v48 v50 v56 (ix2 r q)
        = taps (v35 (ix2 0 q)) (v42 (ix2 0 q)) (v48 (ix2 0 q)) (v56 (ix2 0 q)) (v37 (ix2 r q) * v29 (ix2 r 0)) (v44 (ix2 r q))
            (v50 (ix2 r q) * v34 (ix2 r 0)) := by
    intros
    pointwise [k0_pay21, taps]
  rw [e, pay19_apply, pay20_apply, tap0_apply, tap1_apply, tap2_apply, from15_apply, from16_apply, from17_apply, up14_apply,
    up14_apply, up14_apply]
  rfl

/-- A tile's contribution at row `r` and column `c`. -/
theorem part_apply (r : Fin 512) (c : Fin 2048) :
    part i h x7 x8 x9 x10 x11 x12 x13 (ix2 r c)
      = ∑ q, gated (tconv i h x8 x10 x12 r q) (tconv i h x7 x9 x11 r q) * x13 (ix2 q c) := by
  have e : ∀ (v59 : FVec Ideal S512x512 .f32) (v68 : FVec Ideal S512x1 .f32) (v73 v74 : FVec Ideal S512x512 .f32)
      (v76 : FVec Ideal S1x512 .f32) (v78 : FVec Ideal S512x512 .f32) (v82 : FVec Ideal S1x512 .f32) (v84 : FVec Ideal S512x512 .f32)
      (v90 : FVec Ideal S1x512 .f32) (v98 : FVec Ideal S512x2048 .bf16),
      k0_pay1 (F := Ideal) v59 v68 v73 v74 v76 v78 v82 v84 v90 v98 (ix2 r c)
        = ∑ q, gated (taps (v74 (ix2 r q)) (v76 (ix2 0 q)) (v82 (ix2 0 q)) (v90 (ix2 0 q)) (v73 (ix2 r q)) (v78 (ix2 r q))
            (v84 (ix2 r q) * v68 (ix2 r 0))) (v59 (ix2 r q)) * v98 (ix2 q c) := by
    intros
    pointwise [k0_pay1, gated, taps]
  have e24 : ∀ q : Fin 512, k0_pay24 (F := Ideal) (tap0 x10) (ix2 r q) = x10 (ix2 0 q) := by
    intro q
    rw [← tap0_apply x10 q]
    generalize tap0 x10 = w
    pointwise [k0_pay24]
  rw [part, e]
  refine Finset.sum_congr rfl fun q _ => ?_
  rw [value_apply, pay22_apply, pay23_apply, e24, tap1_apply, tap2_apply, from15_apply, from16_apply, from17_apply, up15_apply,
    up15_apply, up15_apply]
  rfl

end Part
end Cert.FfnIdeal.Block
end
-- ==== Proof.Ffn.Steps.lean ====
/-
  FROM ONE GRID POINT TO THE NEXT: what the carried scratch, the accumulator and the result's block are after a point, in
  terms of the point's blocks and of what the point before left.
-/
module

public import proofs.«01_k».proof.Proof.Ffn.Cases

@[expose] public section

set_option maxRecDepth 16384

noncomputable section

namespace Cert.FfnIdeal.Block

open Cert.FfnIdeal Cert.FfnIdeal.Gen Idealize.ShloMosaic Idealize.ShloMosaic.TcCoe Idealize.SL.Sem

variable (m : (ℓ : Loc nD τ sig) → Buf (Elt Ideal) ℓ) (c : Dev nD) (t : Fin cfg0.N)

/-- The scratch a row block's first point leaves. -/
def block : FVec Ideal S544x2048 .bf16 :=
  rows (iblk m c 0 t) (iblk m c 1 t) (iblk m c 2 t) (iblk m c 3 t) (iblk m c 4 t) (iblk m c 5 t)

/-- A point's contribution, over a scratch. -/
def contrib (h : FVec Ideal S544x2048 .bf16) : FVec Ideal S512x2048 .f32 :=
  part (grid0.coords t) h (iblk m c 7 t) (iblk m c 8 t) (iblk m c 9 t) (iblk m c 10 t) (iblk m c 11 t) (iblk m c 12 t) (iblk m c 13 t)

theorem before_lt : t.val - 1 < cfg0.N := Nat.lt_of_le_of_lt (Nat.sub_le _ _) t.isLt

theorem first_scratch (h : t.val % 11 = 0) : (outsAt0 m c t.val t.isLt).2.1 = block m c t := by
  rw [outsAt0_A m c t h h (by omega) (by omega)]
  dsimp only
  exact scratch_A ..

theorem first_acc (h : t.val % 11 = 0) : (outsAt0 m c t.val t.isLt).2.2 = contrib m c t (block m c t) := by
  rw [outsAt0_A m c t h h (by omega) (by omega)]
  dsimp only
  exact acc_A ..

theorem later_scratch (h : ¬t.val % 11 = 0) (h' : ¬t.val % 11 = 10) :
    (outsAt0 m c t.val t.isLt).2.1 = (outsAt0 m c (t.val - 1) (before_lt t)).2.1 := by
  rw [outsAt0_B m c t h h (by omega) h']
  dsimp only
  rfl

theorem later_acc (h : ¬t.val % 11 = 0) (h' : ¬t.val % 11 = 10) :
    (outsAt0 m c t.val t.isLt).2.2 = addf (outsAt0 m c (t.val - 1) (before_lt t)).2.2
      (contrib m c t (outsAt0 m c (t.val - 1) (before_lt t)).2.1) := by
  rw [outsAt0_B m c t h h (by omega) h']
  dsimp only
  exact acc_B ..

theorem last_out (h : t.val % 11 = 10) :
    (outsAt0 m c t.val t.isLt).1 = k0_pay4 (F := Ideal) (iblk m c 0 t) (iblk m c 6 t)
      (addf (outsAt0 m c (t.val - 1) (before_lt t)).2.2 (contrib m c t (outsAt0 m c (t.val - 1) (before_lt t)).2.1)) := by
  rw [outsAt0_C m c t (by omega) (by omega) (by omega) h]
  dsimp only
  exact out_C ..

end Cert.FfnIdeal.Block
end
-- ==== Proof.Ffn.Array.lean ====
/-
  WHAT THE RESULT ARRAY HOLDS after the run: the feed-forward part's result `OUT` of the nine arguments. A row block's
  eleven column tiles add up to the sum over all columns; the last one writes the block.
-/
module

public import proofs.«01_k».proof.Proof.Ffn.Blocks
public import proofs.«01_k».proof.Proof.Ffn.Scratch
public import proofs.«01_k».proof.Proof.Ffn.Part
public import proofs.«01_k».proof.Proof.Ffn.Steps

@[expose] public section

set_option maxRecDepth 16384

noncomputable section

namespace Cert.FfnIdeal.Block

open Cert.FfnIdeal Cert.FfnIdeal.Gen Cert.Feed Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

/-- The arguments. -/
abbrev aX : FVec Ideal S20480x2048 .f32 := m ((c : Thread nD τ).loc main_arg0)
abbrev aG : FVec Ideal S2048 .f32 := m ((c : Thread nD τ).loc main_arg1)
abbrev aSc : FVec Ideal S16x1x2048 .f32 := m ((c : Thread nD τ).loc main_arg2)
abbrev aSh : FVec Ideal S16x1x2048 .f32 := m ((c : Thread nD τ).loc main_arg3)
abbrev aGt : FVec Ideal S16x1x2048 .f32 := m ((c : Thread nD τ).loc main_arg4)
abbrev aUp : FVec Ideal S2048x11008 .f32 := m ((c : Thread nD τ).loc main_arg5)
abbrev aW : FVec Ideal S3x11008 .f32 := m ((c : Thread nD τ).loc main_arg6)
abbrev aB : FVec Ideal S11008 .f32 := m ((c : Thread nD τ).loc main_arg7)
abbrev aDn : FVec Ideal S5504x2048 .f32 := m ((c : Thread nD τ).loc main_arg8)

/-- A scratch row that lies in the block's own segment is the argument's row, normalised. -/
theorem row_at (t : Fin cfg0.N) (R : Fin 544) (n : Fin 20480) (hn : n.val + 16 = t.val / 11 * 512 + R.val)
    (hs : n.val / 2048 = t.val / 44) :
    (fun d => block m c t (ix2 R d)) = hrow (aX m c) (aG m c) (aSc m c) (aSh m c) (seg n) n := by
  have ht := tlt t
  have hR := R.isLt
  have hnl := n.isLt
  funext d
  unfold block
  rw [rows_apply]
  unfold nrow hrow
  congr 1
  · funext e
    unfold src
    by_cases h : R.val < 16
    · rw [dif_pos h]
      exact blk1 m c t _ e n (by show _ = _ + R.val; omega)
    · rw [dif_neg h]
      by_cases h' : R.val < 528
      · rw [dif_pos h']
        exact blk0 m c t _ e n (by show _ = _ + (R.val - 16); omega)
      · rw [dif_neg h']
        exact blk2 m c t _ e n (by show _ = _ + (R.val - 528); omega)
  · exact funext fun e => blk3 m c t e
  · exact funext fun e => blk4 m c t e (seg n) hs
  · exact funext fun e => blk5 m c t e (seg n) hs

/-- A tile's convolution of one column is the layer's: the rows outside the sequence are masked to zero. -/
theorem tconv_eq (t t' : Fin cfg0.N) (ht : t'.val / 11 = t.val / 11) (r q : Fin 512) (n : Fin 20480) (hn : n.val = t.val / 11 * 512 + r.val)
    (k : Fin 11008) (up : FVec Ideal S2048x512 .bf16) (w : FVec Ideal S3x512 .f32) (b : FVec Ideal S1x512 .f32)
    (hup : ∀ d, up (ix2 d q) = aUp m c (ix2 d k)) (hw : ∀ a, w (ix2 a q) = aW m c (ix2 a k)) (hb : b (ix2 0 q) = aB m c (ix1 k)) :
    tconv (grid0.coords t) (block m c t') up w b r q
      = conv (aX m c) (aG m c) (aSc m c) (aSh m c) (aUp m c) (aW m c) (aB m c) n k := by
  have hlt := tlt t
  have hr := r.isLt
  have hnl := n.isLt
  have hi : (grid0.coords t 0).val * 512 + r.val = n.val := by rw [(idx' t).2.2.2.2.2.2.2, hn]
  have hid_at : ∀ (R : Fin 544) (n' : Fin 20480), n'.val + 16 = t'.val / 11 * 512 + R.val → n'.val / 2048 = t'.val / 44 →
      dot (fun d => block m c t' (ix2 R d)) (fun d => up (ix2 d q)) = hid (aX m c) (aG m c) (aSc m c) (aSh m c) (aUp m c) n' k := by
    intro R n' h1 h2
    rw [row_at m c t' R n' h1 h2, hid]
    exact congrArg (dot _) (funext fun d => hup d)
  have hlen : len n.val = 2048 ∨ len n.val = 256 := by unfold len; split <;> simp
  have hlen' : n.val < 16384 → len n.val = 2048 := fun h => if_pos h
  unfold tconv tapped conv
  rw [hi, hw, hw, hw, hb]
  refine taps_congr _ _ _ _ ?_ ?_ ?_
  · unfold notFirst
    by_cases h : n.val % len n.val = 0
    · rw [if_pos h, if_pos h, mul_zero]
    · rw [if_neg h, if_neg h, mul_one]
      have h0 : n.val % 2048 ≠ 0 := by rcases hlen with e | e <;> rw [e] at h <;> omega
      exact hid_at _ (prev n) (by show n.val - 1 + 16 = _ + (15 + r.val); omega) (by show (n.val - 1) / 2048 = _; omega)
  · exact hid_at _ n (by show n.val + 16 = _ + (16 + r.val); omega) (by omega)
  · unfold notLast
    by_cases h : n.val % len n.val = len n.val - 1
    · rw [if_pos h, if_pos h, mul_zero]
    · rw [if_neg h, if_neg h, mul_one]
      have h0 : n.val % 2048 ≠ 2047 := by rcases hlen with e | e <;> rw [e] at h <;> omega
      have h1 : n.val ≠ 20479 := fun e => h (by
        have : len n.val = 256 := if_neg (by omega)
        omega)
      exact hid_at _ (next n) (by show min (n.val + 1) 20479 + 16 = _ + (17 + r.val); omega)
        (by show min (n.val + 1) 20479 / 2048 = _; omega)

/-- The share of column `k` in the result's row `n` and column `d`. -/
abbrev share (n : Fin 20480) (d : Fin 2048) (k : ℕ) : EReal :=
  term (aX m c) (aG m c) (aSc m c) (aSh m c) (aUp m c) (aW m c) (aB m c) (aDn m c) n d k

/-- The tile's contribution is the sum of its 512 columns' shares. -/
theorem part_eq (t t' : Fin cfg0.N) (ht : t'.val / 11 = t.val / 11) (r : Fin 512) (d : Fin 2048) (n : Fin 20480) (hn : n.val = t.val / 11 * 512 + r.val) :
    contrib m c t (block m c t') (ix2 r d)
      = ∑ q ∈ Finset.range 512, share m c n d (t.val % 11 * 512 + q) := by
  rw [contrib, part_apply, Finset.sum_range]
  refine Finset.sum_congr rfl fun q _ => ?_
  have hq := q.isLt
  have hk : t.val % 11 * 512 + q.val < 5632 := by omega
  have e13 := (blk13 m c t q d ⟨_, hk⟩ rfl).trans (V18_apply m c _ d)
  unfold share term
  by_cases h : t.val % 11 * 512 + q.val < 5504
  · rw [dif_pos h] at e13 ⊢
    refine congrArg₂ (· * ·) ?_ e13
    unfold act
    refine congrArg₂ gated ?_ ?_
    · exact tconv_eq m c t t' ht r q n hn _ _ _ _
        (fun d => (blk8 m c t d q ⟨_, hk⟩ rfl).trans ((V6_apply m c d _).trans (dif_pos h)))
        (fun a => (blk10 m c t a q ⟨_, hk⟩ rfl).trans ((V10_apply m c a _).trans (dif_pos h)))
        ((blk12 m c t q ⟨_, hk⟩ rfl).trans ((V16_apply m c _).trans (dif_pos h)))
    · exact tconv_eq m c t t' ht r q n hn _ _ _ _
        (fun d => (blk7 m c t d q ⟨_, hk⟩ rfl).trans ((V3_apply m c d _).trans (dif_pos h)))
        (fun a => (blk9 m c t a q ⟨_, hk⟩ rfl).trans ((V8_apply m c a _).trans (dif_pos h)))
        ((blk11 m c t q ⟨_, hk⟩ rfl).trans ((V13_apply m c _).trans (dif_pos h)))
  · rw [dif_neg h] at e13 ⊢
    rw [e13, mul_zero]

/-- The first point of a row block, by a point of it. -/
def start (n : ℕ) (hn : n < cfg0.N) : Fin cfg0.N := ⟨n / 11 * 11, lt_of_le_of_lt (Nat.div_mul_le_self n 11) hn⟩

/-- Before the block's last tile: the scratch is the block's, and the accumulator is the sum of the tiles so far. -/
def Carried (n : ℕ) (hn : n < cfg0.N) : Prop :=
  (outsAt0 m c n hn).2.1 = block m c (start n hn)
    ∧ ∀ (r : Fin 512) (d : Fin 2048) (N : Fin 20480), N.val = n / 11 * 512 + r.val →
        (outsAt0 m c n hn).2.2 (ix2 r d) = ∑ k ∈ Finset.range (n % 11 * 512 + 512), share m c N d k

theorem carried_first (t : Fin cfg0.N) (h : t.val % 11 = 0) : Carried m c t.val t.isLt := by
  refine ⟨(first_scratch m c t h).trans (congrArg (block m c) (Fin.ext (by show t.val = t.val / 11 * 11; omega))), fun r d N hN => ?_⟩
  rw [first_acc m c t h, part_eq m c t t rfl r d N hN, h, Nat.zero_mul, Nat.zero_add]
  exact Finset.sum_congr rfl fun q _ => by rw [Nat.zero_add]

theorem carried_later (t : Fin cfg0.N) (h : ¬t.val % 11 = 0) (h' : ¬t.val % 11 = 10) (ih : Carried m c (t.val - 1) (before_lt t)) :
    Carried m c t.val t.isLt := by
  obtain ⟨i1, i2⟩ := ih
  have hs : start (t.val - 1) (before_lt t) = start t.val t.isLt := Fin.ext (by show (t.val - 1) / 11 * 11 = t.val / 11 * 11; omega)
  refine ⟨(later_scratch m c t h h').trans (i1.trans (congrArg (block m c) hs)), fun r d N hN => ?_⟩
  rw [later_acc m c t h h', i1]
  refine (congrArg₂ (· + ·) (i2 r d N (by omega))
    (part_eq m c t (start (t.val - 1) (before_lt t)) (by show (t.val - 1) / 11 * 11 / 11 = t.val / 11; omega) r d N hN)).trans ?_
  rw [show (t.val - 1) % 11 * 512 + 512 = t.val % 11 * 512 by omega, Finset.sum_range_add]

theorem carried (n : ℕ) (hn : n < cfg0.N) (h10 : n % 11 < 10) : Carried m c n hn := by
  induction n with
  | zero => exact carried_first m c ⟨0, hn⟩ (Nat.zero_mod _)
  | succ n ih =>
    by_cases h : (n + 1) % 11 = 0
    · exact carried_first m c ⟨n + 1, hn⟩ h
    · exact carried_later m c ⟨n + 1, hn⟩ h (by show ¬(n + 1) % 11 = 10; omega) (ih (Nat.lt_of_succ_lt hn) (by omega))

theorem last_apply (x0 : FVec Ideal S512x2048 .f32) (x6 : FVec Ideal S1x1x2048 .f32) (a : FVec Ideal S512x2048 .f32) (r : Fin 512) (d : Fin 2048) :
    k0_pay4 (F := Ideal) x0 x6 a (ix2 r d) = x0 (ix2 r d) + x6 (ix3 0 0 d) * a (ix2 r d) := by
  pointwise [k0_pay4]

/-- The last tile writes the block's rows of the result. -/
theorem written (t : Fin cfg0.N) (h : t.val % 11 = 10) (r : Fin 512) (d : Fin 2048) (N : Fin 20480) (hN : N.val = t.val / 11 * 512 + r.val) :
    (outsAt0 m c t.val t.isLt).1 (ix2 r d)
      = OUT (aX m c) (aG m c) (aSc m c) (aSh m c) (aGt m c) (aUp m c) (aW m c) (aB m c) (aDn m c) N d := by
  have hlt := tlt t
  have hr := r.isLt
  obtain ⟨i1, i2⟩ := carried m c (t.val - 1) (before_lt t) (by omega)
  rw [last_out m c t h, last_apply, blk0 m c t r d N hN, blk6 m c t d (seg N) (by show N.val / 2048 = _; omega), i1]
  unfold OUT
  refine congrArg (fun z => aX m c (ix2 N d) + aGt m c (ix3 (seg N) 0 d) * z) ?_
  refine (congrArg₂ (· + ·) (i2 r d N (by omega))
    (part_eq m c t (start (t.val - 1) (before_lt t)) (by show (t.val - 1) / 11 * 11 / 11 = t.val / 11; omega) r d N hN)).trans ?_
  rw [← sum_term, show (t.val - 1) % 11 * 512 + 512 = 5120 by omega, show t.val % 11 * 512 = 5120 by omega,
    show (5632 : ℕ) = 5120 + 512 from rfl, Finset.sum_range_add]

theorem final : (dats m 0 c).arrAt 14 cfg0.N
    = fun i : S20480x2048.Idx => OUT (aX m c) (aG m c) (aSc m c) (aSh m c) (aGt m c) (aUp m c) (aW m c) (aB m c) (aDn m c) (i 0) (i 1) := by
  refine (dats m 0 c).arrAt_eq_of_covers 14 _ (by decide +kernel) fun t hf y => ?_
  have h10 : t.val % 11 = 10 := by
    have := (by decide +kernel : ∀ t : Fin grid0.N, win0_14.flush t = true → t.val % 11 = 10) t
    exact this hf
  blk_simp
  have e0 : ((win0_14.blk t).view.emb y 0 : Fin 20480).val = t.val / 11 * 512 + (y 0).val := by blk_simp [idx' t]
  have e1 : ((win0_14.blk t).view.emb y 1 : Fin 2048) = y 1 := Fin.ext (by blk_simp [idx' t])
  rw [after0_14, eq_ix2 y]
  refine (written m c t h10 (y 0) (y 1) _ e0).trans ?_
  exact congrArg _ e1.symm

end Cert.FfnIdeal.Block
end
-- ==== Proof.Ffn.Run.lean ====
/-
  THE FEED-FORWARD'S RUN: every run of the kernel ends with the result array its last tiles wrote, and with its arguments
  as they were.
-/
module

public import proofs.«01_k».proof.Proof.Gen.FfnIdeal.Frame
public import Idealize.ShloMosaic.PureOps.Ideal.Laws

@[expose] public section

set_option maxRecDepth 16384

noncomputable section

namespace Cert.FfnIdeal.Block

open Cert.FfnIdeal Cert.FfnIdeal.Gen Idealize.ShloMosaic Idealize.ShloMosaic.TcCoe Idealize.SL.Sem

variable (m : (ℓ : Loc nD τ sig) → Buf (Elt Ideal) ℓ) (ρ : Dev nD → PrngReg) {r : PUnit × MemSt nD τ sig (Elt Ideal)}

/-- An array that an input window stages is, after the run, what the host code before the call left. -/
theorem staged (h : Pipeline.FramePost cfgs (dats m) 0 (V m) r) (c : Dev nD) (w : Fin cfg0.W) (hi : (cfg0.win w).isOut = false) :
    r.2.mem ((c : Thread nD τ).loc (Pipeline.arrRef spec0 w)) = V m c (Pipeline.arrRef spec0 w) :=
  ((h c).1 w).trans (((dats m 0 c).arrAt_in w hi _).trans (A_eq m c w))

/-- The run: the result array, and the nine arguments. -/
theorem run_rows : θ_run defs (onTc (τ := τ) (main (F := Ideal))) ⟨m, fun _ => 0, ρ⟩ fun r => ∀ c : Dev nD,
    r.2.mem ((c : Thread nD τ).loc main_v19) = (dats m 0 c).arrAt 14 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  (θ_run defs _ _).mono (fun r h c =>
    ⟨(h c).1 14,
      (staged m h c 2 rfl).trans (V_main_arg0 m c),
      ((h c).2 main_arg1 (Pipeline.mem_restRefs_of main_arg1 (by decide) (by decide))).trans (V_main_arg1 m c),
      (staged m h c 4 rfl).trans (V_main_arg2 m c),
      (staged m h c 5 rfl).trans (V_main_arg3 m c),
      (staged m h c 6 rfl).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.FfnIdeal.Block
end
-- ==== Proof.Ffn.Latent.lean ====
/-
  THE REFERENCE'S FIRST PART, entry by entry: the eight sequences of 2048 rows.
-/
module

public import proofs.«01_k».proof.Proof.Gen.FfnRefIdeal.Read
public import proofs.«01_k».proof.Proof.Ffn.Operands

@[expose] public section

set_option maxRecDepth 16384

noncomputable section

namespace Cert.FfnRefIdeal.Latent

open Cert.FfnRefIdeal Cert.FfnRefIdeal.Gen Cert.FfnRefIdeal.Read Cert.Feed Idealize.ShloMosaic Idealize.ShloMosaic.TcCoe
open Idealize.SL.Sem Idealize.ShloMosaic.StableHlo
open scoped BigOperators

variable (x0 : FVec Ideal S20480x2048 .f32) (x1 : FVec Ideal S2048 .f32) (x2 x3 x4 : FVec Ideal S16x1x2048 .f32)
  (x5 : FVec Ideal S2048x11008 .f32) (x6 : FVec Ideal S3x11008 .f32) (x7 : FVec Ideal S11008 .f32) (x8 : FVec Ideal S5504x2048 .f32)
variable (b : Fin 8) (t : Fin 2048)

/-- The row of a sequence's position. -/
def row : Fin 20480 := ⟨b.val * 2048 + t.val, by omega⟩

theorem x_apply (d : Fin 2048) : val_main_v1 (F := Ideal) x0 (ix3 b t d) = x0 (ix2 (row b t) d) := by
  pointwise [val_main_v1, val_main_v0, row]

/-- The mean square of the row, and its root's inverse. -/
theorem ms_apply : val_main_v12 (F := Ideal) x0 (ix3 b t 0)
    = Ideal.rsqrt (Ideal.div (∑ e, x0 (ix2 (row b t) e) * x0 (ix2 (row b t) e)) (Ideal.ofBits FTy.f32 0x45000000#32)
        + Ideal.ofBits FTy.f32 0x358637BD#32) := by
  simp only [← x_apply]
  unfold val_main_v12 val_main_v11 val_main_v10 val_main_v9 val_main_v8 val_main_v7 val_main_v6 val_main_v5
  generalize val_main_v1 (F := Ideal) x0 = y
  pointwise [val_main_cst, val_main_cst_0, val_main_cst_1]

theorem seg_row : seg (row b t) = (⟨b.val, by omega⟩ : Fin 16) := Fin.ext (by show (b.val * 2048 + t.val) / 2048 = b.val; omega)

theorem h_apply (d : Fin 2048) : val_main_v23 (F := Ideal) x0 x1 x2 x3 (ix3 b t d)
    = hrow x0 x1 x2 x3 (seg (row b t)) (row b t) d := by
  have e : val_main_v23 (F := Ideal) x0 x1 x2 x3 (ix3 b t d)
      = val_main_v1 (F := Ideal) x0 (ix3 b t d) * val_main_v12 (F := Ideal) x0 (ix3 b t 0) * x1 (ix1 d)
        * (1 + x2 (ix3 (⟨b.val, by omega⟩ : Fin 16) 0 d)) + x3 (ix3 (⟨b.val, by omega⟩ : Fin 16) 0 d) := by
    unfold val_main_v23 val_main_v22 val_main_v21 val_main_v20 val_main_v19 val_main_v18 val_main_v17 val_main_v16 val_main_v15 val_main_v14 val_main_v13
    generalize val_main_v1 (F := Ideal) x0 = y
    generalize val_main_v12 (F := Ideal) x0 = z
    pointwise [val_main_cst_2, val_main_v2, val_main_v3]
  rw [e, x_apply, ms_apply, seg_row]
  rfl

/-- The up projection. -/
theorem u_apply (k : Fin 11008) : val_main_v24 (F := Ideal) x0 x1 x2 x3 x5 (ix3 b t k)
    = hid x0 x1 x2 x3 x5 (row b t) k := by
  rw [hid, dot]
  simp only [← h_apply]
  unfold val_main_v24
  generalize val_main_v23 (F := Ideal) x0 x1 x2 x3 = y
  pointwise []

/-- The up projection with a row of zeros before and after each sequence. -/
theorem pad_apply (s : Fin (2048 + 2)) (k : Fin 11008) : val_main_v25 (F := Ideal) x0 x1 x2 x3 x5 (ix3 b s k)
    = if h : 1 ≤ s.val ∧ s.val - 1 < 2048 then val_main_v24 (F := Ideal) x0 x1 x2 x3 x5 (ix3 b (⟨s.val - 1, h.2⟩ : Fin 2048) k) else 0 := by
  rw [← Cert.FfnIdeal.Block.zero_pad]
  unfold val_main_v25
  generalize val_main_v24 (F := Ideal) x0 x1 x2 x3 x5 = y
  pointwise [val_main_call0_v0, val_main_c]

/-- The convolution along the sequence. -/
theorem conv_taps (k : Fin 11008) : val_main_v48 (F := Ideal) x0 x1 x2 x3 x5 x6 x7 (ix3 b t k)
    = taps (x6 (ix2 0 k)) (x6 (ix2 1 k)) (x6 (ix2 2 k)) (x7 (ix1 k))
        (val_main_v25 (F := Ideal) x0 x1 x2 x3 x5 (ix3 b (⟨t.val, by omega⟩ : Fin (2048 + 2)) k))
        (val_main_v25 (F := Ideal) x0 x1 x2 x3 x5 (ix3 b (⟨1 + t.val, by omega⟩ : Fin (2048 + 2)) k))
        (val_main_v25 (F := Ideal) x0 x1 x2 x3 x5 (ix3 b (⟨2 + t.val, by omega⟩ : Fin (2048 + 2)) k)) := by
  unfold taps val_main_v48 val_main_v45 val_main_v44 val_main_v38 val_main_v37 val_main_v31 val_main_v41 val_main_v34 val_main_v28
  generalize val_main_v25 (F := Ideal) x0 x1 x2 x3 x5 = y
  pointwise [val_main_v47, val_main_v46, val_main_v43, val_main_v42, val_main_v40, val_main_v39, val_main_v36, val_main_v35, val_main_v33, val_main_v32, val_main_v30, val_main_v29, val_main_v27, val_main_v26]

theorem place : (row b t).val % len (row b t).val = t.val ∧ len (row b t).val = 2048 := by
  have e : (row b t).val = b.val * 2048 + t.val := rfl
  have h : len (row b t).val = 2048 := if_pos (by omega)
  rw [h]
  omega

theorem conv_apply (k : Fin 11008) : val_main_v48 (F := Ideal) x0 x1 x2 x3 x5 x6 x7 (ix3 b t k)
    = conv x0 x1 x2 x3 x5 x6 x7 (row b t) k := by
  obtain ⟨p1, p2⟩ := place b t
  have hb := b.isLt
  have ht := t.isLt
  rw [conv_taps, pad_apply, pad_apply, pad_apply, conv, p1, p2]
  refine taps_congr _ _ _ _ ?_ ?_ ?_
  · by_cases h : t.val = 0
    · rw [if_pos h, dif_neg (by show ¬(1 ≤ t.val ∧ _); omega)]
    · rw [if_neg h, dif_pos (by show 1 ≤ t.val ∧ t.val - 1 < 2048; omega), u_apply]
      exact congrArg (fun n => hid x0 x1 x2 x3 x5 n k) (Fin.ext (by show b.val * 2048 + (t.val - 1) = b.val * 2048 + t.val - 1; omega))
  · rw [dif_pos (by show 1 ≤ 1 + t.val ∧ 1 + t.val - 1 < 2048; omega), u_apply]
    exact congrArg (fun n => hid x0 x1 x2 x3 x5 n k) (Fin.ext (by show b.val * 2048 + (1 + t.val - 1) = b.val * 2048 + t.val; omega))
  · by_cases h : t.val = 2048 - 1
    · rw [if_pos h, dif_neg (by show ¬(1 ≤ 2 + t.val ∧ 2 + t.val - 1 < 2048); omega)]
    · rw [if_neg h, dif_pos (by show 1 ≤ 2 + t.val ∧ 2 + t.val - 1 < 2048; omega), u_apply]
      exact congrArg (fun n => hid x0 x1 x2 x3 x5 n k) (Fin.ext (by
        show b.val * 2048 + (2 + t.val - 1) = min (b.val * 2048 + t.val + 1) 20479; omega))

/-- The gated activation. -/
theorem act_apply (k : Fin 5504) : val_main_v52 (F := Ideal) x0 x1 x2 x3 x5 x6 x7 (ix3 b t k)
    = act x0 x1 x2 x3 x5 x6 x7 (row b t) k := by
  rw [act, ← conv_apply, ← conv_apply]
  unfold gated Ideal.logistic val_main_v52 val_main_v51 val_main_call1_v5 val_main_call1_v3 val_main_call1_v1 val_main_call1_v0 val_main_v50 val_main_v49
  generalize val_main_v48 (F := Ideal) x0 x1 x2 x3 x5 x6 x7 = y
  pointwise [val_main_call1_v4, val_main_call1_cst_0, val_main_call1_v2, val_main_call1_cst]

/-- The part's result. -/
theorem out_apply (d : Fin 2048) : val_main_v56 (F := Ideal) x0 x1 x2 x3 x4 x5 x6 x7 x8 (ix3 b t d)
    = OUT x0 x1 x2 x3 x4 x5 x6 x7 x8 (row b t) d := by
  have e : val_main_v56 (F := Ideal) x0 x1 x2 x3 x4 x5 x6 x7 x8 (ix3 b t d)
      = val_main_v1 (F := Ideal) x0 (ix3 b t d) + x4 (ix3 (⟨b.val, by omega⟩ : Fin 16) 0 d)
          * ∑ k, val_main_v52 (F := Ideal) x0 x1 x2 x3 x5 x6 x7 (ix3 b t k) * x8 (ix2 k d) := by
    unfold val_main_v56 val_main_v55 val_main_v53 val_main_v54
    generalize val_main_v1 (F := Ideal) x0 = y
    generalize val_main_v52 (F := Ideal) x0 x1 x2 x3 x5 x6 x7 = z
    pointwise [val_main_v4]
  rw [e, x_apply, OUT, seg_row]
  simp only [act_apply]

end Cert.FfnRefIdeal.Latent
end
-- ==== Proof.Ffn.Context.lean ====
/-
  THE REFERENCE'S SECOND PART, entry by entry: the sixteen sequences of 256 rows, eight to a segment.
-/
module

public import proofs.«01_k».proof.Proof.Gen.FfnRefIdeal.Read
public import proofs.«01_k».proof.Proof.Ffn.Operands

@[expose] public section

set_option maxRecDepth 16384

noncomputable section

namespace Cert.FfnRefIdeal.Context

open Cert.FfnRefIdeal Cert.FfnRefIdeal.Gen Cert.FfnRefIdeal.Read Cert.Feed Idealize.ShloMosaic Idealize.ShloMosaic.TcCoe
open Idealize.SL.Sem Idealize.ShloMosaic.StableHlo
open scoped BigOperators

variable (x0 : FVec Ideal S20480x2048 .f32) (x1 : FVec Ideal S2048 .f32) (x2 x3 x4 : FVec Ideal S16x1x2048 .f32)
  (x5 : FVec Ideal S2048x11008 .f32) (x6 : FVec Ideal S3x11008 .f32) (x7 : FVec Ideal S11008 .f32) (x8 : FVec Ideal S5504x2048 .f32)
variable (b : Fin 16) (t : Fin 256)

/-- The row of a sequence's position. -/
def row : Fin 20480 := ⟨16384 + b.val * 256 + t.val, by omega⟩

theorem x_apply (d : Fin 2048) : val_main_v58 (F := Ideal) x0 (ix3 b t d) = x0 (ix2 (row b t) d) := by
  pointwise [val_main_v58, val_main_v57, row]
  simp only [Nat.add_assoc]

/-- The mean square of the row, and its root's inverse. -/
theorem ms_apply : val_main_v75 (F := Ideal) x0 (ix3 b t 0)
    = Ideal.rsqrt (Ideal.div (∑ e, x0 (ix2 (row b t) e) * x0 (ix2 (row b t) e)) (Ideal.ofBits FTy.f32 0x45000000#32)
        + Ideal.ofBits FTy.f32 0x358637BD#32) := by
  simp only [← x_apply]
  unfold val_main_v75 val_main_v74 val_main_v73 val_main_v72 val_main_v71 val_main_v70 val_main_v69 val_main_v68
  generalize val_main_v58 (F := Ideal) x0 = y
  pointwise [val_main_cst_3, val_main_cst_4, val_main_cst_5]

theorem seg_row : seg (row b t) = (⟨8 + b.val / 8, by omega⟩ : Fin 16) := Fin.ext (by show (16384 + b.val * 256 + t.val) / 2048 = 8 + b.val / 8; omega)

theorem h_apply (d : Fin 2048) : val_main_v86 (F := Ideal) x0 x1 x2 x3 (ix3 b t d)
    = hrow x0 x1 x2 x3 (seg (row b t)) (row b t) d := by
  have e : val_main_v86 (F := Ideal) x0 x1 x2 x3 (ix3 b t d)
      = val_main_v58 (F := Ideal) x0 (ix3 b t d) * val_main_v75 (F := Ideal) x0 (ix3 b t 0) * x1 (ix1 d)
        * (1 + x2 (ix3 (⟨8 + b.val / 8, by omega⟩ : Fin 16) 0 d)) + x3 (ix3 (⟨8 + b.val / 8, by omega⟩ : Fin 16) 0 d) := by
    unfold val_main_v86 val_main_v85 val_main_v84 val_main_v83 val_main_v82 val_main_v81 val_main_v80 val_main_v79 val_main_v78 val_main_v77 val_main_v76
    generalize val_main_v58 (F := Ideal) x0 = y
    generalize val_main_v75 (F := Ideal) x0 = z
    pointwise [val_main_cst_6, val_main_v61, val_main_v60, val_main_v59, val_main_v64, val_main_v63, val_main_v62]
  rw [e, x_apply, ms_apply, seg_row]
  rfl

/-- The up projection. -/
theorem u_apply (k : Fin 11008) : val_main_v87 (F := Ideal) x0 x1 x2 x3 x5 (ix3 b t k)
    = hid x0 x1 x2 x3 x5 (row b t) k := by
  rw [hid, dot]
  simp only [← h_apply]
  unfold val_main_v87
  generalize val_main_v86 (F := Ideal) x0 x1 x2 x3 = y
  pointwise []

/-- The up projection with a row of zeros before and after each sequence. -/
theorem pad_apply (s : Fin (256 + 2)) (k : Fin 11008) : val_main_v88 (F := Ideal) x0 x1 x2 x3 x5 (ix3 b s k)
    = if h : 1 ≤ s.val ∧ s.val - 1 < 256 then val_main_v87 (F := Ideal) x0 x1 x2 x3 x5 (ix3 b (⟨s.val - 1, h.2⟩ : Fin 256) k) else 0 := by
  rw [← Cert.FfnIdeal.Block.zero_pad]
  unfold val_main_v88
  generalize val_main_v87 (F := Ideal) x0 x1 x2 x3 x5 = y
  pointwise [val_main_call2_v0, val_main_c_7]

/-- The convolution along the sequence. -/
theorem conv_taps (k : Fin 11008) : val_main_v111 (F := Ideal) x0 x1 x2 x3 x5 x6 x7 (ix3 b t k)
    = taps (x6 (ix2 0 k)) (x6 (ix2 1 k)) (x6 (ix2 2 k)) (x7 (ix1 k))
        (val_main_v88 (F := Ideal) x0 x1 x2 x3 x5 (ix3 b (⟨t.val, by omega⟩ : Fin (256 + 2)) k))
        (val_main_v88 (F := Ideal) x0 x1 x2 x3 x5 (ix3 b (⟨1 + t.val, by omega⟩ : Fin (256 + 2)) k))
        (val_main_v88 (F := Ideal) x0 x1 x2 x3 x5 (ix3 b (⟨2 + t.val, by omega⟩ : Fin (256 + 2)) k)) := by
  unfold taps val_main_v111 val_main_v108 val_main_v107 val_main_v101 val_main_v100 val_main_v94 val_main_v104 val_main_v97 val_main_v91
  generalize val_main_v88 (F := Ideal) x0 x1 x2 x3 x5 = y
  pointwise [val_main_v110, val_main_v109, val_main_v106, val_main_v105, val_main_v103, val_main_v102, val_main_v99, val_main_v98, val_main_v96, val_main_v95, val_main_v93, val_main_v92, val_main_v90, val_main_v89]

theorem place : (row b t).val % len (row b t).val = t.val ∧ len (row b t).val = 256 := by
  have e : (row b t).val = 16384 + b.val * 256 + t.val := rfl
  have h : len (row b t).val = 256 := if_neg (by omega)
  rw [h]
  omega

theorem conv_apply (k : Fin 11008) : val_main_v111 (F := Ideal) x0 x1 x2 x3 x5 x6 x7 (ix3 b t k)
    = conv x0 x1 x2 x3 x5 x6 x7 (row b t) k := by
  obtain ⟨p1, p2⟩ := place b t
  have hb := b.isLt
  have ht := t.isLt
  rw [conv_taps, pad_apply, pad_apply, pad_apply, conv, p1, p2]
  refine taps_congr _ _ _ _ ?_ ?_ ?_
  · by_cases h : t.val = 0
    · rw [if_pos h, dif_neg (by show ¬(1 ≤ t.val ∧ _); omega)]
    · rw [if_neg h, dif_pos (by show 1 ≤ t.val ∧ t.val - 1 < 256; omega), u_apply]
      exact congrArg (fun n => hid x0 x1 x2 x3 x5 n k) (Fin.ext (by show 16384 + b.val * 256 + (t.val - 1) = 16384 + b.val * 256 + t.val - 1; omega))
  · rw [dif_pos (by show 1 ≤ 1 + t.val ∧ 1 + t.val - 1 < 256; omega), u_apply]
    exact congrArg (fun n => hid x0 x1 x2 x3 x5 n k) (Fin.ext (by show 16384 + b.val * 256 + (1 + t.val - 1) = 16384 + b.val * 256 + t.val; omega))
  · by_cases h : t.val = 256 - 1
    · rw [if_pos h, dif_neg (by show ¬(1 ≤ 2 + t.val ∧ 2 + t.val - 1 < 256); omega)]
    · rw [if_neg h, dif_pos (by show 1 ≤ 2 + t.val ∧ 2 + t.val - 1 < 256; omega), u_apply]
      exact congrArg (fun n => hid x0 x1 x2 x3 x5 n k) (Fin.ext (by
        show 16384 + b.val * 256 + (2 + t.val - 1) = min (16384 + b.val * 256 + t.val + 1) 20479; omega))

/-- The gated activation. -/
theorem act_apply (k : Fin 5504) : val_main_v115 (F := Ideal) x0 x1 x2 x3 x5 x6 x7 (ix3 b t k)
    = act x0 x1 x2 x3 x5 x6 x7 (row b t) k := by
  rw [act, ← conv_apply, ← conv_apply]
  unfold gated Ideal.logistic val_main_v115 val_main_v114 val_main_call3_v5 val_main_call3_v3 val_main_call3_v1 val_main_call3_v0 val_main_v113 val_main_v112
  generalize val_main_v111 (F := Ideal) x0 x1 x2 x3 x5 x6 x7 = y
  pointwise [val_main_call3_v4, val_main_call3_cst_0, val_main_call3_v2, val_main_call3_cst]

/-- The part's result. -/
theorem out_apply (d : Fin 2048) : val_main_v119 (F := Ideal) x0 x1 x2 x3 x4 x5 x6 x7 x8 (ix3 b t d)
    = OUT x0 x1 x2 x3 x4 x5 x6 x7 x8 (row b t) d := by
  have e : val_main_v119 (F := Ideal) x0 x1 x2 x3 x4 x5 x6 x7 x8 (ix3 b t d)
      = val_main_v58 (F := Ideal) x0 (ix3 b t d) + x4 (ix3 (⟨8 + b.val / 8, by omega⟩ : Fin 16) 0 d)
          * ∑ k, val_main_v115 (F := Ideal) x0 x1 x2 x3 x5 x6 x7 (ix3 b t k) * x8 (ix2 k d) := by
    unfold val_main_v119 val_main_v118 val_main_v116 val_main_v117
    generalize val_main_v58 (F := Ideal) x0 = y
    generalize val_main_v115 (F := Ideal) x0 x1 x2 x3 x5 x6 x7 = z
    pointwise [val_main_v67, val_main_v66, val_main_v65]
  rw [e, x_apply, OUT, seg_row]
  simp only [act_apply]

end Cert.FfnRefIdeal.Context
end
-- ==== Proof.Ffn.Reference.lean ====
/-
  THE REFERENCE'S RESULT: its two parts, flattened to rows and put one after the other, entry by entry.
-/
module

public import proofs.«01_k».proof.Proof.Ffn.Latent
public import proofs.«01_k».proof.Proof.Ffn.Context

@[expose] public section

set_option maxRecDepth 16384

noncomputable section

namespace Cert.FfnRefIdeal.Rows

open Cert.FfnRefIdeal Cert.FfnRefIdeal.Gen Cert.FfnRefIdeal.Read Cert.Feed Idealize.ShloMosaic Idealize.ShloMosaic.TcCoe
open Idealize.SL.Sem Idealize.ShloMosaic.StableHlo

variable (x0 : FVec Ideal S20480x2048 .f32) (x1 : FVec Ideal S2048 .f32) (x2 x3 x4 : FVec Ideal S16x1x2048 .f32)
  (x5 : FVec Ideal S2048x11008 .f32) (x6 : FVec Ideal S3x11008 .f32) (x7 : FVec Ideal S11008 .f32) (x8 : FVec Ideal S5504x2048 .f32)

theorem result_apply (n : Fin 20480) (d : Fin 2048) : val_main_v122 (F := Ideal) x0 x1 x2 x3 x4 x5 x6 x7 x8 (ix2 n d)
    = OUT x0 x1 x2 x3 x4 x5 x6 x7 x8 n d := by
  have hn := n.isLt
  have e : val_main_v122 (F := Ideal) x0 x1 x2 x3 x4 x5 x6 x7 x8 (ix2 n d)
      = if h : n.val < 16384 then val_main_v56 (F := Ideal) x0 x1 x2 x3 x4 x5 x6 x7 x8
            (ix3 (⟨n.val / 2048, by omega⟩ : Fin 8) (⟨n.val % 2048, by omega⟩ : Fin 2048) d)
        else val_main_v119 (F := Ideal) x0 x1 x2 x3 x4 x5 x6 x7 x8
            (ix3 (⟨(n.val - 16384) / 256, by omega⟩ : Fin 16) (⟨(n.val - 16384) % 256, by omega⟩ : Fin 256) d) := by
    unfold val_main_v122 val_main_v121 val_main_v120
    generalize val_main_v56 (F := Ideal) x0 x1 x2 x3 x4 x5 x6 x7 x8 = y
    generalize val_main_v119 (F := Ideal) x0 x1 x2 x3 x4 x5 x6 x7 x8 = z
    pointwise
  rw [e]
  split
  · rw [Latent.out_apply]
    exact congrArg (fun n => OUT x0 x1 x2 x3 x4 x5 x6 x7 x8 n d) (Fin.ext (by show n.val / 2048 * 2048 + n.val % 2048 = n.val; omega))
  · rw [Context.out_apply]
    exact congrArg (fun n => OUT x0 x1 x2 x3 x4 x5 x6 x7 x8 n d)
      (Fin.ext (by show 16384 + (n.val - 16384) / 256 * 256 + (n.val - 16384) % 256 = n.val; omega))

end Cert.FfnRefIdeal.Rows
end
-- ==== Proof.Ffn.Equal.lean ====
/-
  THE FEED-FORWARD'S EQUATION: on every input the kernel's result array and the reference's are equal.
-/
module

public import proofs.«01_k».proof.Defs
public import proofs.«01_k».proof.Proof.Gen.FfnRefIdeal.Run
public import proofs.«01_k».proof.Proof.Ffn.Array
public import proofs.«01_k».proof.Proof.Ffn.Run
public import proofs.«01_k».proof.Proof.Ffn.Reference

@[expose] public section

set_option maxRecDepth 16384

noncomputable section

namespace Cert.Feed

open Idealize.ShloMosaic Idealize.ShloMosaic.TcCoe Idealize.SL.Sem Cert.FfnIdeal

theorem algebraic : algebraic_FfnIdeal_FfnRefIdeal := by
  pair_intro
  · run_from (Cert.FfnIdeal.Block.run_rows m g)
  · run_from (Cert.FfnRefIdeal.Value.run m' g')
    obtain ⟨e0, e1, e2, e3, e4, e5, e6, e7, e8⟩ := hagree c
    rw [Cert.FfnRefIdeal.Read.val_main_v122_eq, Cert.FfnIdeal.Block.final m c, e0, e1, e2, e3, e4, e5, e6, e7, e8]
    funext i
    rw [eq_ix2 i]
    exact Cert.FfnRefIdeal.Rows.result_apply _ _ _ _ _ _ _ _ _ (i 0) (i 1)

end Cert.Feed
end
-- ==== Proof.In.Math.lean ====
/-
  THE INPUT PROJECTION WRITTEN AS ARITHMETIC: a row normalised and modulated, times one column of the weights.
-/
module

public import proofs.«01_k».proof.Proof.Ffn.Math

@[expose] public section

set_option maxRecDepth 16384

noncomputable section

namespace Cert.Inp

open Idealize.ShloMosaic Idealize.ShloMosaic.TcCoe Idealize.SL.Sem Cert.Feed

variable (x : FVec Ideal ⟨2, ![20480, 2048]⟩ .f32) (g : FVec Ideal ⟨1, ![2048]⟩ .f32) (sc sh : FVec Ideal ⟨3, ![16, 1, 2048]⟩ .f32)
  (w : FVec Ideal ⟨2, ![2048, 3840]⟩ .f32)

/-- Row `n`'s projection at column `k`, with the modulation of the row's segment. -/
def proj (n : Fin 20480) (k : Fin 3840) : EReal := dot (hrow x g sc sh (seg n) n) (fun d => w (ix2 d k))

/-- The projection's columns from `o` on, as an array of `k` columns. -/
def cols (o k : ℕ) (h : o + k ≤ 3840) (n : Fin 20480) (d : Fin k) : EReal := proj x g sc sh w n ⟨o + d.val, by omega⟩

end Cert.Inp
end
-- ==== Proof.In.Block.lean ====
/-
  WHAT A BLOCK OF 512 ROWS COMPUTES: each output buffer holds the projection of the normalised rows, a range of its columns.
-/
module

public import proofs.«01_k».proof.Proof.In.Math
public import proofs.«01_k».proof.Proof.Gen.InProjIdeal.Frame
public import Idealize.ShloMosaic.Lib.Pointwise
public import Idealize.ShloMosaic.Lib.Pipeline.ValueKit

@[expose] public section

set_option maxRecDepth 16384

noncomputable section

namespace Cert.InProjIdeal.Block

open Cert.InProjIdeal Cert.InProjIdeal.Gen Cert.Feed Cert.Inp Idealize.ShloMosaic Idealize.ShloMosaic.TcCoe Idealize.SL.Sem
open scoped BigOperators

variable (x0 : FVec Ideal S512x2048 .f32) (x1 : FVec Ideal S1x2048 .f32) (x2 x3 : FVec Ideal S1x1x2048 .f32) (x4 : FVec Ideal S2048x3840 .bf16)

/-- Row `r` of the block, normalised and modulated. -/
def nrow (r : Fin 512) : Fin 2048 → EReal :=
  normed (fun e => x0 (ix2 r e)) (fun e => x1 (ix2 0 e)) (fun e => x2 (ix3 0 0 e)) (fun e => x3 (ix3 0 0 e))

theorem pay4_apply (r : Fin 512) (d : Fin 2048) :
    k0_pay4 (F := Ideal) (View.ld x0 r0_0) (View.ld x1 r0_1) (View.ld x2 r0_2) (View.ld x3 r0_2) (ix2 r d) = nrow x0 x1 x2 x3 r d := by
  unfold nrow normed
  pointwise [k0_pay4]

theorem pay7_apply (r : Fin 512) (d : Fin 2048) : k0_pay7 (F := Ideal) x0 x1 x2 x3 x4 (ix2 r d) = nrow x0 x1 x2 x3 r d :=
  pay4_apply x0 x1 x2 x3 r d

/-- The block's projection at row `r` and column `k`. -/
def bproj (r : Fin 512) (k : Fin 3840) : EReal := dot (nrow x0 x1 x2 x3 r) (fun d => x4 (ix2 d k))

/-- The block's projection, its columns from `o` on. -/
def bcols (o k : ℕ) (h : o + k ≤ 3840) (r : Fin 512) (d : Fin k) : EReal := bproj x0 x1 x2 x3 x4 r ⟨o + d.val, by omega⟩

theorem out5_piece (r : Fin 512) (d : Fin 512) :
    k0_pay5 (F := Ideal) (View.ld x0 r0_0) (View.ld x1 r0_1) (View.ld x2 r0_2) (View.ld x3 r0_2) (View.ld x4 r0_3) (ix2 r d) = bcols x0 x1 x2 x3 x4 0 512 (by omega) r d := by
  unfold bcols bproj dot
  simp only [← pay4_apply]
  unfold k0_pay5
  generalize k0_pay4 (F := Ideal) (View.ld x0 r0_0) (View.ld x1 r0_1) (View.ld x2 r0_2) (View.ld x3 r0_2) = y
  pointwise []

theorem out5_apply (y : S512x512.Idx) :
    out0_5 (F := Ideal) x0 x1 x2 x3 x4 y = bcols x0 x1 x2 x3 x4 0 512 (by omega) (y 0) (y 1) := by
  unfold out0_5
  refine View.canon_apply_of_pieces (Val := Elt Ideal) (e := .bf16) (fun y : S512x512.Idx => bcols x0 x1 x2 x3 x4 0 512 (by omega) (y 0) (y 1)) _ ?_ y (cover0_5 _ y)
  simp only [List.mem_cons, List.not_mem_nil, or_false, forall_eq]
  intro x
  obtain ⟨r, d, rfl⟩ : ∃ (r : Fin 512) (d : Fin 512), x = ix2 r d := ⟨x 0, x 1, eq_ix2 x⟩
  have e0 : (r0_4.emb (ix2 r d) 0 : Fin 512) = r := Fin.ext (by show 0 + 1 * r.val = r.val; omega)
  have e1 : (r0_4.emb (ix2 r d) 1 : Fin 512) = d := Fin.ext (by show 0 + 1 * d.val = d.val; omega)
  beta_reduce
  rw [e0, e1]
  exact out5_piece x0 x1 x2 x3 x4 r d

theorem out6_piece (r : Fin 512) (d : Fin 1024) :
    k0_pay6 (F := Ideal) (View.ld x0 r0_0) (View.ld x1 r0_1) (View.ld x2 r0_2) (View.ld x3 r0_2) (View.ld x4 r0_5) (ix2 r d) = bcols x0 x1 x2 x3 x4 512 1024 (by omega) r d := by
  unfold bcols bproj dot
  simp only [← pay4_apply]
  unfold k0_pay6
  generalize k0_pay4 (F := Ideal) (View.ld x0 r0_0) (View.ld x1 r0_1) (View.ld x2 r0_2) (View.ld x3 r0_2) = y
  pointwise []

theorem out6_apply (y : S512x1024.Idx) :
    out0_6 (F := Ideal) x0 x1 x2 x3 x4 y = bcols x0 x1 x2 x3 x4 512 1024 (by omega) (y 0) (y 1) := by
  unfold out0_6
  refine View.canon_apply_of_pieces (Val := Elt Ideal) (e := .f32) (fun y : S512x1024.Idx => bcols x0 x1 x2 x3 x4 512 1024 (by omega) (y 0) (y 1)) _ ?_ y (cover0_6 _ y)
  simp only [List.mem_cons, List.not_mem_nil, or_false, forall_eq]
  intro x
  obtain ⟨r, d, rfl⟩ : ∃ (r : Fin 512) (d : Fin 1024), x = ix2 r d := ⟨x 0, x 1, eq_ix2 x⟩
  have e0 : (r0_6.emb (ix2 r d) 0 : Fin 512) = r := Fin.ext (by show 0 + 1 * r.val = r.val; omega)
  have e1 : (r0_6.emb (ix2 r d) 1 : Fin 1024) = d := Fin.ext (by show 0 + 1 * d.val = d.val; omega)
  beta_reduce
  rw [e0, e1]
  exact out6_piece x0 x1 x2 x3 x4 r d

theorem out7_piece (r : Fin 512) (d : Fin 256) :
    k0_pay1 (F := Ideal) (k0_pay7 (F := Ideal) x0 x1 x2 x3 x4) (View.ld x4 r0_7) (ix2 r d) = bcols x0 x1 x2 x3 x4 1536 256 (by omega) r d := by
  unfold bcols bproj dot
  simp only [← pay7_apply x0 x1 x2 x3 x4]
  unfold k0_pay1
  generalize k0_pay7 (F := Ideal) x0 x1 x2 x3 x4 = y
  pointwise []

theorem out7_apply (y : S512x256.Idx) :
    out0_7 (F := Ideal) x0 x1 x2 x3 x4 y = bcols x0 x1 x2 x3 x4 1536 256 (by omega) (y 0) (y 1) := by
  unfold out0_7
  refine View.canon_apply_of_pieces (Val := Elt Ideal) (e := .f32) (fun y : S512x256.Idx => bcols x0 x1 x2 x3 x4 1536 256 (by omega) (y 0) (y 1)) _ ?_ y (cover0_7 _ y)
  simp only [List.mem_cons, List.not_mem_nil, or_false, forall_eq]
  intro x
  obtain ⟨r, d, rfl⟩ : ∃ (r : Fin 512) (d : Fin 256), x = ix2 r d := ⟨x 0, x 1, eq_ix2 x⟩
  have e0 : (r0_8.emb (ix2 r d) 0 : Fin 512) = r := Fin.ext (by show 0 + 1 * r.val = r.val; omega)
  have e1 : (r0_8.emb (ix2 r d) 1 : Fin 256) = d := Fin.ext (by show 0 + 1 * d.val = d.val; omega)
  beta_reduce
  rw [e0, e1]
  exact out7_piece x0 x1 x2 x3 x4 r d

theorem out8_piece (r : Fin 512) (d : Fin 256) :
    k0_pay2 (F := Ideal) (k0_pay7 (F := Ideal) x0 x1 x2 x3 x4) (View.ld x4 r0_9) (ix2 r d) = bcols x0 x1 x2 x3 x4 1792 256 (by omega) r d := by
  unfold bcols bproj dot
  simp only [← pay7_apply x0 x1 x2 x3 x4]
  unfold k0_pay2
  generalize k0_pay7 (F := Ideal) x0 x1 x2 x3 x4 = y
  pointwise []

theorem out8_apply (y : S512x256.Idx) :
    out0_8 (F := Ideal) x0 x1 x2 x3 x4 y = bcols x0 x1 x2 x3 x4 1792 256 (by omega) (y 0) (y 1) := by
  unfold out0_8
  refine View.canon_apply_of_pieces (Val := Elt Ideal) (e := .f32) (fun y : S512x256.Idx => bcols x0 x1 x2 x3 x4 1792 256 (by omega) (y 0) (y 1)) _ ?_ y (cover0_8 _ y)
  simp only [List.mem_cons, List.not_mem_nil, or_false, forall_eq]
  intro x
  obtain ⟨r, d, rfl⟩ : ∃ (r : Fin 512) (d : Fin 256), x = ix2 r d := ⟨x 0, x 1, eq_ix2 x⟩
  have e0 : (r0_8.emb (ix2 r d) 0 : Fin 512) = r := Fin.ext (by show 0 + 1 * r.val = r.val; omega)
  have e1 : (r0_8.emb (ix2 r d) 1 : Fin 256) = d := Fin.ext (by show 0 + 1 * d.val = d.val; omega)
  beta_reduce
  rw [e0, e1]
  exact out8_piece x0 x1 x2 x3 x4 r d

theorem out9_piece (r : Fin 512) (d : Fin 1792) :
    k0_pay3 (F := Ideal) (k0_pay7 (F := Ideal) x0 x1 x2 x3 x4) (View.ld x4 r0_10) (ix2 r d) = bcols x0 x1 x2 x3 x4 2048 1792 (by omega) r d := by
  unfold bcols bproj dot
  simp only [← pay7_apply x0 x1 x2 x3 x4]
  unfold k0_pay3
  generalize k0_pay7 (F := Ideal) x0 x1 x2 x3 x4 = y
  pointwise []

theorem out9_apply (y : S512x1792.Idx) :
    out0_9 (F := Ideal) x0 x1 x2 x3 x4 y = bcols x0 x1 x2 x3 x4 2048 1792 (by omega) (y 0) (y 1) := by
  unfold out0_9
  refine View.canon_apply_of_pieces (Val := Elt Ideal) (e := .f32) (fun y : S512x1792.Idx => bcols x0 x1 x2 x3 x4 2048 1792 (by omega) (y 0) (y 1)) _ ?_ y (cover0_9 _ y)
  simp only [List.mem_cons, List.not_mem_nil, or_false, forall_eq]
  intro x
  obtain ⟨r, d, rfl⟩ : ∃ (r : Fin 512) (d : Fin 1792), x = ix2 r d := ⟨x 0, x 1, eq_ix2 x⟩
  have e0 : (r0_11.emb (ix2 r d) 0 : Fin 512) = r := Fin.ext (by show 0 + 1 * r.val = r.val; omega)
  have e1 : (r0_11.emb (ix2 r d) 1 : Fin 1792) = d := Fin.ext (by show 0 + 1 * d.val = d.val; omega)
  beta_reduce
  rw [e0, e1]
  exact out9_piece x0 x1 x2 x3 x4 r d

end Cert.InProjIdeal.Block
end
-- ==== Proof.In.Array.lean ====
/-
  WHAT THE FIVE RESULT ARRAYS HOLD: the projection of every row, each array a range of its columns.
-/
module

public import proofs.«01_k».proof.Proof.In.Block
public import proofs.«01_k».proof.Proof.Gen.InProjIdeal.Value
public import Idealize.ShloMosaic.Lib.Claim

@[expose] public section

set_option maxRecDepth 16384

noncomputable section

namespace Cert.InProjIdeal.Block

open Cert.InProjIdeal Cert.InProjIdeal.Gen Cert.Feed Cert.Inp Idealize.ShloMosaic Idealize.ShloMosaic.TcCoe Idealize.SL.Sem
open scoped BigOperators

variable (m : (ℓ : Loc nD τ sig) → Buf (Elt Ideal) ℓ)

theorem idx : ∀ t : Fin cfg0.N, win0_0.index t = ![t.val, 0] ∧ win0_1.index t = ![0, 0] ∧ win0_2.index t = ![t.val / 4, 0, 0]
    ∧ win0_3.index t = ![t.val / 4, 0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem V_norm (c : Dev nD) : V m c main_v0 = shapeCast S1x2048 (m ((c : Thread nD τ).loc main_arg1)) shapeCasts_S2048_S1x2048 := by
  unfold V hostOps0
  after_results
  rfl

theorem V_weights (c : Dev nD) : V m c main_v1
    = (truncf .bf16 (m ((c : Thread nD τ).loc main_arg4) : FVec Ideal S2048x3840 .f32) bitsLt_bf16_f32 : FVec Ideal S2048x3840 .bf16) := by
  unfold V hostOps0
  after_results

/-- What each argument's block holds, at coordinates of the argument. -/
theorem blk0 (c : Dev nD) (t : Fin cfg0.N) (r : Fin 512) (e : Fin 2048) (n : Fin 20480) (h : n.val = t.val * 512 + r.val) :
    iblk m c 0 t (ix2 r e) = m ((c : Thread nD τ).loc main_arg0) (ix2 n e) := by
  obtain ⟨n, hn⟩ := n
  obtain rfl : n = _ := h
  blk_ext! [iblk, V, idx t]

theorem blk1 (c : Dev nD) (t : Fin cfg0.N) (e : Fin 2048) :
    iblk m c 1 t (ix2 0 e) = m ((c : Thread nD τ).loc main_arg1) (ix1 e) := by
  blk_ext! [iblk, V_norm, idx t]

theorem blk2 (c : Dev nD) (t : Fin cfg0.N) (e : Fin 2048) (s : Fin 16) (hs : s.val = t.val / 4) :
    iblk m c 2 t (ix3 0 0 e) = m ((c : Thread nD τ).loc main_arg2) (ix3 s 0 e) := by
  obtain ⟨s, h⟩ := s
  obtain rfl : s = _ := hs
  blk_ext! [iblk, V, idx t]

theorem blk3 (c : Dev nD) (t : Fin cfg0.N) (e : Fin 2048) (s : Fin 16) (hs : s.val = t.val / 4) :
    iblk m c 3 t (ix3 0 0 e) = m ((c : Thread nD τ).loc main_arg3) (ix3 s 0 e) := by
  obtain ⟨s, h⟩ := s
  obtain rfl : s = _ := hs
  blk_ext! [iblk, V, idx t]

theorem blk4 (c : Dev nD) (t : Fin cfg0.N) (d : Fin 2048) (k : Fin 3840) :
    iblk m c 4 t (ix2 d k) = m ((c : Thread nD τ).loc main_arg4) (ix2 d k) := by
  blk_ext! [iblk, V_weights, idx t]

/-- The block's row is the array's, at the row it is written to. -/
theorem at_row (c : Dev nD) (t : Fin cfg0.N) (r : Fin 512) (n : Fin 20480) (hn : n.val = t.val * 512 + r.val) :
    nrow (iblk m c 0 t) (iblk m c 1 t) (iblk m c 2 t) (iblk m c 3 t) r
      = hrow (m ((c : Thread nD τ).loc main_arg0)) (m ((c : Thread nD τ).loc main_arg1)) (m ((c : Thread nD τ).loc main_arg2))
        (m ((c : Thread nD τ).loc main_arg3)) (seg n) n := by
  have hs : (seg n).val = t.val / 4 := by show n.val / 2048 = _; omega
  unfold nrow hrow
  rw [funext fun e => blk0 m c t r e n hn, funext fun e => blk1 m c t e, funext fun e => blk2 m c t e (seg n) hs,
    funext fun e => blk3 m c t e (seg n) hs]

theorem at_block (o k : ℕ) (h : o + k ≤ 3840) (c : Dev nD) (t : Fin cfg0.N) (r : Fin 512) (d : Fin k) (n : Fin 20480) (d' : Fin k)
    (hn : n.val = t.val * 512 + r.val) (hd : d'.val = d.val) :
    bcols (iblk m c 0 t) (iblk m c 1 t) (iblk m c 2 t) (iblk m c 3 t) (iblk m c 4 t) o k h r d
      = cols (m ((c : Thread nD τ).loc main_arg0)) (m ((c : Thread nD τ).loc main_arg1)) (m ((c : Thread nD τ).loc main_arg2))
        (m ((c : Thread nD τ).loc main_arg3)) (m ((c : Thread nD τ).loc main_arg4)) o k h n d' := by
  obtain rfl : d' = d := Fin.ext hd
  unfold bcols bproj cols proj
  rw [at_row m c t r n hn, funext fun e => blk4 m c t e _]

/-- The result array of window 5. -/
theorem final5 (c : Dev nD) : (dats m 0 c).arrAt 5 cfg0.N
    = fun i : S20480x512.Idx => cols (m ((c : Thread nD τ).loc main_arg0)) (m ((c : Thread nD τ).loc main_arg1)) (m ((c : Thread nD τ).loc main_arg2))
        (m ((c : Thread nD τ).loc main_arg3)) (m ((c : Thread nD τ).loc main_arg4)) 0 512 (by omega) (i 0) (i 1) := by
  refine (dats m 0 c).arrAt_eq_of_covers 5 _ (by decide +kernel) fun t _ y => ?_
  blk_simp
  rw [after0_5, out5_apply]
  have e0 : ((win0_5.blk t).view.emb y 0 : Fin 20480).val = t.val * 512 + (y 0).val := by blk_simp [idx t]
  have e1 : ((win0_5.blk t).view.emb y 1 : Fin 512).val = (y 1).val := by blk_simp [idx t]
  exact at_block m 0 512 (by omega) c t (y 0) (y 1) _ _ e0 e1

/-- The result array of window 6. -/
theorem final6 (c : Dev nD) : (dats m 0 c).arrAt 6 cfg0.N
    = fun i : S20480x1024.Idx => cols (m ((c : Thread nD τ).loc main_arg0)) (m ((c : Thread nD τ).loc main_arg1)) (m ((c : Thread nD τ).loc main_arg2))
        (m ((c : Thread nD τ).loc main_arg3)) (m ((c : Thread nD τ).loc main_arg4)) 512 1024 (by omega) (i 0) (i 1) := by
  refine (dats m 0 c).arrAt_eq_of_covers 6 _ (by decide +kernel) fun t _ y => ?_
  blk_simp
  rw [after0_6, out6_apply]
  have e0 : ((win0_6.blk t).view.emb y 0 : Fin 20480).val = t.val * 512 + (y 0).val := by blk_simp [idx t]
  have e1 : ((win0_6.blk t).view.emb y 1 : Fin 1024).val = (y 1).val := by blk_simp [idx t]
  exact at_block m 512 1024 (by omega) c t (y 0) (y 1) _ _ e0 e1

/-- The result array of window 7. -/
theorem final7 (c : Dev nD) : (dats m 0 c).arrAt 7 cfg0.N
    = fun i : S20480x256.Idx => cols (m ((c : Thread nD τ).loc main_arg0)) (m ((c : Thread nD τ).loc main_arg1)) (m ((c : Thread nD τ).loc main_arg2))
        (m ((c : Thread nD τ).loc main_arg3)) (m ((c : Thread nD τ).loc main_arg4)) 1536 256 (by omega) (i 0) (i 1) := by
  refine (dats m 0 c).arrAt_eq_of_covers 7 _ (by decide +kernel) fun t _ y => ?_
  blk_simp
  rw [after0_7, out7_apply]
  have e0 : ((win0_7.blk t).view.emb y 0 : Fin 20480).val = t.val * 512 + (y 0).val := by blk_simp [idx t]
  have e1 : ((win0_7.blk t).view.emb y 1 : Fin 256).val = (y 1).val := by blk_simp [idx t]
  exact at_block m 1536 256 (by omega) c t (y 0) (y 1) _ _ e0 e1

/-- The result array of window 8. -/
theorem final8 (c : Dev nD) : (dats m 0 c).arrAt 8 cfg0.N
    = fun i : S20480x256.Idx => cols (m ((c : Thread nD τ).loc main_arg0)) (m ((c : Thread nD τ).loc main_arg1)) (m ((c : Thread nD τ).loc main_arg2))
        (m ((c : Thread nD τ).loc main_arg3)) (m ((c : Thread nD τ).loc main_arg4)) 1792 256 (by omega) (i 0) (i 1) := by
  refine (dats m 0 c).arrAt_eq_of_covers 8 _ (by decide +kernel) fun t _ y => ?_
  blk_simp
  rw [after0_8, out8_apply]
  have e0 : ((win0_8.blk t).view.emb y 0 : Fin 20480).val = t.val * 512 + (y 0).val := by blk_simp [idx t]
  have e1 : ((win0_8.blk t).view.emb y 1 : Fin 256).val = (y 1).val := by blk_simp [idx t]
  exact at_block m 1792 256 (by omega) c t (y 0) (y 1) _ _ e0 e1

/-- The result array of window 9. -/
theorem final9 (c : Dev nD) : (dats m 0 c).arrAt 9 cfg0.N
    = fun i : S20480x1792.Idx => cols (m ((c : Thread nD τ).loc main_arg0)) (m ((c : Thread nD τ).loc main_arg1)) (m ((c : Thread nD τ).loc main_arg2))
        (m ((c : Thread nD τ).loc main_arg3)) (m ((c : Thread nD τ).loc main_arg4)) 2048 1792 (by omega) (i 0) (i 1) := by
  refine (dats m 0 c).arrAt_eq_of_covers 9 _ (by decide +kernel) fun t _ y => ?_
  blk_simp
  rw [after0_9, out9_apply]
  have e0 : ((win0_9.blk t).view.emb y 0 : Fin 20480).val = t.val * 512 + (y 0).val := by blk_simp [idx t]
  have e1 : ((win0_9.blk t).view.emb y 1 : Fin 1792).val = (y 1).val := by blk_simp [idx t]
  exact at_block m 2048 1792 (by omega) c t (y 0) (y 1) _ _ e0 e1

end Cert.InProjIdeal.Block
end
-- ==== Proof.In.Reference.lean ====
/-
  THE REFERENCE'S FIVE RESULTS, entry by entry: the rows of each batch normalised, modulated and projected, the batches put
  one after the other, the columns split.
-/
module

public import proofs.«01_k».proof.Proof.In.Math
public import proofs.«01_k».proof.Proof.Gen.InProjRefIdeal.Read
public import Idealize.ShloMosaic.Lib.Pointwise

@[expose] public section

set_option maxRecDepth 16384

noncomputable section

namespace Cert.InProjRefIdeal.Rows

open Cert.InProjRefIdeal Cert.InProjRefIdeal.Gen Cert.InProjRefIdeal.Read Cert.Feed Cert.Inp Idealize.ShloMosaic Idealize.ShloMosaic.TcCoe
open Idealize.SL.Sem Idealize.ShloMosaic.StableHlo
open scoped BigOperators

variable (x0 : FVec Ideal S20480x2048 .f32) (x1 : FVec Ideal S2048 .f32) (x2 x3 : FVec Ideal S16x1x2048 .f32)
  (x4 : FVec Ideal S2048x3840 .f32)

/-! ## The sample batch's rows -/

/-- The row of a sequence's position. -/
def lat_row (b : Fin 8) (t : Fin 2048) : Fin 20480 := ⟨b.val * 2048 + t.val, by omega⟩

theorem lat_x (b : Fin 8) (t : Fin 2048) (d : Fin 2048) : val_main_v1 (F := Ideal) x0 (ix3 b t d) = x0 (ix2 (lat_row b t) d) := by
  pointwise [val_main_v1, val_main_v0, lat_row]

theorem lat_ms (b : Fin 8) (t : Fin 2048) : val_main_v11 (F := Ideal) x0 (ix3 b t 0)
    = Ideal.rsqrt (Ideal.div (∑ e, x0 (ix2 (lat_row b t) e) * x0 (ix2 (lat_row b t) e)) (Ideal.ofBits FTy.f32 0x45000000#32)
        + Ideal.ofBits FTy.f32 0x358637BD#32) := by
  simp only [← lat_x]
  unfold val_main_v11 val_main_v10 val_main_v9 val_main_v8 val_main_v7 val_main_v6 val_main_v5 val_main_v4
  generalize val_main_v1 (F := Ideal) x0 = y
  pointwise [val_main_cst, val_main_cst_0, val_main_cst_1]

theorem lat_seg (b : Fin 8) (t : Fin 2048) : seg (lat_row b t) = (⟨b.val, by omega⟩ : Fin 16) :=
  Fin.ext (by show (b.val * 2048 + t.val) / 2048 = b.val; omega)

theorem lat_h (b : Fin 8) (t : Fin 2048) (d : Fin 2048) : val_main_v22 (F := Ideal) x0 x1 x2 x3 (ix3 b t d)
    = hrow x0 x1 x2 x3 (seg (lat_row b t)) (lat_row b t) d := by
  have e : val_main_v22 (F := Ideal) x0 x1 x2 x3 (ix3 b t d)
      = val_main_v1 (F := Ideal) x0 (ix3 b t d) * val_main_v11 (F := Ideal) x0 (ix3 b t 0) * x1 (ix1 d)
        * (1 + x2 (ix3 (⟨b.val, by omega⟩ : Fin 16) 0 d)) + x3 (ix3 (⟨b.val, by omega⟩ : Fin 16) 0 d) := by
    unfold val_main_v22 val_main_v21 val_main_v20 val_main_v19 val_main_v18 val_main_v17 val_main_v16 val_main_v15 val_main_v14 val_main_v13 val_main_v12
    generalize val_main_v1 (F := Ideal) x0 = y
    generalize val_main_v11 (F := Ideal) x0 = z
    pointwise [val_main_cst_2, val_main_v2, val_main_v3]
  rw [e, lat_x, lat_ms, lat_seg]
  rfl

theorem lat_proj (b : Fin 8) (t : Fin 2048) (k : Fin 3840) : val_main_v23 (F := Ideal) x0 x1 x2 x3 x4 (ix3 b t k)
    = proj x0 x1 x2 x3 x4 (lat_row b t) k := by
  rw [proj, dot]
  simp only [← lat_h]
  unfold val_main_v23
  generalize val_main_v22 (F := Ideal) x0 x1 x2 x3 = y
  pointwise []

/-! ## The prompt batch's rows -/

/-- The row of a sequence's position. -/
def ctx_row (b : Fin 16) (t : Fin 256) : Fin 20480 := ⟨16384 + b.val * 256 + t.val, by omega⟩

theorem ctx_x (b : Fin 16) (t : Fin 256) (d : Fin 2048) : val_main_v25 (F := Ideal) x0 (ix3 b t d) = x0 (ix2 (ctx_row b t) d) := by
  pointwise [val_main_v25, val_main_v24, ctx_row]
  simp only [Nat.add_assoc]

theorem ctx_ms (b : Fin 16) (t : Fin 256) : val_main_v39 (F := Ideal) x0 (ix3 b t 0)
    = Ideal.rsqrt (Ideal.div (∑ e, x0 (ix2 (ctx_row b t) e) * x0 (ix2 (ctx_row b t) e)) (Ideal.ofBits FTy.f32 0x45000000#32)
        + Ideal.ofBits FTy.f32 0x358637BD#32) := by
  simp only [← ctx_x]
  unfold val_main_v39 val_main_v38 val_main_v37 val_main_v36 val_main_v35 val_main_v34 val_main_v33 val_main_v32
  generalize val_main_v25 (F := Ideal) x0 = y
  pointwise [val_main_cst_3, val_main_cst_4, val_main_cst_5]

theorem ctx_seg (b : Fin 16) (t : Fin 256) : seg (ctx_row b t) = (⟨8 + b.val / 8, by omega⟩ : Fin 16) :=
  Fin.ext (by show (16384 + b.val * 256 + t.val) / 2048 = 8 + b.val / 8; omega)

theorem ctx_h (b : Fin 16) (t : Fin 256) (d : Fin 2048) : val_main_v50 (F := Ideal) x0 x1 x2 x3 (ix3 b t d)
    = hrow x0 x1 x2 x3 (seg (ctx_row b t)) (ctx_row b t) d := by
  have e : val_main_v50 (F := Ideal) x0 x1 x2 x3 (ix3 b t d)
      = val_main_v25 (F := Ideal) x0 (ix3 b t d) * val_main_v39 (F := Ideal) x0 (ix3 b t 0) * x1 (ix1 d)
        * (1 + x2 (ix3 (⟨8 + b.val / 8, by omega⟩ : Fin 16) 0 d)) + x3 (ix3 (⟨8 + b.val / 8, by omega⟩ : Fin 16) 0 d) := by
    unfold val_main_v50 val_main_v49 val_main_v48 val_main_v47 val_main_v46 val_main_v45 val_main_v44 val_main_v43 val_main_v42 val_main_v41 val_main_v40
    generalize val_main_v25 (F := Ideal) x0 = y
    generalize val_main_v39 (F := Ideal) x0 = z
    pointwise [val_main_cst_6, val_main_v28, val_main_v27, val_main_v26, val_main_v31, val_main_v30, val_main_v29]
  rw [e, ctx_x, ctx_ms, ctx_seg]
  rfl

theorem ctx_proj (b : Fin 16) (t : Fin 256) (k : Fin 3840) : val_main_v51 (F := Ideal) x0 x1 x2 x3 x4 (ix3 b t k)
    = proj x0 x1 x2 x3 x4 (ctx_row b t) k := by
  rw [proj, dot]
  simp only [← ctx_h]
  unfold val_main_v51
  generalize val_main_v50 (F := Ideal) x0 x1 x2 x3 = y
  pointwise []

/-! ## All rows -/

theorem rows_apply (n : Fin 20480) (k : Fin 3840) : val_main_v54 (F := Ideal) x0 x1 x2 x3 x4 (ix2 n k) = proj x0 x1 x2 x3 x4 n k := by
  have hn := n.isLt
  have e : val_main_v54 (F := Ideal) x0 x1 x2 x3 x4 (ix2 n k)
      = if h : n.val < 16384 then val_main_v23 (F := Ideal) x0 x1 x2 x3 x4
            (ix3 (⟨n.val / 2048, by omega⟩ : Fin 8) (⟨n.val % 2048, by omega⟩ : Fin 2048) k)
        else val_main_v51 (F := Ideal) x0 x1 x2 x3 x4
            (ix3 (⟨(n.val - 16384) / 256, by omega⟩ : Fin 16) (⟨(n.val - 16384) % 256, by omega⟩ : Fin 256) k) := by
    unfold val_main_v54 val_main_v53 val_main_v52
    generalize val_main_v23 (F := Ideal) x0 x1 x2 x3 x4 = y
    generalize val_main_v51 (F := Ideal) x0 x1 x2 x3 x4 = z
    pointwise
  rw [e]
  split
  · rw [lat_proj]
    exact congrArg (fun n => proj x0 x1 x2 x3 x4 n k) (Fin.ext (by show n.val / 2048 * 2048 + n.val % 2048 = n.val; omega))
  · rw [ctx_proj]
    exact congrArg (fun n => proj x0 x1 x2 x3 x4 n k)
      (Fin.ext (by show 16384 + (n.val - 16384) / 256 * 256 + (n.val - 16384) % 256 = n.val; omega))

theorem v60_apply (n : Fin 20480) (d : Fin 512) : val_main_v60 (F := Ideal) x0 x1 x2 x3 x4 (ix2 n d)
    = cols x0 x1 x2 x3 x4 0 512 (by omega) n d := by
  unfold cols
  rw [← rows_apply]
  unfold val_main_v60 val_main_v55
  generalize val_main_v54 (F := Ideal) x0 x1 x2 x3 x4 = y
  pointwise []

theorem v56_apply (n : Fin 20480) (d : Fin 1024) : val_main_v56 (F := Ideal) x0 x1 x2 x3 x4 (ix2 n d)
    = cols x0 x1 x2 x3 x4 512 1024 (by omega) n d := by
  unfold cols
  rw [← rows_apply]
  unfold val_main_v56
  generalize val_main_v54 (F := Ideal) x0 x1 x2 x3 x4 = y
  pointwise []

theorem v57_apply (n : Fin 20480) (d : Fin 256) : val_main_v57 (F := Ideal) x0 x1 x2 x3 x4 (ix2 n d)
    = cols x0 x1 x2 x3 x4 1536 256 (by omega) n d := by
  unfold cols
  rw [← rows_apply]
  unfold val_main_v57
  generalize val_main_v54 (F := Ideal) x0 x1 x2 x3 x4 = y
  pointwise []

theorem v58_apply (n : Fin 20480) (d : Fin 256) : val_main_v58 (F := Ideal) x0 x1 x2 x3 x4 (ix2 n d)
    = cols x0 x1 x2 x3 x4 1792 256 (by omega) n d := by
  unfold cols
  rw [← rows_apply]
  unfold val_main_v58
  generalize val_main_v54 (F := Ideal) x0 x1 x2 x3 x4 = y
  pointwise []

theorem v59_apply (n : Fin 20480) (d : Fin 1792) : val_main_v59 (F := Ideal) x0 x1 x2 x3 x4 (ix2 n d)
    = cols x0 x1 x2 x3 x4 2048 1792 (by omega) n d := by
  unfold cols
  rw [← rows_apply]
  unfold val_main_v59
  generalize val_main_v54 (F := Ideal) x0 x1 x2 x3 x4 = y
  pointwise []

end Cert.InProjRefIdeal.Rows
end
-- ==== Proof.In.Equal.lean ====
/-
  THE EQUATION of the input projection: the kernel's five arrays are the reference's.
-/
module

public import proofs.«01_k».proof.Defs
public import proofs.«01_k».proof.Proof.In.Array
public import proofs.«01_k».proof.Proof.In.Reference
public import proofs.«01_k».proof.Proof.Gen.InProjRefIdeal.Run
public import Idealize.ShloMosaic.Lib.Claim

@[expose] public section

set_option maxRecDepth 16384

noncomputable section

namespace Cert.Inp

open Idealize.ShloMosaic Idealize.ShloMosaic.TcCoe Idealize.SL.Sem Cert.InProjIdeal Cert.InProjIdeal.Block

theorem algebraic : algebraic_InProjIdeal_InProjRefIdeal := by
  pair_intro
  · run_from (Cert.InProjIdeal.Value.run_blocks m g)
  · run_from (Cert.InProjRefIdeal.Value.run m' g')
    · obtain ⟨e0, e1, e2, e3, e4⟩ := hagree c
      rw [Cert.InProjRefIdeal.Read.val_main_v60_eq, e0, e1, e2, e3, e4, final5 m c]
      funext i
      rw [eq_ix2 i]
      exact Cert.InProjRefIdeal.Rows.v60_apply _ _ _ _ _ (i 0) (i 1)
    · obtain ⟨e0, e1, e2, e3, e4⟩ := hagree c
      rw [Cert.InProjRefIdeal.Read.val_main_v56_eq, e0, e1, e2, e3, e4, final6 m c]
      funext i
      rw [eq_ix2 i]
      exact Cert.InProjRefIdeal.Rows.v56_apply _ _ _ _ _ (i 0) (i 1)
    · obtain ⟨e0, e1, e2, e3, e4⟩ := hagree c
      rw [Cert.InProjRefIdeal.Read.val_main_v57_eq, e0, e1, e2, e3, e4, final7 m c]
      funext i
      rw [eq_ix2 i]
      exact Cert.InProjRefIdeal.Rows.v57_apply _ _ _ _ _ (i 0) (i 1)
    · obtain ⟨e0, e1, e2, e3, e4⟩ := hagree c
      rw [Cert.InProjRefIdeal.Read.val_main_v58_eq, e0, e1, e2, e3, e4, final8 m c]
      funext i
      rw [eq_ix2 i]
      exact Cert.InProjRefIdeal.Rows.v58_apply _ _ _ _ _ (i 0) (i 1)
    · obtain ⟨e0, e1, e2, e3, e4⟩ := hagree c
      rw [Cert.InProjRefIdeal.Read.val_main_v59_eq, e0, e1, e2, e3, e4, final9 m c]
      funext i
      rw [eq_ix2 i]
      exact Cert.InProjRefIdeal.Rows.v59_apply _ _ _ _ _ (i 0) (i 1)

end Cert.Inp
end
-- ==== Proof.Out.Math.lean ====
/-
  THE OUTPUT PROJECTION WRITTEN AS ARITHMETIC: the three mixers' outputs side by side in one row, times one column of the
  weights, gated and added to the residual stream.
-/
module

public import proofs.«01_k».proof.Proof.Ffn.Math

@[expose] public section

set_option maxRecDepth 16384

noncomputable section

namespace Cert.Outp

open Idealize.ShloMosaic Idealize.ShloMosaic.TcCoe Idealize.SL.Sem Cert.Feed
open scoped BigOperators

/-- Three pieces of a row side by side. -/
def side (f : Fin 512 → EReal) (a : Fin 1024 → EReal) (r : Fin 512 → EReal) (d : Fin 2048) : EReal :=
  if h : d.val < 512 then f ⟨d.val, h⟩ else if h' : d.val - 512 < 1024 then a ⟨d.val - 512, h'⟩ else r ⟨d.val - 512 - 1024, by omega⟩

/-- The product of such a row with a column, piece by piece. -/
def parts (f : Fin 512 → EReal) (a : Fin 1024 → EReal) (r : Fin 512 → EReal) (w : Fin 2048 → EReal) : EReal :=
  ∑ i : Fin 512, f i * w ⟨i.val, by omega⟩ + ∑ i : Fin 1024, a i * w ⟨512 + i.val, by omega⟩
    + ∑ i : Fin 512, r i * w ⟨1536 + i.val, by omega⟩

/-- A sum over 2048 columns, taken over the pieces' columns. -/
theorem sum_split (F : Fin 2048 → EReal) : ∑ d, F d = ∑ i : Fin 512, F ⟨i.val, by omega⟩
    + ∑ i : Fin 1024, F ⟨512 + i.val, by omega⟩ + ∑ i : Fin 512, F ⟨1536 + i.val, by omega⟩ := by
  have e : ∑ d, F d = ∑ d : Fin (512 + 1024 + 512), F d := rfl
  rw [e, Fin.sum_univ_add, Fin.sum_univ_add]
  rfl

theorem dot_side (f : Fin 512 → EReal) (a : Fin 1024 → EReal) (r : Fin 512 → EReal) (w : Fin 2048 → EReal) :
    dot (side f a r) w = parts f a r w := by
  have h0 : ∀ i : Fin 512, side f a r ⟨i.val, by omega⟩ = f i := fun i => dif_pos i.isLt
  have h1 : ∀ i : Fin 1024, side f a r ⟨512 + i.val, by omega⟩ = a i := fun i => by
    unfold side
    rw [dif_neg (by show ¬(512 + i.val < 512); omega), dif_pos (by show 512 + i.val - 512 < 1024; omega)]
    exact congrArg a (Fin.ext (by show 512 + i.val - 512 = i.val; omega))
  have h2 : ∀ i : Fin 512, side f a r ⟨1536 + i.val, by omega⟩ = r i := fun i => by
    unfold side
    rw [dif_neg (by show ¬(1536 + i.val < 512); omega), dif_neg (by show ¬(1536 + i.val - 512 < 1024); omega)]
    exact congrArg r (Fin.ext (by show 1536 + i.val - 512 - 1024 = i.val; omega))
  unfold dot parts
  rw [sum_split]
  simp only [h0, h1, h2]

variable (f : FVec Ideal ⟨2, ![20480, 512]⟩ .bf16) (a : FVec Ideal ⟨2, ![20480, 1024]⟩ .bf16) (r : FVec Ideal ⟨2, ![20480, 512]⟩ .bf16)
  (x : FVec Ideal ⟨2, ![20480, 2048]⟩ .f32) (gt : FVec Ideal ⟨3, ![16, 1, 2048]⟩ .f32) (w : FVec Ideal ⟨2, ![2048, 2048]⟩ .f32)

/-- Row `n` of the mixers' outputs. -/
def mixed (n : Fin 20480) : Fin 2048 → EReal := side (fun i => f (ix2 n i)) (fun i => a (ix2 n i)) (fun i => r (ix2 n i))

/-- The result at row `n` and column `c`. -/
def gatedProj (n : Fin 20480) (c : Fin 2048) : EReal :=
  x (ix2 n c) + gt (ix3 (seg n) 0 c) * dot (mixed f a r n) (fun d => w (ix2 d c))

end Cert.Outp
end
-- ==== Proof.Out.Block.lean ====
/-
  WHAT A BLOCK OF 512 ROWS COMPUTES.
-/
module

public import proofs.«01_k».proof.Proof.Out.Math
public import proofs.«01_k».proof.Proof.Gen.OutProjIdeal.Frame
public import Idealize.ShloMosaic.Lib.Pointwise
public import Idealize.ShloMosaic.Lib.Pipeline.ValueKit

@[expose] public section

set_option maxRecDepth 16384

noncomputable section

namespace Cert.OutProjIdeal.Block

open Cert.OutProjIdeal Cert.OutProjIdeal.Gen Cert.Feed Cert.Outp Idealize.ShloMosaic Idealize.ShloMosaic.TcCoe Idealize.SL.Sem
open scoped BigOperators

variable (x0 : FVec Ideal S512x512 .bf16) (x1 : FVec Ideal S512x1024 .bf16) (x2 : FVec Ideal S512x512 .bf16) (x3 : FVec Ideal S512x2048 .f32)
  (x4 : FVec Ideal S1x1x2048 .f32) (x5 : FVec Ideal S2048x2048 .bf16)

/-- The block's result at row `r` and column `d`. -/
def bout (r : Fin 512) (d : Fin 2048) : EReal :=
  x3 (ix2 r d) + x4 (ix3 0 0 d)
    * parts (fun i => x0 (ix2 r i)) (fun i => x1 (ix2 r i)) (fun i => x2 (ix2 r i)) (fun e => x5 (ix2 e d))

theorem piece (r : Fin 512) (d : Fin 2048) :
    k0_pay1 (F := Ideal) (View.ld x0 r0_0) (View.ld x5 r0_1) (View.ld x1 r0_2) (View.ld x5 r0_3) (View.ld x2 r0_0) (View.ld x5 r0_4)
      (View.ld x3 r0_5) (View.ld x4 r0_6) (ix2 r d) = bout x0 x1 x2 x3 x4 x5 r d := by
  unfold bout parts
  pointwise [k0_pay1]

theorem out_apply (y : S512x2048.Idx) : out0_6 (F := Ideal) x0 x1 x2 x3 x4 x5 y = bout x0 x1 x2 x3 x4 x5 (y 0) (y 1) := by
  unfold out0_6
  refine View.canon_apply_of_pieces (Val := Elt Ideal) (e := .f32) (fun y : S512x2048.Idx => bout x0 x1 x2 x3 x4 x5 (y 0) (y 1)) _ ?_ y (cover0_6 _ y)
  simp only [List.mem_cons, List.not_mem_nil, or_false, forall_eq]
  intro x
  obtain ⟨r, d, rfl⟩ : ∃ (r : Fin 512) (d : Fin 2048), x = ix2 r d := ⟨x 0, x 1, eq_ix2 x⟩
  have e0 : (r0_5.emb (ix2 r d) 0 : Fin 512) = r := Fin.ext (by show 0 + 1 * r.val = r.val; omega)
  have e1 : (r0_5.emb (ix2 r d) 1 : Fin 2048) = d := Fin.ext (by show 0 + 1 * d.val = d.val; omega)
  beta_reduce
  rw [e0, e1]
  exact piece x0 x1 x2 x3 x4 x5 r d

end Cert.OutProjIdeal.Block
end
-- ==== Proof.Out.Array.lean ====
/-
  WHAT THE RESULT ARRAY HOLDS.
-/
module

public import proofs.«01_k».proof.Proof.Out.Block
public import proofs.«01_k».proof.Proof.Gen.OutProjIdeal.Value
public import Idealize.ShloMosaic.Lib.Claim

@[expose] public section

set_option maxRecDepth 16384

noncomputable section

namespace Cert.OutProjIdeal.Block

open Cert.OutProjIdeal Cert.OutProjIdeal.Gen Cert.Feed Cert.Outp Idealize.ShloMosaic Idealize.ShloMosaic.TcCoe Idealize.SL.Sem
open scoped BigOperators

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val / 4, 0, 0] ∧ win0_5.index t = ![0, 0] ∧ win0_6.index t = ![t.val, 0] :=
  (by decide +kernel : ∀ t : Fin grid0.N, _)

theorem V_weights (c : Dev nD) : V m c main_v0
    = (truncf .bf16 (m ((c : Thread nD τ).loc main_arg5) : FVec Ideal S2048x2048 .f32) bitsLt_bf16_f32 : FVec Ideal S2048x2048 .bf16) := by
  unfold V hostOps0
  after_results

/-- What each argument's block holds, at coordinates of the argument. -/
theorem blk0 (c : Dev nD) (t : Fin cfg0.N) (r : Fin 512) (e : Fin 512) (n : Fin 20480) (h : n.val = t.val * 512 + r.val) :
    iblk m c 0 t (ix2 r e) = m ((c : Thread nD τ).loc main_arg0) (ix2 n e) := by
  obtain ⟨n, hn⟩ := n
  obtain rfl : n = _ := h
  blk_ext! [iblk, V, idx t]

theorem blk1 (c : Dev nD) (t : Fin cfg0.N) (r : Fin 512) (e : Fin 1024) (n : Fin 20480) (h : n.val = t.val * 512 + r.val) :
    iblk m c 1 t (ix2 r e) = m ((c : Thread nD τ).loc main_arg1) (ix2 n e) := by
  obtain ⟨n, hn⟩ := n
  obtain rfl : n = _ := h
  blk_ext! [iblk, V, idx t]

theorem blk2 (c : Dev nD) (t : Fin cfg0.N) (r : Fin 512) (e : Fin 512) (n : Fin 20480) (h : n.val = t.val * 512 + r.val) :
    iblk m c 2 t (ix2 r e) = m ((c : Thread nD τ).loc main_arg2) (ix2 n e) := by
  obtain ⟨n, hn⟩ := n
  obtain rfl : n = _ := h
  blk_ext! [iblk, V, idx t]

theorem blk3 (c : Dev nD) (t : Fin cfg0.N) (r : Fin 512) (e : Fin 2048) (n : Fin 20480) (h : n.val = t.val * 512 + r.val) :
    iblk m c 3 t (ix2 r e) = m ((c : Thread nD τ).loc main_arg3) (ix2 n e) := by
  obtain ⟨n, hn⟩ := n
  obtain rfl : n = _ := h
  blk_ext! [iblk, V, idx t]

theorem blk4 (c : Dev nD) (t : Fin cfg0.N) (e : Fin 2048) (s : Fin 16) (hs : s.val = t.val / 4) :
    iblk m c 4 t (ix3 0 0 e) = m ((c : Thread nD τ).loc main_arg4) (ix3 s 0 e) := by
  obtain ⟨s, h⟩ := s
  obtain rfl : s = _ := hs
  blk_ext! [iblk, V, idx t]

theorem blk5 (c : Dev nD) (t : Fin cfg0.N) (d : Fin 2048) (k : Fin 2048) :
    iblk m c 5 t (ix2 d k) = m ((c : Thread nD τ).loc main_arg5) (ix2 d k) := by
  blk_ext! [iblk, V_weights, idx t]

theorem at_block (c : Dev nD) (t : Fin cfg0.N) (r : Fin 512) (d : Fin 2048) (n : Fin 20480) (d' : Fin 2048)
    (hn : n.val = t.val * 512 + r.val) (hd : d'.val = d.val) :
    bout (iblk m c 0 t) (iblk m c 1 t) (iblk m c 2 t) (iblk m c 3 t) (iblk m c 4 t) (iblk m c 5 t) r d
      = gatedProj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) n d' := by
  obtain rfl : d' = d := Fin.ext hd
  have hs : (seg n).val = t.val / 4 := by show n.val / 2048 = _; omega
  unfold bout gatedProj mixed
  rw [dot_side, blk3 m c t r d' n hn, blk4 m c t d' (seg n) hs, funext fun e => blk0 m c t r e n hn, funext fun e => blk1 m c t r e n hn,
    funext fun e => blk2 m c t r e n hn, funext fun e => blk5 m c t e d']

theorem final (c : Dev nD) : (dats m 0 c).arrAt 6 cfg0.N
    = fun i : S20480x2048.Idx => gatedProj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 6 _ (by decide +kernel) fun t _ y => ?_
  blk_simp
  rw [after0_6, out_apply]
  have e0 : ((win0_6.blk t).view.emb y 0 : Fin 20480).val = t.val * 512 + (y 0).val := by blk_simp [idx t]
  have e1 : ((win0_6.blk t).view.emb y 1 : Fin 2048).val = (y 1).val := by blk_simp [idx t]
  exact at_block m c t (y 0) (y 1) _ _ e0 e1

end Cert.OutProjIdeal.Block
end
-- ==== Proof.Out.Reference.lean ====
/-
  THE REFERENCE'S RESULT, entry by entry: the mixers' outputs side by side, each batch's rows projected, gated and added to
  the residual stream, the batches put one after the other.
-/
module

public import proofs.«01_k».proof.Proof.Out.Math
public import proofs.«01_k».proof.Proof.Gen.OutProjRefIdeal.Read
public import Idealize.ShloMosaic.Lib.Pointwise

@[expose] public section

set_option maxRecDepth 16384

noncomputable section

namespace Cert.OutProjRefIdeal.Rows

open Cert.OutProjRefIdeal Cert.OutProjRefIdeal.Gen Cert.OutProjRefIdeal.Read Cert.Feed Cert.Outp Idealize.ShloMosaic Idealize.ShloMosaic.TcCoe
open Idealize.SL.Sem Idealize.ShloMosaic.StableHlo
open scoped BigOperators

variable (x0 : FVec Ideal S20480x512 .bf16) (x1 : FVec Ideal S20480x1024 .bf16) (x2 : FVec Ideal S20480x512 .bf16)
  (x3 : FVec Ideal S20480x2048 .f32) (x4 : FVec Ideal S16x1x2048 .f32) (x5 : FVec Ideal S2048x2048 .f32)

/-- The mixers' outputs side by side. -/
theorem mixed_apply (n : Fin 20480) (d : Fin 2048) : val_main_v1 (F := Ideal) x0 x1 x2 (ix2 n d) = mixed x0 x1 x2 n d := by
  unfold mixed side
  pointwise [val_main_v1, val_main_v0]

/-! ## The sample batch's rows -/

/-- The row of a sequence's position. -/
def lat_row (b : Fin 8) (t : Fin 2048) : Fin 20480 := ⟨b.val * 2048 + t.val, by omega⟩

theorem lat_x (b : Fin 8) (t : Fin 2048) (d : Fin 2048) : val_main_v3 (F := Ideal) x3 (ix3 b t d) = x3 (ix2 (lat_row b t) d) := by
  pointwise [val_main_v3, val_main_v2, lat_row]

theorem lat_mix (b : Fin 8) (t : Fin 2048) (d : Fin 2048) : val_main_v5 (F := Ideal) x0 x1 x2 (ix3 b t d)
    = mixed x0 x1 x2 (lat_row b t) d := by
  rw [← mixed_apply]
  unfold val_main_v5 val_main_v4
  generalize val_main_v1 (F := Ideal) x0 x1 x2 = y
  pointwise [lat_row]

theorem lat_seg (b : Fin 8) (t : Fin 2048) : seg (lat_row b t) = (⟨b.val, by omega⟩ : Fin 16) :=
  Fin.ext (by show (b.val * 2048 + t.val) / 2048 = b.val; omega)

theorem lat_dot (b : Fin 8) (t : Fin 2048) (d : Fin 2048) : val_main_v7 (F := Ideal) x0 x1 x2 x5 (ix3 b t d)
    = dot (mixed x0 x1 x2 (lat_row b t)) (fun e => x5 (ix2 e d)) := by
  rw [dot]
  simp only [← lat_mix]
  unfold val_main_v7
  generalize val_main_v5 (F := Ideal) x0 x1 x2 = y
  pointwise []

theorem lat_out (b : Fin 8) (t : Fin 2048) (d : Fin 2048) : val_main_v10 (F := Ideal) x0 x1 x2 x3 x4 x5 (ix3 b t d)
    = gatedProj x0 x1 x2 x3 x4 x5 (lat_row b t) d := by
  have e : val_main_v10 (F := Ideal) x0 x1 x2 x3 x4 x5 (ix3 b t d)
      = val_main_v3 (F := Ideal) x3 (ix3 b t d) + x4 (ix3 (⟨b.val, by omega⟩ : Fin 16) 0 d) * val_main_v7 (F := Ideal) x0 x1 x2 x5 (ix3 b t d) := by
    unfold val_main_v10 val_main_v9 val_main_v8
    generalize val_main_v3 (F := Ideal) x3 = y
    generalize val_main_v7 (F := Ideal) x0 x1 x2 x5 = z
    pointwise [val_main_v6]
  rw [e, lat_x, lat_dot, gatedProj, lat_seg]

/-! ## The prompt batch's rows -/

/-- The row of a sequence's position. -/
def ctx_row (b : Fin 16) (t : Fin 256) : Fin 20480 := ⟨16384 + b.val * 256 + t.val, by omega⟩

theorem ctx_x (b : Fin 16) (t : Fin 256) (d : Fin 2048) : val_main_v12 (F := Ideal) x3 (ix3 b t d) = x3 (ix2 (ctx_row b t) d) := by
  pointwise [val_main_v12, val_main_v11, ctx_row]
  simp only [Nat.add_assoc]

theorem ctx_mix (b : Fin 16) (t : Fin 256) (d : Fin 2048) : val_main_v14 (F := Ideal) x0 x1 x2 (ix3 b t d)
    = mixed x0 x1 x2 (ctx_row b t) d := by
  rw [← mixed_apply]
  unfold val_main_v14 val_main_v13
  generalize val_main_v1 (F := Ideal) x0 x1 x2 = y
  pointwise [ctx_row]
  simp only [Nat.add_assoc]

theorem ctx_seg (b : Fin 16) (t : Fin 256) : seg (ctx_row b t) = (⟨8 + b.val / 8, by omega⟩ : Fin 16) :=
  Fin.ext (by show (16384 + b.val * 256 + t.val) / 2048 = 8 + b.val / 8; omega)

theorem ctx_dot (b : Fin 16) (t : Fin 256) (d : Fin 2048) : val_main_v18 (F := Ideal) x0 x1 x2 x5 (ix3 b t d)
    = dot (mixed x0 x1 x2 (ctx_row b t)) (fun e => x5 (ix2 e d)) := by
  rw [dot]
  simp only [← ctx_mix]
  unfold val_main_v18
  generalize val_main_v14 (F := Ideal) x0 x1 x2 = y
  pointwise []

theorem ctx_out (b : Fin 16) (t : Fin 256) (d : Fin 2048) : val_main_v21 (F := Ideal) x0 x1 x2 x3 x4 x5 (ix3 b t d)
    = gatedProj x0 x1 x2 x3 x4 x5 (ctx_row b t) d := by
  have e : val_main_v21 (F := Ideal) x0 x1 x2 x3 x4 x5 (ix3 b t d)
      = val_main_v12 (F := Ideal) x3 (ix3 b t d) + x4 (ix3 (⟨8 + b.val / 8, by omega⟩ : Fin 16) 0 d) * val_main_v18 (F := Ideal) x0 x1 x2 x5 (ix3 b t d) := by
    unfold val_main_v21 val_main_v20 val_main_v19
    generalize val_main_v12 (F := Ideal) x3 = y
    generalize val_main_v18 (F := Ideal) x0 x1 x2 x5 = z
    pointwise [val_main_v17, val_main_v16, val_main_v15]
  rw [e, ctx_x, ctx_dot, gatedProj, ctx_seg]

/-! ## All rows -/

theorem rows_apply (n : Fin 20480) (k : Fin 2048) : val_main_v24 (F := Ideal) x0 x1 x2 x3 x4 x5 (ix2 n k) = gatedProj x0 x1 x2 x3 x4 x5 n k := by
  have hn := n.isLt
  have e : val_main_v24 (F := Ideal) x0 x1 x2 x3 x4 x5 (ix2 n k)
      = if h : n.val < 16384 then val_main_v10 (F := Ideal) x0 x1 x2 x3 x4 x5
            (ix3 (⟨n.val / 2048, by omega⟩ : Fin 8) (⟨n.val % 2048, by omega⟩ : Fin 2048) k)
        else val_main_v21 (F := Ideal) x0 x1 x2 x3 x4 x5
            (ix3 (⟨(n.val - 16384) / 256, by omega⟩ : Fin 16) (⟨(n.val - 16384) % 256, by omega⟩ : Fin 256) k) := by
    unfold val_main_v24 val_main_v23 val_main_v22
    generalize val_main_v10 (F := Ideal) x0 x1 x2 x3 x4 x5 = y
    generalize val_main_v21 (F := Ideal) x0 x1 x2 x3 x4 x5 = z
    pointwise
  rw [e]
  split
  · rw [lat_out]
    exact congrArg (fun n => gatedProj x0 x1 x2 x3 x4 x5 n k) (Fin.ext (by show n.val / 2048 * 2048 + n.val % 2048 = n.val; omega))
  · rw [ctx_out]
    exact congrArg (fun n => gatedProj x0 x1 x2 x3 x4 x5 n k)
      (Fin.ext (by show 16384 + (n.val - 16384) / 256 * 256 + (n.val - 16384) % 256 = n.val; omega))

end Cert.OutProjRefIdeal.Rows
end
-- ==== Proof.Out.Equal.lean ====
/-
  THE EQUATION of the output projection: the kernel's array is the reference's.
-/
module

public import proofs.«01_k».proof.Defs
public import proofs.«01_k».proof.Proof.Out.Array
public import proofs.«01_k».proof.Proof.Out.Reference
public import proofs.«01_k».proof.Proof.Gen.OutProjRefIdeal.Run
public import Idealize.ShloMosaic.Lib.Claim

@[expose] public section

set_option maxRecDepth 16384

noncomputable section

namespace Cert.Outp

open Idealize.ShloMosaic Idealize.ShloMosaic.TcCoe Idealize.SL.Sem Cert.OutProjIdeal Cert.OutProjIdeal.Block

theorem algebraic : algebraic_OutProjIdeal_OutProjRefIdeal := by
  pair_intro
  · run_from (Cert.OutProjIdeal.Value.run_blocks m g)
  · run_from (Cert.OutProjRefIdeal.Value.run m' g')
    obtain ⟨e0, e1, e2, e3, e4, e5⟩ := hagree c
    rw [Cert.OutProjRefIdeal.Read.val_main_v24_eq, e4, e5, final m c]
    funext i
    rw [eq_ix2 i]
    exact Cert.OutProjRefIdeal.Rows.rows_apply _ _ _ _ _ _ (i 0) (i 1)

end Cert.Outp
end
-- ==== Proof.Heads.Math.lean ====
/-
  THE QUERIES AND KEYS WRITTEN AS ARITHMETIC: each head's 128 columns over the root of their mean square, times the weights.
-/
module

public import Idealize.ShloMosaic.PureOps.Ideal.Laws
public import Idealize.ShloMosaic.Lib.Pointwise

@[expose] public section

set_option maxRecDepth 16384

noncomputable section

namespace Cert.Heads

open Idealize.ShloMosaic Idealize.ShloMosaic.TcCoe Idealize.SL.Sem
open scoped BigOperators

/-- A head's row over the root of its mean square, times the weights. -/
def headRow (x g : Fin 128 → EReal) (e : Fin 128) : EReal :=
  x e * Ideal.rsqrt (Ideal.div (∑ i, x i * x i) (Ideal.ofBits FTy.f32 0x43000000#32) + Ideal.ofBits FTy.f32 0x358637BD#32) * g e

/-- The head and the place in it of a column. -/
def inHead (n : ℕ) : Fin 128 := ⟨n % 128, by omega⟩

/-- A query's column: its head's row normalised, scaled. -/
def query (x : Fin 1024 → EReal) (g : Fin 128 → EReal) (n : Fin 1024) : EReal :=
  headRow (fun e => x (⟨n.val / 128 * 128 + e.val, by omega⟩ : Fin 1024)) g (inHead n.val) * Ideal.ofBits FTy.f32 0x3DB504F3#32

/-- A key's column: its head's row normalised. -/
def key (x : Fin 256 → EReal) (g : Fin 128 → EReal) (n : Fin 256) : EReal :=
  headRow (fun e => x (⟨n.val / 128 * 128 + e.val, by omega⟩ : Fin 256)) g (inHead n.val)

/-- At head `h` and place `d`. -/
theorem query_at (x : Fin 1024 → EReal) (g : Fin 128 → EReal) (h : ℕ) (hh : h < 8) (d : Fin 128) :
    query x g ⟨h * 128 + d.val, by omega⟩
      = headRow (fun e => x (⟨h * 128 + e.val, by omega⟩ : Fin 1024)) g d * Ideal.ofBits FTy.f32 0x3DB504F3#32 := by
  have e1 : (h * 128 + d.val) / 128 = h := by omega
  have e2 : inHead (h * 128 + d.val) = d := Fin.ext (by show (h * 128 + d.val) % 128 = d.val; omega)
  unfold query
  simp only [e1, e2]

theorem key_at (x : Fin 256 → EReal) (g : Fin 128 → EReal) (h : ℕ) (hh : h < 2) (d : Fin 128) :
    key x g ⟨h * 128 + d.val, by omega⟩ = headRow (fun e => x (⟨h * 128 + e.val, by omega⟩ : Fin 256)) g d := by
  have e1 : (h * 128 + d.val) / 128 = h := by omega
  have e2 : inHead (h * 128 + d.val) = d := Fin.ext (by show (h * 128 + d.val) % 128 = d.val; omega)
  unfold key
  simp only [e1, e2]

end Cert.Heads
end
-- ==== Proof.Heads.Block.lean ====
/-
  WHAT A BLOCK OF 256 ROWS COMPUTES: the queries' eight strips, the keys' two, and the values copied.
-/
module

public import proofs.«01_k».proof.Proof.Heads.Math
public import proofs.«01_k».proof.Proof.Gen.QkvIdeal.Frame
public import Idealize.ShloMosaic.Lib.Pointwise
public import Idealize.ShloMosaic.Lib.Pipeline.ValueKit

@[expose] public section

set_option maxRecDepth 16384

noncomputable section

namespace Cert.QkvIdeal.Block

open Cert.QkvIdeal Cert.QkvIdeal.Gen Cert.Heads Idealize.ShloMosaic Idealize.ShloMosaic.TcCoe Idealize.SL.Sem
open scoped BigOperators

theorem pay2_apply (v0 : FVec Ideal S256x128 .f32) (v1 : FVec Ideal S1x128 .f32) (r : Fin 256) (d : Fin 128) :
    k0_pay2 (F := Ideal) v0 v1 (ix2 r d)
      = headRow (fun e => v0 (ix2 r e)) (fun e => v1 (ix2 0 e)) d * Ideal.ofBits FTy.f32 0x3DB504F3#32 := by
  unfold headRow
  pointwise [k0_pay2]

theorem pay10_apply (v0 : FVec Ideal S256x128 .f32) (v1 : FVec Ideal S1x128 .f32) (r : Fin 256) (d : Fin 128) :
    k0_pay10 (F := Ideal) v0 v1 (ix2 r d) = headRow (fun e => v0 (ix2 r e)) (fun e => v1 (ix2 0 e)) d := by
  unfold headRow
  pointwise [k0_pay10]

variable (x0 : FVec Ideal S256x1024 .f32) (x1 x2 : FVec Ideal S256x256 .f32) (x3 x4 : FVec Ideal S1x128 .f32)

/-- The block's query and key at row `r` and column `n`. -/
def bquery (r : Fin 256) (n : Fin 1024) : EReal := query (fun k => x0 (ix2 r k)) (fun e => x3 (ix2 0 e)) n
def bkey (r : Fin 256) (n : Fin 256) : EReal := key (fun k => x1 (ix2 r k)) (fun e => x4 (ix2 0 e)) n

/-- Head `h`'s strip of the queries, and of the keys. -/
theorem query_strip (h : ℕ) (hh : h < 8) (v0 : FVec Ideal S256x128 .f32) (v1 : FVec Ideal S1x128 .f32)
    (h0 : ∀ r e, v0 (ix2 r e) = x0 (ix2 r ⟨h * 128 + e.val, by omega⟩)) (h1 : ∀ e, v1 (ix2 0 e) = x3 (ix2 0 e)) (r : Fin 256) (d : Fin 128) :
    k0_pay2 (F := Ideal) v0 v1 (ix2 r d) = bquery x0 x3 r ⟨h * 128 + d.val, by omega⟩ := by
  rw [pay2_apply, bquery, query_at _ _ h hh]
  simp only [h0, h1]

theorem key_strip (h : ℕ) (hh : h < 2) (v0 : FVec Ideal S256x128 .f32) (v1 : FVec Ideal S1x128 .f32)
    (h0 : ∀ r e, v0 (ix2 r e) = x1 (ix2 r ⟨h * 128 + e.val, by omega⟩)) (h1 : ∀ e, v1 (ix2 0 e) = x4 (ix2 0 e)) (r : Fin 256) (d : Fin 128) :
    k0_pay10 (F := Ideal) v0 v1 (ix2 r d) = bkey x1 x4 r ⟨h * 128 + d.val, by omega⟩ := by
  rw [pay10_apply, bkey, key_at _ _ h hh]
  simp only [h0, h1]

theorem out5_apply (y : S256x1024.Idx) : out0_5 (F := Ideal) x0 x1 x2 x3 x4 y = bquery x0 x3 (y 0) (y 1) := by
  unfold out0_5
  refine View.canon_apply_of_pieces (Val := Elt Ideal) (e := .bf16) (fun y : S256x1024.Idx => bquery x0 x3 (y 0) (y 1)) _ ?_ y (cover0_5 _ _ _ _ _ _ _ _ y)
  simp only [List.mem_cons, List.not_mem_nil, or_false, forall_eq_or_imp, forall_eq]
  refine ⟨?_, ?_, ?_, ?_, ?_, ?_, ?_, ?_⟩
  · intro x
    obtain ⟨r, d, rfl⟩ : ∃ (r : Fin 256) (d : Fin 128), x = ix2 r d := ⟨x 0, x 1, eq_ix2 x⟩
    refine Eq.trans (b := bquery x0 x3 r ⟨7 * 128 + d.val, by omega⟩) ?_ (congr_arg₂ (bquery x0 x3) (Fin.ext ?_) (Fin.ext ?_))
    · exact query_strip x0 x3 7 (by omega) _ _ (fun r e => by pointwise) (fun e => by pointwise) r d
    · show r.val = 0 + 1 * r.val
      omega
    · show 7 * 128 + d.val = 896 + 1 * d.val
      omega
  · intro x
    obtain ⟨r, d, rfl⟩ : ∃ (r : Fin 256) (d : Fin 128), x = ix2 r d := ⟨x 0, x 1, eq_ix2 x⟩
    refine Eq.trans (b := bquery x0 x3 r ⟨6 * 128 + d.val, by omega⟩) ?_ (congr_arg₂ (bquery x0 x3) (Fin.ext ?_) (Fin.ext ?_))
    · exact query_strip x0 x3 6 (by omega) _ _ (fun r e => by pointwise) (fun e => by pointwise) r d
    · show r.val = 0 + 1 * r.val
      omega
    · show 6 * 128 + d.val = 768 + 1 * d.val
      omega
  · intro x
    obtain ⟨r, d, rfl⟩ : ∃ (r : Fin 256) (d : Fin 128), x = ix2 r d := ⟨x 0, x 1, eq_ix2 x⟩
    refine Eq.trans (b := bquery x0 x3 r ⟨5 * 128 + d.val, by omega⟩) ?_ (congr_arg₂ (bquery x0 x3) (Fin.ext ?_) (Fin.ext ?_))
    · exact query_strip x0 x3 5 (by omega) _ _ (fun r e => by pointwise) (fun e => by pointwise) r d
    · show r.val = 0 + 1 * r.val
      omega
    · show 5 * 128 + d.val = 640 + 1 * d.val
      omega
  · intro x
    obtain ⟨r, d, rfl⟩ : ∃ (r : Fin 256) (d : Fin 128), x = ix2 r d := ⟨x 0, x 1, eq_ix2 x⟩
    refine Eq.trans (b := bquery x0 x3 r ⟨4 * 128 + d.val, by omega⟩) ?_ (congr_arg₂ (bquery x0 x3) (Fin.ext ?_) (Fin.ext ?_))
    · exact query_strip x0 x3 4 (by omega) _ _ (fun r e => by pointwise) (fun e => by pointwise) r d
    · show r.val = 0 + 1 * r.val
      omega
    · show 4 * 128 + d.val = 512 + 1 * d.val
      omega
  · intro x
    obtain ⟨r, d, rfl⟩ : ∃ (r : Fin 256) (d : Fin 128), x = ix2 r d := ⟨x 0, x 1, eq_ix2 x⟩
    refine Eq.trans (b := bquery x0 x3 r ⟨3 * 128 + d.val, by omega⟩) ?_ (congr_arg₂ (bquery x0 x3) (Fin.ext ?_) (Fin.ext ?_))
    · exact query_strip x0 x3 3 (by omega) _ _ (fun r e => by pointwise) (fun e => by pointwise) r d
    · show r.val = 0 + 1 * r.val
      omega
    · show 3 * 128 + d.val = 384 + 1 * d.val
      omega
  · intro x
    obtain ⟨r, d, rfl⟩ : ∃ (r : Fin 256) (d : Fin 128), x = ix2 r d := ⟨x 0, x 1, eq_ix2 x⟩
    refine Eq.trans (b := bquery x0 x3 r ⟨2 * 128 + d.val, by omega⟩) ?_ (congr_arg₂ (bquery x0 x3) (Fin.ext ?_) (Fin.ext ?_))
    · exact query_strip x0 x3 2 (by omega) _ _ (fun r e => by pointwise) (fun e => by pointwise) r d
    · show r.val = 0 + 1 * r.val
      omega
    · show 2 * 128 + d.val = 256 + 1 * d.val
      omega
  · intro x
    obtain ⟨r, d, rfl⟩ : ∃ (r : Fin 256) (d : Fin 128), x = ix2 r d := ⟨x 0, x 1, eq_ix2 x⟩
    refine Eq.trans (b := bquery x0 x3 r ⟨1 * 128 + d.val, by omega⟩) ?_ (congr_arg₂ (bquery x0 x3) (Fin.ext ?_) (Fin.ext ?_))
    · exact query_strip x0 x3 1 (by omega) _ _ (fun r e => by pointwise) (fun e => by pointwise) r d
    · show r.val = 0 + 1 * r.val
      omega
    · show 1 * 128 + d.val = 128 + 1 * d.val
      omega
  · intro x
    obtain ⟨r, d, rfl⟩ : ∃ (r : Fin 256) (d : Fin 128), x = ix2 r d := ⟨x 0, x 1, eq_ix2 x⟩
    refine Eq.trans (b := bquery x0 x3 r ⟨0 * 128 + d.val, by omega⟩) ?_ (congr_arg₂ (bquery x0 x3) (Fin.ext ?_) (Fin.ext ?_))
    · exact query_strip x0 x3 0 (by omega) _ _ (fun r e => by pointwise) (fun e => by pointwise) r d
    · show r.val = 0 + 1 * r.val
      omega
    · show 0 * 128 + d.val = 0 + 1 * d.val
      omega

theorem out6_apply (y : S256x256.Idx) : out0_6 (F := Ideal) x0 x1 x2 x3 x4 y = bkey x1 x4 (y 0) (y 1) := by
  unfold out0_6
  refine View.canon_apply_of_pieces (Val := Elt Ideal) (e := .bf16) (fun y : S256x256.Idx => bkey x1 x4 (y 0) (y 1)) _ ?_ y (cover0_6 _ _ y)
  simp only [List.mem_cons, List.not_mem_nil, or_false, forall_eq_or_imp, forall_eq]
  refine ⟨?_, ?_⟩
  · intro x
    obtain ⟨r, d, rfl⟩ : ∃ (r : Fin 256) (d : Fin 128), x = ix2 r d := ⟨x 0, x 1, eq_ix2 x⟩
    refine Eq.trans (b := bkey x1 x4 r ⟨1 * 128 + d.val, by omega⟩) ?_ (congr_arg₂ (bkey x1 x4) (Fin.ext ?_) (Fin.ext ?_))
    · exact key_strip x1 x4 1 (by omega) _ _ (fun r e => by pointwise) (fun e => by pointwise) r d
    · show r.val = 0 + 1 * r.val
      omega
    · show 1 * 128 + d.val = 128 + 1 * d.val
      omega
  · intro x
    obtain ⟨r, d, rfl⟩ : ∃ (r : Fin 256) (d : Fin 128), x = ix2 r d := ⟨x 0, x 1, eq_ix2 x⟩
    refine Eq.trans (b := bkey x1 x4 r ⟨0 * 128 + d.val, by omega⟩) ?_ (congr_arg₂ (bkey x1 x4) (Fin.ext ?_) (Fin.ext ?_))
    · exact key_strip x1 x4 0 (by omega) _ _ (fun r e => by pointwise) (fun e => by pointwise) r d
    · show r.val = 0 + 1 * r.val
      omega
    · show 0 * 128 + d.val = 0 + 1 * d.val
      omega

theorem out8_apply (y : S256x256.Idx) : out0_8 (F := Ideal) x0 x1 x2 x3 x4 y = bkey x1 x4 (y 0) (y 1) := by
  unfold out0_8
  refine View.canon_apply_of_pieces (Val := Elt Ideal) (e := .f32) (fun y : S256x256.Idx => bkey x1 x4 (y 0) (y 1)) _ ?_ y (cover0_8 _ _ y)
  simp only [List.mem_cons, List.not_mem_nil, or_false, forall_eq_or_imp, forall_eq]
  refine ⟨?_, ?_⟩
  · intro x
    obtain ⟨r, d, rfl⟩ : ∃ (r : Fin 256) (d : Fin 128), x = ix2 r d := ⟨x 0, x 1, eq_ix2 x⟩
    refine Eq.trans (b := bkey x1 x4 r ⟨1 * 128 + d.val, by omega⟩) ?_ (congr_arg₂ (bkey x1 x4) (Fin.ext ?_) (Fin.ext ?_))
    · exact key_strip x1 x4 1 (by omega) _ _ (fun r e => by pointwise) (fun e => by pointwise) r d
    · show r.val = 0 + 1 * r.val
      omega
    · show 1 * 128 + d.val = 128 + 1 * d.val
      omega
  · intro x
    obtain ⟨r, d, rfl⟩ : ∃ (r : Fin 256) (d : Fin 128), x = ix2 r d := ⟨x 0, x 1, eq_ix2 x⟩
    refine Eq.trans (b := bkey x1 x4 r ⟨0 * 128 + d.val, by omega⟩) ?_ (congr_arg₂ (bkey x1 x4) (Fin.ext ?_) (Fin.ext ?_))
    · exact key_strip x1 x4 0 (by omega) _ _ (fun r e => by pointwise) (fun e => by pointwise) r d
    · show r.val = 0 + 1 * r.val
      omega
    · show 0 * 128 + d.val = 0 + 1 * d.val
      omega

/-- The block's value at a row and a column. -/
def bvalue (r : Fin 256) (n : Fin 256) : EReal := x2 (ix2 r n)

theorem out7_apply (y : S256x256.Idx) : out0_7 (F := Ideal) x0 x1 x2 x3 x4 y = bvalue x2 (y 0) (y 1) := by
  unfold out0_7
  refine View.canon_apply_of_pieces (Val := Elt Ideal) (e := .bf16) (fun y : S256x256.Idx => bvalue x2 (y 0) (y 1)) _ ?_ y (cover0_7 _ y)
  simp only [List.mem_cons, List.not_mem_nil, or_false, forall_eq]
  intro x
  obtain ⟨r, d, rfl⟩ : ∃ (r : Fin 256) (d : Fin 256), x = ix2 r d := ⟨x 0, x 1, eq_ix2 x⟩
  refine Eq.trans (b := bvalue x2 r d) ?_ (congr_arg₂ (bvalue x2) (Fin.ext ?_) (Fin.ext ?_))
  · unfold bvalue
    pointwise [k0_pay1]
  · show r.val = 0 + 1 * r.val
    omega
  · show d.val = 0 + 1 * d.val
    omega

end Cert.QkvIdeal.Block
end
-- ==== Proof.Heads.Arrays.lean ====
/-
  THE FOUR RESULT ARRAYS, of the prompt batch's rows, as functions of the arguments.
-/
module

public import proofs.«01_k».proof.Proof.Heads.Math

@[expose] public section

set_option maxRecDepth 16384

noncomputable section

namespace Cert.Heads

open Idealize.ShloMosaic Idealize.ShloMosaic.TcCoe Idealize.SL.Sem

/-- The prompt batch's rows follow the sample batch's. -/
def prow (i : Fin 4096) : Fin 20480 := ⟨16384 + i.val, by omega⟩

def QUERY (q : FVec Ideal ⟨2, ![20480, 1024]⟩ .f32) (g : FVec Ideal ⟨1, ![128]⟩ .f32) (i : Fin 4096) (n : Fin 1024) : EReal :=
  query (fun k => q (ix2 (prow i) k)) (fun e => g (ix1 e)) n

def KEY (k : FVec Ideal ⟨2, ![20480, 256]⟩ .f32) (g : FVec Ideal ⟨1, ![128]⟩ .f32) (i : Fin 4096) (n : Fin 256) : EReal :=
  key (fun e => k (ix2 (prow i) e)) (fun e => g (ix1 e)) n

def VALUE (v : FVec Ideal ⟨2, ![20480, 256]⟩ .f32) (i : Fin 4096) (n : Fin 256) : EReal := v (ix2 (prow i) n)

end Cert.Heads
end
-- ==== Proof.Heads.Array.lean ====
/-
  WHAT THE FOUR RESULT ARRAYS HOLD.
-/
module

public import proofs.«01_k».proof.Proof.Heads.Block
public import proofs.«01_k».proof.Proof.Heads.Arrays
public import proofs.«01_k».proof.Proof.Gen.QkvIdeal.Value
public import Idealize.ShloMosaic.Lib.Claim

@[expose] public section

set_option maxRecDepth 16384

noncomputable section

namespace Cert.QkvIdeal.Block

open Cert.QkvIdeal Cert.QkvIdeal.Gen Cert.Heads Idealize.ShloMosaic Idealize.ShloMosaic.TcCoe Idealize.SL.Sem
open scoped BigOperators

variable (m : (ℓ : Loc nD τ sig) → Buf (Elt Ideal) ℓ)

theorem idx : ∀ t : Fin cfg0.N, win0_0.index t = ![64 + t.val, 0] ∧ win0_1.index t = ![64 + t.val, 0] ∧ win0_2.index t = ![64 + t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- What each argument's block holds, at coordinates of the argument. -/
theorem blk0 (c : Dev nD) (t : Fin cfg0.N) (r : Fin 256) (e : Fin 1024) (n : Fin 20480) (h : n.val = (64 + t.val) * 256 + r.val) :
    iblk m c 0 t (ix2 r e) = m ((c : Thread nD τ).loc main_arg0) (ix2 n e) := by
  obtain ⟨n, hn⟩ := n
  obtain rfl : n = _ := h
  blk_ext! [iblk, V, idx t]

theorem blk1 (c : Dev nD) (t : Fin cfg0.N) (r : Fin 256) (e : Fin 256) (n : Fin 20480) (h : n.val = (64 + t.val) * 256 + r.val) :
    iblk m c 1 t (ix2 r e) = m ((c : Thread nD τ).loc main_arg1) (ix2 n e) := by
  obtain ⟨n, hn⟩ := n
  obtain rfl : n = _ := h
  blk_ext! [iblk, V, idx t]

theorem blk2 (c : Dev nD) (t : Fin cfg0.N) (r : Fin 256) (e : Fin 256) (n : Fin 20480) (h : n.val = (64 + t.val) * 256 + r.val) :
    iblk m c 2 t (ix2 r e) = m ((c : Thread nD τ).loc main_arg2) (ix2 n e) := by
  obtain ⟨n, hn⟩ := n
  obtain rfl : n = _ := h
  blk_ext! [iblk, V, idx t]

theorem V_g3 (c : Dev nD) : V m c main_v0 = shapeCast S1x128 (m ((c : Thread nD τ).loc main_arg3)) shapeCasts_S128_S1x128 := by
  unfold V hostOps0
  after_results
  rfl

theorem blk3 (c : Dev nD) (t : Fin cfg0.N) (e : Fin 128) :
    iblk m c 3 t (ix2 0 e) = m ((c : Thread nD τ).loc main_arg3) (ix1 e) := by
  blk_ext! [iblk, V_g3, idx t]

theorem V_g4 (c : Dev nD) : V m c main_v1 = shapeCast S1x128 (m ((c : Thread nD τ).loc main_arg4)) shapeCasts_S128_S1x128 := by
  unfold V hostOps0
  after_results
  rfl

theorem blk4 (c : Dev nD) (t : Fin cfg0.N) (e : Fin 128) :
    iblk m c 4 t (ix2 0 e) = m ((c : Thread nD τ).loc main_arg4) (ix1 e) := by
  blk_ext! [iblk, V_g4, idx t]

theorem at5 (c : Dev nD) (t : Fin cfg0.N) (r : Fin 256) (d : Fin 1024) (i : Fin 4096) (d' : Fin 1024)
    (hi : i.val = t.val * 256 + r.val) (hd : d'.val = d.val) : bquery (iblk m c 0 t) (iblk m c 3 t) r d = QUERY (m ((c : Thread nD τ).loc main_arg0)) (m ((c : Thread nD τ).loc main_arg3)) i d' := by
  obtain rfl : d' = d := Fin.ext hd
  have hn : (prow i).val = (64 + t.val) * 256 + r.val := by show 16384 + i.val = _; omega
  unfold bquery QUERY
  rw [funext fun e => blk0 m c t r e (prow i) hn, funext fun e => blk3 m c t e]

theorem final5 (c : Dev nD) : (dats m 0 c).arrAt 5 cfg0.N = fun i : S4096x1024.Idx => QUERY (m ((c : Thread nD τ).loc main_arg0)) (m ((c : Thread nD τ).loc main_arg3)) (i 0) (i 1) := by
  refine (dats m 0 c).arrAt_eq_of_covers 5 _ (by decide +kernel) fun t _ y => ?_
  blk_simp
  rw [after0_5, out5_apply]
  have e0 : ((win0_5.blk t).view.emb y 0 : Fin 4096).val = t.val * 256 + (y 0).val := by blk_simp [idx t]
  have e1 : ((win0_5.blk t).view.emb y 1 : Fin 1024).val = (y 1).val := by blk_simp [idx t]
  exact at5 m c t (y 0) (y 1) _ _ e0 e1

theorem at6 (c : Dev nD) (t : Fin cfg0.N) (r : Fin 256) (d : Fin 256) (i : Fin 4096) (d' : Fin 256)
    (hi : i.val = t.val * 256 + r.val) (hd : d'.val = d.val) : bkey (iblk m c 1 t) (iblk m c 4 t) r d = KEY (m ((c : Thread nD τ).loc main_arg1)) (m ((c : Thread nD τ).loc main_arg4)) i d' := by
  obtain rfl : d' = d := Fin.ext hd
  have hn : (prow i).val = (64 + t.val) * 256 + r.val := by show 16384 + i.val = _; omega
  unfold bkey KEY
  rw [funext fun e => blk1 m c t r e (prow i) hn, funext fun e => blk4 m c t e]

theorem final6 (c : Dev nD) : (dats m 0 c).arrAt 6 cfg0.N = fun i : S4096x256.Idx => KEY (m ((c : Thread nD τ).loc main_arg1)) (m ((c : Thread nD τ).loc main_arg4)) (i 0) (i 1) := by
  refine (dats m 0 c).arrAt_eq_of_covers 6 _ (by decide +kernel) fun t _ y => ?_
  blk_simp
  rw [after0_6, out6_apply]
  have e0 : ((win0_6.blk t).view.emb y 0 : Fin 4096).val = t.val * 256 + (y 0).val := by blk_simp [idx t]
  have e1 : ((win0_6.blk t).view.emb y 1 : Fin 256).val = (y 1).val := by blk_simp [idx t]
  exact at6 m c t (y 0) (y 1) _ _ e0 e1

theorem at7 (c : Dev nD) (t : Fin cfg0.N) (r : Fin 256) (d : Fin 256) (i : Fin 4096) (d' : Fin 256)
    (hi : i.val = t.val * 256 + r.val) (hd : d'.val = d.val) : bvalue (iblk m c 2 t) r d = VALUE (m ((c : Thread nD τ).loc main_arg2)) i d' := by
  obtain rfl : d' = d := Fin.ext hd
  have hn : (prow i).val = (64 + t.val) * 256 + r.val := by show 16384 + i.val = _; omega
  unfold bvalue VALUE
  rw [blk2 m c t r d' (prow i) hn]

theorem final7 (c : Dev nD) : (dats m 0 c).arrAt 7 cfg0.N = fun i : S4096x256.Idx => VALUE (m ((c : Thread nD τ).loc main_arg2)) (i 0) (i 1) := by
  refine (dats m 0 c).arrAt_eq_of_covers 7 _ (by decide +kernel) fun t _ y => ?_
  blk_simp
  rw [after0_7, out7_apply]
  have e0 : ((win0_7.blk t).view.emb y 0 : Fin 4096).val = t.val * 256 + (y 0).val := by blk_simp [idx t]
  have e1 : ((win0_7.blk t).view.emb y 1 : Fin 256).val = (y 1).val := by blk_simp [idx t]
  exact at7 m c t (y 0) (y 1) _ _ e0 e1

theorem at8 (c : Dev nD) (t : Fin cfg0.N) (r : Fin 256) (d : Fin 256) (i : Fin 4096) (d' : Fin 256)
    (hi : i.val = t.val * 256 + r.val) (hd : d'.val = d.val) : bkey (iblk m c 1 t) (iblk m c 4 t) r d = KEY (m ((c : Thread nD τ).loc main_arg1)) (m ((c : Thread nD τ).loc main_arg4)) i d' := by
  obtain rfl : d' = d := Fin.ext hd
  have hn : (prow i).val = (64 + t.val) * 256 + r.val := by show 16384 + i.val = _; omega
  unfold bkey KEY
  rw [funext fun e => blk1 m c t r e (prow i) hn, funext fun e => blk4 m c t e]

theorem final8 (c : Dev nD) : (dats m 0 c).arrAt 8 cfg0.N = fun i : S4096x256.Idx => KEY (m ((c : Thread nD τ).loc main_arg1)) (m ((c : Thread nD τ).loc main_arg4)) (i 0) (i 1) := by
  refine (dats m 0 c).arrAt_eq_of_covers 8 _ (by decide +kernel) fun t _ y => ?_
  blk_simp
  rw [after0_8, out8_apply]
  have e0 : ((win0_8.blk t).view.emb y 0 : Fin 4096).val = t.val * 256 + (y 0).val := by blk_simp [idx t]
  have e1 : ((win0_8.blk t).view.emb y 1 : Fin 256).val = (y 1).val := by blk_simp [idx t]
  exact at8 m c t (y 0) (y 1) _ _ e0 e1

end Cert.QkvIdeal.Block
end
-- ==== Proof.Heads.Reference.lean ====
/-
  THE REFERENCE'S FOUR RESULTS, entry by entry.
-/
module

public import proofs.«01_k».proof.Proof.Heads.Arrays
public import proofs.«01_k».proof.Proof.Gen.QkvRefIdeal.Read
public import Idealize.ShloMosaic.Lib.Pointwise

@[expose] public section

set_option maxRecDepth 16384

noncomputable section

namespace Cert.QkvRefIdeal.Rows

open Cert.QkvRefIdeal Cert.QkvRefIdeal.Gen Cert.QkvRefIdeal.Read Cert.Heads Idealize.ShloMosaic Idealize.ShloMosaic.TcCoe
open Idealize.SL.Sem Idealize.ShloMosaic.StableHlo
open scoped BigOperators

variable (x0 : FVec Ideal S20480x1024 .f32) (x1 x2 : FVec Ideal S20480x256 .f32) (x3 x4 : FVec Ideal S128 .f32)

theorem q_x (b : Fin 16) (t : Fin 256) (h : Fin 8) (e : Fin 128) (i : Fin 4096) (n : Fin 1024) (hi : i.val = b.val * 256 + t.val)
    (hn : n.val = h.val * 128 + e.val) : val_main_v1 (F := Ideal) x0 (ix4 b t h e) = x0 (ix2 (prow i) n) := by
  obtain ⟨i, hi'⟩ := i
  obtain ⟨n, hn'⟩ := n
  obtain rfl : i = _ := hi
  obtain rfl : n = _ := hn
  pointwise [val_main_v1, val_main_v0, prow]

theorem q_row (b : Fin 16) (t : Fin 256) (h : Fin 8) (e : Fin 128) : val_main_v14 (F := Ideal) x0 x3 (ix4 b t h e)
    = headRow (fun e => val_main_v1 (F := Ideal) x0 (ix4 b t h e)) (fun e => x3 (ix1 e)) e := by
  unfold headRow val_main_v14 val_main_v11 val_main_v10 val_main_v9 val_main_v8 val_main_v6 val_main_v4 val_main_v3 val_main_v2
  generalize val_main_v1 (F := Ideal) x0 = y
  pointwise [val_main_v13, val_main_v12, val_main_v5, val_main_v7, val_main_cst, val_main_cst_0, val_main_cst_1]

theorem k_x (b : Fin 16) (t : Fin 256) (h : Fin 2) (e : Fin 128) (i : Fin 4096) (n : Fin 256) (hi : i.val = b.val * 256 + t.val)
    (hn : n.val = h.val * 128 + e.val) : val_main_v18 (F := Ideal) x1 (ix4 b t h e) = x1 (ix2 (prow i) n) := by
  obtain ⟨i, hi'⟩ := i
  obtain ⟨n, hn'⟩ := n
  obtain rfl : i = _ := hi
  obtain rfl : n = _ := hn
  pointwise [val_main_v18, val_main_v17, prow]

theorem k_row (b : Fin 16) (t : Fin 256) (h : Fin 2) (e : Fin 128) : val_main_v31 (F := Ideal) x1 x4 (ix4 b t h e)
    = headRow (fun e => val_main_v18 (F := Ideal) x1 (ix4 b t h e)) (fun e => x4 (ix1 e)) e := by
  unfold headRow val_main_v31 val_main_v28 val_main_v27 val_main_v26 val_main_v25 val_main_v23 val_main_v21 val_main_v20 val_main_v19
  generalize val_main_v18 (F := Ideal) x1 = y
  pointwise [val_main_v30, val_main_v29, val_main_v22, val_main_v24, val_main_cst_3, val_main_cst_4, val_main_cst_5]

theorem flat34 (b : Fin 16) (t : Fin 256) (h : Fin 8) (e : Fin 128) (i : Fin 4096) (n : Fin 1024) (hi : i.val = b.val * 256 + t.val)
    (hn : n.val = h.val * 128 + e.val) : val_main_v34 (F := Ideal) x0 x3 (ix2 i n)
      = val_main_v14 (F := Ideal) x0 x3 (ix4 b t h e) * Ideal.ofBits FTy.f32 0x3DB504F3#32 := by
  obtain ⟨i, hi'⟩ := i
  obtain ⟨n, hn'⟩ := n
  obtain rfl : i = _ := hi
  obtain rfl : n = _ := hn
  unfold val_main_v34 val_main_v33 val_main_v16
  generalize val_main_v14 (F := Ideal) x0 x3 = y
  pointwise [val_main_v15, val_main_cst_2]

theorem flat36 (b : Fin 16) (t : Fin 256) (h : Fin 2) (e : Fin 128) (i : Fin 4096) (n : Fin 256) (hi : i.val = b.val * 256 + t.val)
    (hn : n.val = h.val * 128 + e.val) : val_main_v36 (F := Ideal) x1 x4 (ix2 i n)
      = val_main_v31 (F := Ideal) x1 x4 (ix4 b t h e) := by
  obtain ⟨i, hi'⟩ := i
  obtain ⟨n, hn'⟩ := n
  obtain rfl : i = _ := hi
  obtain rfl : n = _ := hn
  unfold val_main_v36 val_main_v35
  generalize val_main_v31 (F := Ideal) x1 x4 = y
  pointwise

theorem flat38 (b : Fin 16) (t : Fin 256) (h : Fin 2) (e : Fin 128) (i : Fin 4096) (n : Fin 256) (hi : i.val = b.val * 256 + t.val)
    (hn : n.val = h.val * 128 + e.val) : val_main_v38 (F := Ideal) x1 x4 (ix2 i n)
      = val_main_v31 (F := Ideal) x1 x4 (ix4 b t h e) := by
  obtain ⟨i, hi'⟩ := i
  obtain ⟨n, hn'⟩ := n
  obtain rfl : i = _ := hi
  obtain rfl : n = _ := hn
  unfold val_main_v38
  generalize val_main_v31 (F := Ideal) x1 x4 = y
  pointwise

theorem eq_rows (i : ℕ) : i = i / 256 * 256 + i % 256 := by omega

theorem eq_cols (n : ℕ) : n = n / 128 * 128 + n % 128 := by omega

/-- The four results. -/
theorem query_apply (i : Fin 4096) (n : Fin 1024) : val_main_v34 (F := Ideal) x0 x3 (ix2 i n) = QUERY x0 x3 i n := by
  rw [flat34 x0 x3 (⟨i.val / 256, by omega⟩ : Fin 16) (⟨i.val % 256, by omega⟩ : Fin 256) (⟨n.val / 128, by omega⟩ : Fin 8) (⟨n.val % 128, by omega⟩ : Fin 128) i n (eq_rows i.val) (eq_cols n.val), q_row]
  unfold QUERY query
  rw [funext fun e => q_x x0 (⟨i.val / 256, by omega⟩ : Fin 16) (⟨i.val % 256, by omega⟩ : Fin 256) (⟨n.val / 128, by omega⟩ : Fin 8) e i ⟨n.val / 128 * 128 + e.val, by omega⟩ (eq_rows i.val) rfl]
  rfl

theorem key36_apply (i : Fin 4096) (n : Fin 256) : val_main_v36 (F := Ideal) x1 x4 (ix2 i n) = KEY x1 x4 i n := by
  rw [flat36 x1 x4 (⟨i.val / 256, by omega⟩ : Fin 16) (⟨i.val % 256, by omega⟩ : Fin 256) (⟨n.val / 128, by omega⟩ : Fin 2) (⟨n.val % 128, by omega⟩ : Fin 128) i n (eq_rows i.val) (eq_cols n.val), k_row]
  unfold KEY key
  rw [funext fun e => k_x x1 (⟨i.val / 256, by omega⟩ : Fin 16) (⟨i.val % 256, by omega⟩ : Fin 256) (⟨n.val / 128, by omega⟩ : Fin 2) e i ⟨n.val / 128 * 128 + e.val, by omega⟩ (eq_rows i.val) rfl]
  rfl

theorem key38_apply (i : Fin 4096) (n : Fin 256) : val_main_v38 (F := Ideal) x1 x4 (ix2 i n) = KEY x1 x4 i n := by
  rw [flat38 x1 x4 (⟨i.val / 256, by omega⟩ : Fin 16) (⟨i.val % 256, by omega⟩ : Fin 256) (⟨n.val / 128, by omega⟩ : Fin 2) (⟨n.val % 128, by omega⟩ : Fin 128) i n (eq_rows i.val) (eq_cols n.val), k_row]
  unfold KEY key
  rw [funext fun e => k_x x1 (⟨i.val / 256, by omega⟩ : Fin 16) (⟨i.val % 256, by omega⟩ : Fin 256) (⟨n.val / 128, by omega⟩ : Fin 2) e i ⟨n.val / 128 * 128 + e.val, by omega⟩ (eq_rows i.val) rfl]
  rfl

theorem value_apply (i : Fin 4096) (n : Fin 256) : val_main_v37 (F := Ideal) x2 (ix2 i n) = VALUE x2 i n := by
  unfold VALUE
  pointwise [val_main_v37, val_main_v32, prow]

end Cert.QkvRefIdeal.Rows
end
-- ==== Proof.Heads.Equal.lean ====
/-
  THE EQUATION of the queries' and keys' preparation: the kernel's four arrays are the reference's.
-/
module

public import proofs.«01_k».proof.Defs
public import proofs.«01_k».proof.Proof.Heads.Array
public import proofs.«01_k».proof.Proof.Heads.Reference
public import proofs.«01_k».proof.Proof.Gen.QkvRefIdeal.Run
public import Idealize.ShloMosaic.Lib.Claim

@[expose] public section

set_option maxRecDepth 16384

noncomputable section

namespace Cert.Heads

open Idealize.ShloMosaic Idealize.ShloMosaic.TcCoe Idealize.SL.Sem Cert.QkvIdeal Cert.QkvIdeal.Block

theorem algebraic : algebraic_QkvIdeal_QkvRefIdeal := by
  pair_intro
  · run_from (Cert.QkvIdeal.Value.run_blocks m g)
  · run_from (Cert.QkvRefIdeal.Value.run m' g')
    · rw [Cert.QkvRefIdeal.Read.val_main_v34_eq, final5 m c]
      funext i
      rw [eq_ix2 i]
      exact Cert.QkvRefIdeal.Rows.query_apply _ _ (i 0) (i 1)
    · rw [Cert.QkvRefIdeal.Read.val_main_v36_eq, final6 m c]
      funext i
      rw [eq_ix2 i]
      exact Cert.QkvRefIdeal.Rows.key36_apply _ _ (i 0) (i 1)
    · rw [Cert.QkvRefIdeal.Read.val_main_v37_eq, final7 m c]
      funext i
      rw [eq_ix2 i]
      exact Cert.QkvRefIdeal.Rows.value_apply _ (i 0) (i 1)
    · rw [Cert.QkvRefIdeal.Read.val_main_v38_eq, final8 m c]
      funext i
      rw [eq_ix2 i]
      exact Cert.QkvRefIdeal.Rows.key38_apply _ _ (i 0) (i 1)

end Cert.Heads
end
-- ==== Proof.Last.Math.lean ====
/-
  THE ROOT-MEAN-SQUARE NORM of one row, of 2048 entries: the row over the root of its mean square, times the weights.
-/
module

public import Idealize.ShloMosaic.PureOps.Ideal.Laws

@[expose] public section

noncomputable section

namespace Cert.Last

open Idealize.ShloMosaic
open scoped BigOperators

def normRow (x g : Fin 2048 → EReal) (d : Fin 2048) : EReal :=
  x d * Ideal.rsqrt (Ideal.div (∑ e, x e * x e) (Ideal.ofBits FTy.f32 0x45000000#32) + Ideal.ofBits FTy.f32 0x358637BD#32) * g d

end Cert.Last
end
-- ==== Proof.Last.Sample.lean ====
/-
  THE LAST NORM OF THE SAMPLE BATCH: what a block of 256 rows computes, what the result array holds, what the reference's entry
  is, and that the two arrays are equal.
-/
module

public import proofs.«01_k».proof.Defs
public import proofs.«01_k».proof.Proof.Last.Math
public import proofs.«01_k».proof.Proof.Gen.LastSampleIdeal.Value
public import proofs.«01_k».proof.Proof.Gen.LastSampleRefIdeal.Run
public import proofs.«01_k».proof.Proof.Gen.LastSampleRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.LastSampleIdeal.Block

open Cert.LastSampleIdeal Cert.LastSampleIdeal.Gen Cert.Last Idealize.ShloMosaic Idealize.ShloMosaic.TcCoe Idealize.SL.Sem
open scoped BigOperators

theorem out_apply (x0 : FVec Ideal S256x2048 .f32) (x1 : FVec Ideal S1x2048 .f32) (y : S256x2048.Idx) :
    out0_2 (F := Ideal) x0 x1 y = normRow (fun e => x0 (ix2 (y 0) e)) (fun e => x1 (ix2 0 e)) (y 1) := by
  unfold out0_2
  refine View.canon_apply_of_pieces (Val := Elt Ideal) (fun y => normRow (fun e => x0 (ix2 (y 0) e)) (fun e => x1 (ix2 0 e)) (y 1)) _ ?_ y (cover0_2 _ y)
  simp only [List.mem_cons, List.not_mem_nil, or_false, forall_eq]
  intro x
  obtain ⟨r, d, rfl⟩ : ∃ (r : Fin 256) (d : Fin 2048), x = ix2 r d := ⟨x 0, x 1, eq_ix2 x⟩
  refine Eq.trans (b := normRow (fun e => x0 (ix2 r e)) (fun e => x1 (ix2 0 e)) d) ?_
    (congr_arg₂ (fun (a : Fin 256) (b : Fin 2048) => normRow (fun e => x0 (ix2 a e)) (fun e => x1 (ix2 0 e)) b) (Fin.ext ?_) (Fin.ext ?_))
  · unfold normRow
    pointwise [k0_pay1]
  · show r.val = 0 + 1 * r.val
    omega
  · show d.val = 0 + 1 * d.val
    omega

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem V_weights (c : Dev nD) : V m c main_v0 = shapeCast S1x2048 (m ((c : Thread nD τ).loc main_arg1)) shapeCasts_S2048_S1x2048 := by
  unfold V hostOps0
  after_results
  rfl

theorem blk0 (c : Dev nD) (t : Fin cfg0.N) (r : Fin 256) (e : Fin 2048) (n : Fin 20480) (h : n.val = (t.val) * 256 + r.val) :
    iblk m c 0 t (ix2 r e) = m ((c : Thread nD τ).loc main_arg0) (ix2 n e) := by
  obtain ⟨n, hn⟩ := n
  obtain rfl : n = (t.val) * 256 + r.val := h
  blk_ext! [iblk, V, idx t]

theorem blk1 (c : Dev nD) (t : Fin cfg0.N) (e : Fin 2048) :
    iblk m c 1 t (ix2 0 e) = m ((c : Thread nD τ).loc main_arg1) (ix1 e) := by
  blk_ext! [iblk, V_weights, idx t]

/-- The result at row `i` and column `d`, from the residual stream and the weights. -/
def OUT (x : FVec Ideal S20480x2048 .f32) (g : FVec Ideal S2048 .f32) (i : Fin 16384) (d : Fin 2048) : EReal :=
  normRow (fun e => x (ix2 (⟨i.val, by omega⟩ : Fin 20480) e)) (fun e => g (ix1 e)) d

/-- A block's entry is the array's, at the row it is written to. -/
theorem at_block (c : Dev nD) (t : Fin cfg0.N) (r : Fin 256) (d : Fin 2048) (n : Fin 16384) (d' : Fin 2048)
    (hn : n.val = t.val * 256 + r.val) (hd : d'.val = d.val) :
    normRow (fun e => iblk m c 0 t (ix2 r e)) (fun e => iblk m c 1 t (ix2 0 e)) d
      = OUT (m ((c : Thread nD τ).loc main_arg0)) (m ((c : Thread nD τ).loc main_arg1)) n d' := by
  unfold OUT
  obtain rfl : d' = d := Fin.ext hd
  rw [funext fun e => blk1 m c t e, funext fun e => blk0 m c t r e ⟨n.val, by omega⟩ (by show n.val = _; omega)]

/-- The result array: every row normalised. -/
theorem final (c : Dev nD) : (dats m 0 c).arrAt 2 cfg0.N
    = fun i : S16384x2048.Idx => OUT (m ((c : Thread nD τ).loc main_arg0)) (m ((c : Thread nD τ).loc main_arg1)) (i 0) (i 1) := by
  refine (dats m 0 c).arrAt_eq_of_covers 2 _ (by decide +kernel) fun t _ y => ?_
  blk_simp
  rw [after0_2, out_apply]
  have e0 : ((win0_2.blk t).view.emb y 0 : Fin 16384).val = t.val * 256 + (y 0).val := by blk_simp [idx t]
  have e1 : ((win0_2.blk t).view.emb y 1 : Fin 2048).val = (y 1).val := by blk_simp [idx t]
  exact at_block m c t (y 0) (y 1) _ _ e0 e1

end Cert.LastSampleIdeal.Block

namespace Cert.LastSampleRefIdeal.Row

open Cert.LastSampleRefIdeal Cert.LastSampleRefIdeal.Gen Cert.LastSampleRefIdeal.Read Cert.Last Idealize.ShloMosaic Idealize.ShloMosaic.TcCoe Idealize.SL.Sem
open Idealize.ShloMosaic.StableHlo
open scoped BigOperators

variable (x0 : FVec Ideal S20480x2048 .f32) (x1 : FVec Ideal S2048 .f32)

theorem result_apply (n : Fin 16384) (d : Fin 2048) : val_main_v15 (F := Ideal) x0 x1 (ix2 n d)
    = normRow (fun e => x0 (ix2 (⟨n.val, by omega⟩ : Fin 20480) e)) (fun e => x1 (ix1 e)) d := by
  have hx : ∀ e, val_main_v1 (F := Ideal) x0 (ix3 (⟨n.val / 2048, by omega⟩ : Fin 8) (⟨n.val % 2048, by omega⟩ : Fin 2048) e)
      = x0 (ix2 (⟨n.val, by omega⟩ : Fin 20480) e) := fun e => by
    have hp : n.val / 2048 * 2048 + n.val % 2048 = n.val := by omega
    pointwise [val_main_v1, val_main_v0, hp]
  unfold normRow
  simp only [← hx]
  unfold val_main_v15 val_main_v14 val_main_v11 val_main_v10 val_main_v9 val_main_v8 val_main_v6 val_main_v4 val_main_v3 val_main_v2
  generalize val_main_v1 (F := Ideal) x0 = y
  pointwise [val_main_v13, val_main_v12, val_main_v7, val_main_v5, val_main_cst, val_main_cst_0, val_main_cst_1]

end Cert.LastSampleRefIdeal.Row

namespace Cert.Last

open Idealize.ShloMosaic Idealize.ShloMosaic.TcCoe Idealize.SL.Sem Cert.LastSampleIdeal

theorem algebraic_sample : algebraic_LastSampleIdeal_LastSampleRefIdeal := by
  pair_intro
  · run_from (Cert.LastSampleIdeal.Value.run_blocks m g)
  · run_from (Cert.LastSampleRefIdeal.Value.run m' g')
    obtain ⟨e0, e1⟩ := hagree c
    rw [Cert.LastSampleRefIdeal.Read.val_main_v15_eq, Cert.LastSampleIdeal.Block.final m c]
    funext i
    rw [eq_ix2 i]
    exact Cert.LastSampleRefIdeal.Row.result_apply _ _ (i 0) (i 1)

end Cert.Last
end
-- ==== Proof.Last.Prompt.lean ====
/-
  THE LAST NORM OF THE PROMPT BATCH: what a block of 256 rows computes, what the result array holds, what the reference's entry
  is, and that the two arrays are equal.
-/
module

public import proofs.«01_k».proof.Defs
public import proofs.«01_k».proof.Proof.Last.Math
public import proofs.«01_k».proof.Proof.Gen.LastPromptIdeal.Value
public import proofs.«01_k».proof.Proof.Gen.LastPromptRefIdeal.Run
public import proofs.«01_k».proof.Proof.Gen.LastPromptRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.LastPromptIdeal.Block

open Cert.LastPromptIdeal Cert.LastPromptIdeal.Gen Cert.Last Idealize.ShloMosaic Idealize.ShloMosaic.TcCoe Idealize.SL.Sem
open scoped BigOperators

theorem out_apply (x0 : FVec Ideal S256x2048 .f32) (x1 : FVec Ideal S1x2048 .f32) (y : S256x2048.Idx) :
    out0_2 (F := Ideal) x0 x1 y = normRow (fun e => x0 (ix2 (y 0) e)) (fun e => x1 (ix2 0 e)) (y 1) := by
  unfold out0_2
  refine View.canon_apply_of_pieces (Val := Elt Ideal) (fun y => normRow (fun e => x0 (ix2 (y 0) e)) (fun e => x1 (ix2 0 e)) (y 1)) _ ?_ y (cover0_2 _ y)
  simp only [List.mem_cons, List.not_mem_nil, or_false, forall_eq]
  intro x
  obtain ⟨r, d, rfl⟩ : ∃ (r : Fin 256) (d : Fin 2048), x = ix2 r d := ⟨x 0, x 1, eq_ix2 x⟩
  refine Eq.trans (b := normRow (fun e => x0 (ix2 r e)) (fun e => x1 (ix2 0 e)) d) ?_
    (congr_arg₂ (fun (a : Fin 256) (b : Fin 2048) => normRow (fun e => x0 (ix2 a e)) (fun e => x1 (ix2 0 e)) b) (Fin.ext ?_) (Fin.ext ?_))
  · unfold normRow
    pointwise [k0_pay1]
  · show r.val = 0 + 1 * r.val
    omega
  · show d.val = 0 + 1 * d.val
    omega

variable (m : (ℓ : Loc nD τ sig) → Buf (Elt Ideal) ℓ)

theorem idx : ∀ t : Fin cfg0.N, win0_0.index t = ![64 + t.val, 0] ∧ win0_1.index t = ![0, 0] ∧ win0_2.index t = ![t.val, 0] :=
  (by decide +kernel : ∀ t : Fin grid0.N, _)

theorem V_weights (c : Dev nD) : V m c main_v0 = shapeCast S1x2048 (m ((c : Thread nD τ).loc main_arg1)) shapeCasts_S2048_S1x2048 := by
  unfold V hostOps0
  after_results
  rfl

theorem blk0 (c : Dev nD) (t : Fin cfg0.N) (r : Fin 256) (e : Fin 2048) (n : Fin 20480) (h : n.val = (64 + t.val) * 256 + r.val) :
    iblk m c 0 t (ix2 r e) = m ((c : Thread nD τ).loc main_arg0) (ix2 n e) := by
  obtain ⟨n, hn⟩ := n
  obtain rfl : n = (64 + t.val) * 256 + r.val := h
  blk_ext! [iblk, V, idx t]

theorem blk1 (c : Dev nD) (t : Fin cfg0.N) (e : Fin 2048) :
    iblk m c 1 t (ix2 0 e) = m ((c : Thread nD τ).loc main_arg1) (ix1 e) := by
  blk_ext! [iblk, V_weights, idx t]

/-- The result at row `i` and column `d`, from the residual stream and the weights. -/
def OUT (x : FVec Ideal S20480x2048 .f32) (g : FVec Ideal S2048 .f32) (i : Fin 4096) (d : Fin 2048) : EReal :=
  normRow (fun e => x (ix2 (⟨16384 + i.val, by omega⟩ : Fin 20480) e)) (fun e => g (ix1 e)) d

/-- A block's entry is the array's, at the row it is written to. -/
theorem at_block (c : Dev nD) (t : Fin cfg0.N) (r : Fin 256) (d : Fin 2048) (n : Fin 4096) (d' : Fin 2048)
    (hn : n.val = t.val * 256 + r.val) (hd : d'.val = d.val) :
    normRow (fun e => iblk m c 0 t (ix2 r e)) (fun e => iblk m c 1 t (ix2 0 e)) d
      = OUT (m ((c : Thread nD τ).loc main_arg0)) (m ((c : Thread nD τ).loc main_arg1)) n d' := by
  unfold OUT
  obtain rfl : d' = d := Fin.ext hd
  rw [funext fun e => blk1 m c t e, funext fun e => blk0 m c t r e ⟨16384 + n.val, by omega⟩ (by show 16384 + n.val = _; omega)]

/-- The result array: every row normalised. -/
theorem final (c : Dev nD) : (dats m 0 c).arrAt 2 cfg0.N
    = fun i : S4096x2048.Idx => OUT (m ((c : Thread nD τ).loc main_arg0)) (m ((c : Thread nD τ).loc main_arg1)) (i 0) (i 1) := by
  refine (dats m 0 c).arrAt_eq_of_covers 2 _ (by decide +kernel) fun t _ y => ?_
  blk_simp
  rw [after0_2, out_apply]
  have e0 : ((win0_2.blk t).view.emb y 0 : Fin 4096).val = t.val * 256 + (y 0).val := by blk_simp [idx t]
  have e1 : ((win0_2.blk t).view.emb y 1 : Fin 2048).val = (y 1).val := by blk_simp [idx t]
  exact at_block m c t (y 0) (y 1) _ _ e0 e1

end Cert.LastPromptIdeal.Block

namespace Cert.LastPromptRefIdeal.Row

open Cert.LastPromptRefIdeal Cert.LastPromptRefIdeal.Gen Cert.LastPromptRefIdeal.Read Cert.Last Idealize.ShloMosaic Idealize.ShloMosaic.TcCoe Idealize.SL.Sem
open Idealize.ShloMosaic.StableHlo
open scoped BigOperators

variable (x0 : FVec Ideal S20480x2048 .f32) (x1 : FVec Ideal S2048 .f32)

theorem result_apply (n : Fin 4096) (d : Fin 2048) : val_main_v15 (F := Ideal) x0 x1 (ix2 n d)
    = normRow (fun e => x0 (ix2 (⟨16384 + n.val, by omega⟩ : Fin 20480) e)) (fun e => x1 (ix1 e)) d := by
  have hx : ∀ e, val_main_v1 (F := Ideal) x0 (ix3 (⟨n.val / 256, by omega⟩ : Fin 16) (⟨n.val % 256, by omega⟩ : Fin 256) e)
      = x0 (ix2 (⟨16384 + n.val, by omega⟩ : Fin 20480) e) := fun e => by
    have hp : n.val / 256 * 256 + n.val % 256 = n.val := by omega
    pointwise [val_main_v1, val_main_v0, hp]
  unfold normRow
  simp only [← hx]
  unfold val_main_v15 val_main_v14 val_main_v11 val_main_v10 val_main_v9 val_main_v8 val_main_v6 val_main_v4 val_main_v3 val_main_v2
  generalize val_main_v1 (F := Ideal) x0 = y
  pointwise [val_main_v13, val_main_v12, val_main_v7, val_main_v5, val_main_cst, val_main_cst_0, val_main_cst_1]

end Cert.LastPromptRefIdeal.Row

namespace Cert.Last

open Idealize.ShloMosaic Idealize.ShloMosaic.TcCoe Idealize.SL.Sem Cert.LastPromptIdeal

theorem algebraic_prompt : algebraic_LastPromptIdeal_LastPromptRefIdeal := by
  pair_intro
  · run_from (Cert.LastPromptIdeal.Value.run_blocks m g)
  · run_from (Cert.LastPromptRefIdeal.Value.run m' g')
    obtain ⟨e0, e1⟩ := hagree c
    rw [Cert.LastPromptRefIdeal.Read.val_main_v15_eq, Cert.LastPromptIdeal.Block.final m c]
    funext i
    rw [eq_ix2 i]
    exact Cert.LastPromptRefIdeal.Row.result_apply _ _ (i 0) (i 1)

end Cert.Last
end
-- ==== Proof.Scan.Head.lean ====
/-
  WHAT THE KERNEL LEAVES IN THE CARRIED STATE at one grid point: eight heads, each the same function of its slice of
  the chunk's operands and of the state before.
-/
module

public import proofs.«01_k».proof.Proof.Gen.ScanIdeal.Frame
public import Idealize.ShloMosaic.PureOps.Ideal.Laws
public import Idealize.ShloMosaic.Lib.Pointwise
public import Idealize.ShloMosaic.Lib.Pipeline.ValueKit
public import Idealize.ShloMosaic.Lib.Pipeline.ReadBack

@[expose] public section

set_option maxRecDepth 16384
set_option maxHeartbeats 4000000

noncomputable section

namespace Cert.ScanIdeal.Block

open Cert.ScanIdeal Cert.ScanIdeal.Gen Idealize.ShloMosaic Idealize.ShloMosaic.TcCoe Idealize.SL.Sem

abbrev M32 := FVec Ideal S64x64 .f32
abbrev M16 := FVec Ideal S64x64 .bf16

def zero : M32 := constant S64x64 .f32 0x00000000#32
/-- The products of two matrices: plain, with the second one transposed, with the first one transposed. -/
def mm (a b : M16) : M32 := matmul dot_S64x64_S64x64_S64x64_1_0_0_1_n_n none a b zero
def mmt (a b : M16) : M32 := matmul dot_S64x64_S64x64_S64x64_1_1_0_0_n_n none a b zero
def tmm (a b : M16) : M32 := matmul dot_S64x64_S64x64_S64x64_0_0_1_1_n_n none a b zero
def hi (a : M32) : M16 := truncf .bf16 a bitsLt_bf16_f32
def lo (a : M32) : M16 := truncf .bf16 (subf a (extf .f32 (hi a) bitsLt_bf16_f32)) bitsLt_bf16_f32
/-- A product in three parts. -/
def mm3 (a b : M32) : M32 := addf (mm (hi a) (hi b)) (addf (mm (hi a) (lo b)) (mm (lo a) (hi b)))
def blank : M32 := broadcast S64x64 (Scalar.ofBits (F := Ideal) .f32 0x00000000#32)
def masked (k : IVec S64x64 1) (a b : M16) : M32 := select k (mmt a b) blank

def square1 (n : M32) : M32 := mm3 n n
def better (x p : M32) : M32 := addf x (mm3 x p)

/-- The triangular system's inverse. -/
def unit_inverse (n eye : M32) : M32 :=
  better (better (better (better (better (subf eye n) (square1 n)) (square1 (square1 n))) (square1 (square1 (square1 n))))
    (square1 (square1 (square1 (square1 n))))) (square1 (square1 (square1 (square1 (square1 n)))))

def right (k : IVec S64x64 1) (kkt kt vb : M16) (s : M32) : M32 :=
  subf blank (addf (mmt kkt (hi s)) (mm (hi (masked k kkt kt)) vb))

def solved (k : IVec S64x64 1) (eye : M32) (kkt bt kt vb : M16) (s : M32) : M32 :=
  mm3 (unit_inverse (masked k kkt bt) eye) (right k kkt kt vb s)

/-- One head's next state. -/
def next (k : IVec S64x64 1) (eye : M32) (kkt bt kt bh kh vb : M16) (w : FVec Ideal S1x64 .f32) (s : FVec Ideal S1x64x64 .f32) :
    FVec Ideal S1x64x64 .f32 :=
  shapeCast S1x64x64 (addf (addf (mulf (shapeCast S64x64 s shapeCasts_S1x64x64_S64x64) (broadcastTo S64x64 w broadcasts_S1x64_S64x64))
      (tmm (hi (solved k eye kkt bt kt vb (shapeCast S64x64 s shapeCasts_S1x64x64_S64x64))) bh)) (tmm vb kh)) shapeCasts_S64x64_S1x64x64

variable (i : grid0.Coords)
    (x1 : FVec Ideal S64x512 .f32) (x2 : FVec Ideal S64x512 .f32) (x3 : FVec Ideal S1x64x512 .f32) (x4 : FVec Ideal S1x64x512 .f32) (x5 : FVec Ideal S1x64x512 .f32)
    (s : FVec Ideal S8x64x64 .f32)

def head0 : FVec Ideal S1x64x64 .f32 :=
  next (k0_pay5 i) k0_pay7 (extractStridedSlice S64x64 ![0, 0] (k0_pay12 i x3 x2) slices_S64x512_o0_0_S64x64)
    (extractStridedSlice S64x64 ![0, 0] (k0_pay16 (k0_pay11 i x3) x5) slices_S64x512_o0_0_S64x64)
    (extractStridedSlice S64x64 ![0, 0] (k0_pay17 (k0_pay11 i x3) x4) slices_S64x512_o0_0_S64x64)
    (extractStridedSlice S64x64 ![0, 0] (k0_pay19 (k0_pay9 i x3) (k0_pay10 x3) x5) slices_S64x512_o0_0_S64x64)
    (extractStridedSlice S64x64 ![0, 0] (k0_pay20 (k0_pay9 i x3) (k0_pay10 x3) x4) slices_S64x512_o0_0_S64x64)
    (extractStridedSlice S64x64 ![0, 0] (k0_pay22 x1) slices_S64x512_o0_0_S64x64)
    (extractStridedSlice S1x64 ![0, 0] (k0_pay21 (k0_pay10 x3)) slices_S1x512_o0_0_S1x64)
    (View.ld (Val := Elt Ideal) (e' := .f32) s (Rect.unit (s := S8x64x64) ![0, 0, 0] S1x64x64.size inb_S8x64x64_S1x64x64_0_0_0))

def head1 : FVec Ideal S1x64x64 .f32 :=
  next (k0_pay5 i) k0_pay7 (extractStridedSlice S64x64 ![0, 64] (k0_pay12 i x3 x2) slices_S64x512_o0_64_S64x64)
    (extractStridedSlice S64x64 ![0, 64] (k0_pay16 (k0_pay11 i x3) x5) slices_S64x512_o0_64_S64x64)
    (extractStridedSlice S64x64 ![0, 64] (k0_pay17 (k0_pay11 i x3) x4) slices_S64x512_o0_64_S64x64)
    (extractStridedSlice S64x64 ![0, 64] (k0_pay19 (k0_pay9 i x3) (k0_pay10 x3) x5) slices_S64x512_o0_64_S64x64)
    (extractStridedSlice S64x64 ![0, 64] (k0_pay20 (k0_pay9 i x3) (k0_pay10 x3) x4) slices_S64x512_o0_64_S64x64)
    (extractStridedSlice S64x64 ![0, 64] (k0_pay22 x1) slices_S64x512_o0_64_S64x64)
    (extractStridedSlice S1x64 ![0, 64] (k0_pay21 (k0_pay10 x3)) slices_S1x512_o0_64_S1x64)
    (View.ld (Val := Elt Ideal) (e' := .f32) s (Rect.unit (s := S8x64x64) ![1, 0, 0] S1x64x64.size inb_S8x64x64_S1x64x64_1_0_0))

def head2 : FVec Ideal S1x64x64 .f32 :=
  next (k0_pay5 i) k0_pay7 (extractStridedSlice S64x64 ![0, 128] (k0_pay12 i x3 x2) slices_S64x512_o0_128_S64x64)
    (extractStridedSlice S64x64 ![0, 128] (k0_pay16 (k0_pay11 i x3) x5) slices_S64x512_o0_128_S64x64)
    (extractStridedSlice S64x64 ![0, 128] (k0_pay17 (k0_pay11 i x3) x4) slices_S64x512_o0_128_S64x64)
    (extractStridedSlice S64x64 ![0, 128] (k0_pay19 (k0_pay9 i x3) (k0_pay10 x3) x5) slices_S64x512_o0_128_S64x64)
    (extractStridedSlice S64x64 ![0, 128] (k0_pay20 (k0_pay9 i x3) (k0_pay10 x3) x4) slices_S64x512_o0_128_S64x64)
    (extractStridedSlice S64x64 ![0, 128] (k0_pay22 x1) slices_S64x512_o0_128_S64x64)
    (extractStridedSlice S1x64 ![0, 128] (k0_pay21 (k0_pay10 x3)) slices_S1x512_o0_128_S1x64)
    (View.ld (Val := Elt Ideal) (e' := .f32) s (Rect.unit (s := S8x64x64) ![2, 0, 0] S1x64x64.size inb_S8x64x64_S1x64x64_2_0_0))

def head3 : FVec Ideal S1x64x64 .f32 :=
  next (k0_pay5 i) k0_pay7 (extractStridedSlice S64x64 ![0, 192] (k0_pay12 i x3 x2) slices_S64x512_o0_192_S64x64)
    (extractStridedSlice S64x64 ![0, 192] (k0_pay16 (k0_pay11 i x3) x5) slices_S64x512_o0_192_S64x64)
    (extractStridedSlice S64x64 ![0, 192] (k0_pay17 (k0_pay11 i x3) x4) slices_S64x512_o0_192_S64x64)
    (extractStridedSlice S64x64 ![0, 192] (k0_pay19 (k0_pay9 i x3) (k0_pay10 x3) x5) slices_S64x512_o0_192_S64x64)
    (extractStridedSlice S64x64 ![0, 192] (k0_pay20 (k0_pay9 i x3) (k0_pay10 x3) x4) slices_S64x512_o0_192_S64x64)
    (extractStridedSlice S64x64 ![0, 192] (k0_pay22 x1) slices_S64x512_o0_192_S64x64)
    (extractStridedSlice S1x64 ![0, 192] (k0_pay21 (k0_pay10 x3)) slices_S1x512_o0_192_S1x64)
    (View.ld (Val := Elt Ideal) (e' := .f32) s (Rect.unit (s := S8x64x64) ![3, 0, 0] S1x64x64.size inb_S8x64x64_S1x64x64_3_0_0))

def head4 : FVec Ideal S1x64x64 .f32 :=
  next (k0_pay5 i) k0_pay7 (extractStridedSlice S64x64 ![0, 256] (k0_pay12 i x3 x2) slices_S64x512_o0_256_S64x64)
    (extractStridedSlice S64x64 ![0, 256] (k0_pay16 (k0_pay11 i x3) x5) slices_S64x512_o0_256_S64x64)
    (extractStridedSlice S64x64 ![0, 256] (k0_pay17 (k0_pay11 i x3) x4) slices_S64x512_o0_256_S64x64)
    (extractStridedSlice S64x64 ![0, 256] (k0_pay19 (k0_pay9 i x3) (k0_pay10 x3) x5) slices_S64x512_o0_256_S64x64)
    (extractStridedSlice S64x64 ![0, 256] (k0_pay20 (k0_pay9 i x3) (k0_pay10 x3) x4) slices_S64x512_o0_256_S64x64)
    (extractStridedSlice S64x64 ![0, 256] (k0_pay22 x1) slices_S64x512_o0_256_S64x64)
    (extractStridedSlice S1x64 ![0, 256] (k0_pay21 (k0_pay10 x3)) slices_S1x512_o0_256_S1x64)
    (View.ld (Val := Elt Ideal) (e' := .f32) s (Rect.unit (s := S8x64x64) ![4, 0, 0] S1x64x64.size inb_S8x64x64_S1x64x64_4_0_0))

def head5 : FVec Ideal S1x64x64 .f32 :=
  next (k0_pay5 i) k0_pay7 (extractStridedSlice S64x64 ![0, 320] (k0_pay12 i x3 x2) slices_S64x512_o0_320_S64x64)
    (extractStridedSlice S64x64 ![0, 320] (k0_pay16 (k0_pay11 i x3) x5) slices_S64x512_o0_320_S64x64)
    (extractStridedSlice S64x64 ![0, 320] (k0_pay17 (k0_pay11 i x3) x4) slices_S64x512_o0_320_S64x64)
    (extractStridedSlice S64x64 ![0, 320] (k0_pay19 (k0_pay9 i x3) (k0_pay10 x3) x5) slices_S64x512_o0_320_S64x64)
    (extractStridedSlice S64x64 ![0, 320] (k0_pay20 (k0_pay9 i x3) (k0_pay10 x3) x4) slices_S64x512_o0_320_S64x64)
    (extractStridedSlice S64x64 ![0, 320] (k0_pay22 x1) slices_S64x512_o0_320_S64x64)
    (extractStridedSlice S1x64 ![0, 320] (k0_pay21 (k0_pay10 x3)) slices_S1x512_o0_320_S1x64)
    (View.ld (Val := Elt Ideal) (e' := .f32) s (Rect.unit (s := S8x64x64) ![5, 0, 0] S1x64x64.size inb_S8x64x64_S1x64x64_5_0_0))

def head6 : FVec Ideal S1x64x64 .f32 :=
  next (k0_pay5 i) k0_pay7 (extractStridedSlice S64x64 ![0, 384] (k0_pay12 i x3 x2) slices_S64x512_o0_384_S64x64)
    (extractStridedSlice S64x64 ![0, 384] (k0_pay16 (k0_pay11 i x3) x5) slices_S64x512_o0_384_S64x64)
    (extractStridedSlice S64x64 ![0, 384] (k0_pay17 (k0_pay11 i x3) x4) slices_S64x512_o0_384_S64x64)
    (extractStridedSlice S64x64 ![0, 384] (k0_pay19 (k0_pay9 i x3) (k0_pay10 x3) x5) slices_S64x512_o0_384_S64x64)
    (extractStridedSlice S64x64 ![0, 384] (k0_pay20 (k0_pay9 i x3) (k0_pay10 x3) x4) slices_S64x512_o0_384_S64x64)
    (extractStridedSlice S64x64 ![0, 384] (k0_pay22 x1) slices_S64x512_o0_384_S64x64)
    (extractStridedSlice S1x64 ![0, 384] (k0_pay21 (k0_pay10 x3)) slices_S1x512_o0_384_S1x64)
    (View.ld (Val := Elt Ideal) (e' := .f32) s (Rect.unit (s := S8x64x64) ![6, 0, 0] S1x64x64.size inb_S8x64x64_S1x64x64_6_0_0))

def head7 : FVec Ideal S1x64x64 .f32 :=
  next (k0_pay5 i) k0_pay7 (extractStridedSlice S64x64 ![0, 448] (k0_pay12 i x3 x2) slices_S64x512_o0_448_S64x64)
    (extractStridedSlice S64x64 ![0, 448] (k0_pay16 (k0_pay11 i x3) x5) slices_S64x512_o0_448_S64x64)
    (extractStridedSlice S64x64 ![0, 448] (k0_pay17 (k0_pay11 i x3) x4) slices_S64x512_o0_448_S64x64)
    (extractStridedSlice S64x64 ![0, 448] (k0_pay19 (k0_pay9 i x3) (k0_pay10 x3) x5) slices_S64x512_o0_448_S64x64)
    (extractStridedSlice S64x64 ![0, 448] (k0_pay20 (k0_pay9 i x3) (k0_pay10 x3) x4) slices_S64x512_o0_448_S64x64)
    (extractStridedSlice S64x64 ![0, 448] (k0_pay22 x1) slices_S64x512_o0_448_S64x64)
    (extractStridedSlice S1x64 ![0, 448] (k0_pay21 (k0_pay10 x3)) slices_S1x512_o0_448_S1x64)
    (View.ld (Val := Elt Ideal) (e' := .f32) s (Rect.unit (s := S8x64x64) ![7, 0, 0] S1x64x64.size inb_S8x64x64_S1x64x64_7_0_0))

/-- The heads' pieces of the carried state, the last head first, over what was there. -/
def pieces (before : List (View.Piece (Elt Ideal) S8x64x64 .f32)) : List (View.Piece (Elt Ideal) S8x64x64 .f32) :=
  ⟨Rect.unit (s := S8x64x64) ![7, 0, 0] S1x64x64.size inb_S8x64x64_S1x64x64_7_0_0, head7 i x1 x2 x3 x4 x5 s⟩ ::
  ⟨Rect.unit (s := S8x64x64) ![6, 0, 0] S1x64x64.size inb_S8x64x64_S1x64x64_6_0_0, head6 i x1 x2 x3 x4 x5 s⟩ ::
  ⟨Rect.unit (s := S8x64x64) ![5, 0, 0] S1x64x64.size inb_S8x64x64_S1x64x64_5_0_0, head5 i x1 x2 x3 x4 x5 s⟩ ::
  ⟨Rect.unit (s := S8x64x64) ![4, 0, 0] S1x64x64.size inb_S8x64x64_S1x64x64_4_0_0, head4 i x1 x2 x3 x4 x5 s⟩ ::
  ⟨Rect.unit (s := S8x64x64) ![3, 0, 0] S1x64x64.size inb_S8x64x64_S1x64x64_3_0_0, head3 i x1 x2 x3 x4 x5 s⟩ ::
  ⟨Rect.unit (s := S8x64x64) ![2, 0, 0] S1x64x64.size inb_S8x64x64_S1x64x64_2_0_0, head2 i x1 x2 x3 x4 x5 s⟩ ::
  ⟨Rect.unit (s := S8x64x64) ![1, 0, 0] S1x64x64.size inb_S8x64x64_S1x64x64_1_0_0, head1 i x1 x2 x3 x4 x5 s⟩ ::
  ⟨Rect.unit (s := S8x64x64) ![0, 0, 0] S1x64x64.size inb_S8x64x64_S1x64x64_0_0_0, head0 i x1 x2 x3 x4 x5 s⟩ :: before

/-- The carried state after a grid point. -/
def heads : FVec Ideal S8x64x64 .f32 := View.canon (pieces i x1 x2 x3 x4 x5 s [])

/-- The carried state after a first chunk, whose start was stored whole. -/
def heads_over : FVec Ideal S8x64x64 .f32 :=
  View.canon (pieces i x1 x2 x3 x4 x5 s [⟨Rect.unit (s := S8x64x64) ![0, 0, 0] S8x64x64.size inb_S8x64x64_S8x64x64_0_0_0, s⟩])

end Cert.ScanIdeal.Block
end
-- ==== Proof.Scan.Cases.lean ====
/-
  THE THREE KINDS OF GRID POINT leave the heads' states in the scratch; the last kind also writes them out.
-/
module

public import proofs.«01_k».proof.Proof.Scan.Head

@[expose] public section

set_option maxRecDepth 16384
set_option maxHeartbeats 400000

noncomputable section

namespace Cert.ScanIdeal.Block

open Cert.ScanIdeal Cert.ScanIdeal.Gen Idealize.ShloMosaic Idealize.ShloMosaic.TcCoe Idealize.SL.Sem

variable (c : Dev nD) (i : grid0.Coords)
  (arg3 : Memref sig .tc .vmem S64x512 .f32) (harg3 : arg3.IsWhole)
  (arg4 : Memref sig .tc .vmem S64x512 .f32) (harg4 : arg4.IsWhole)
  (arg5 : Memref sig .tc .vmem S64x512 .f32) (harg5 : arg5.IsWhole)
  (arg6 : Memref sig .tc .vmem S1x64x512 .f32) (harg6 : arg6.IsWhole)
  (arg7 : Memref sig .tc .vmem S1x64x512 .f32) (harg7 : arg7.IsWhole)
  (arg8 : Memref sig .tc .vmem S1x64x512 .f32) (harg8 : arg8.IsWhole)
  (arg9 : Memref sig .tc .vmem S1x1x8x64x64 .f32) (harg9 : arg9.IsWhole)
  (arg10 : Memref sig .tc .vmem S1x64x512 .f32) (harg10 : arg10.IsWhole)
  (arg11 : Memref sig .tc .vmem S1x1x8x64x64 .f32) (harg11 : arg11.IsWhole)
  (arg12 : Memref sig .tc .vmem S8x64x64 .f32) (harg12 : arg12.IsWhole)
  (x0 : FVec Ideal S64x512 .f32) (x1 : FVec Ideal S64x512 .f32) (x2 : FVec Ideal S64x512 .f32) (x3 : FVec Ideal S1x64x512 .f32) (x4 : FVec Ideal S1x64x512 .f32) (x5 : FVec Ideal S1x64x512 .f32) (x6 : FVec Ideal S1x1x8x64x64 .f32) (s : FVec Ideal S8x64x64 .f32)

/-- A chunk in the middle. -/
theorem scratch_B (hc0 : ¬cond0_0 i) (hc1 : ¬cond0_1 i) :
    sout0_B_0 (F := Ideal) c i arg3 harg3 arg4 harg4 arg5 harg5 arg6 harg6 arg7 harg7 arg8 harg8 arg9 harg9 arg10 harg10 arg11 harg11 arg12 harg12 hc0 hc1 x0 x1 x2 x3 x4 x5 x6 s = heads i x1 x2 x3 x4 x5 s := by
  unfold sout0_B_0
  rw [View.read_writes_eq_canon _ _ _ (scover0_B_0 (F := Ideal) c i arg3 harg3 arg4 harg4 arg5 harg5 arg6 harg6 arg7 harg7 arg8 harg8 arg9 harg9 arg10 harg10 arg11 harg11 arg12 harg12 hc0 hc1 x0 x1 x2 x3 x4 x5 x6 s)]
  unfold kernelRun0_B
  dsimp only
  sl_unfold_words
  simp (disch := decide) only [↓ View.readCov_fill, View.readAt_eq_ld, Memref.IsWhole.read_unread, View.ld_unit_lit, View.canon_cons_unit_lit, View.readCov_eq_canon']
  unfold heads pieces
  refine congrArg View.canon ?_
  unfold head0 head1 head2 head3 head4 head5 head6 head7
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  all_goals
    simp only [k0_pay1, k0_pay2, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, next, solved, right, unit_inverse, better, square1, masked, mm3, hi, lo, mm, mmt, tmm, blank, zero]

/-- The last chunk. -/
theorem scratch_C (hc0 : ¬cond0_0 i) (hc1 : cond0_1 i) :
    sout0_C_0 (F := Ideal) c i arg3 harg3 arg4 harg4 arg5 harg5 arg6 harg6 arg7 harg7 arg8 harg8 arg9 harg9 arg10 harg10 arg11 harg11 arg12 harg12 hc0 hc1 x0 x1 x2 x3 x4 x5 x6 s = heads i x1 x2 x3 x4 x5 s := by
  unfold sout0_C_0
  rw [View.read_writes_eq_canon _ _ _ (scover0_C_0 (F := Ideal) c i arg3 harg3 arg4 harg4 arg5 harg5 arg6 harg6 arg7 harg7 arg8 harg8 arg9 harg9 arg10 harg10 arg11 harg11 arg12 harg12 hc0 hc1 x0 x1 x2 x3 x4 x5 x6 s)]
  unfold kernelRun0_C
  dsimp only
  sl_unfold_words
  simp (disch := decide) only [↓ View.readCov_fill, View.readAt_eq_ld, Memref.IsWhole.read_unread, View.ld_unit_lit, View.canon_cons_unit_lit, View.readCov_eq_canon']
  unfold heads pieces
  refine congrArg View.canon ?_
  unfold head0 head1 head2 head3 head4 head5 head6 head7
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  all_goals
    simp only [k0_pay1, k0_pay2, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, next, solved, right, unit_inverse, better, square1, masked, mm3, hi, lo, mm, mmt, tmm, blank, zero]

/-- The first chunk starts from the state handed in. -/
theorem scratch_A (hc0 : cond0_0 i) (hc1 : ¬cond0_1 i) :
    sout0_A_0 (F := Ideal) c i arg3 harg3 arg4 harg4 arg5 harg5 arg6 harg6 arg7 harg7 arg8 harg8 arg9 harg9 arg10 harg10 arg11 harg11 arg12 harg12 hc0 hc1 x0 x1 x2 x3 x4 x5 x6 = heads_over i x1 x2 x3 x4 x5 (k0_pay4 (F := Ideal) x6) := by
  unfold sout0_A_0
  rw [View.read_writes_eq_canon _ _ _ (scover0_A_0 (F := Ideal) c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp (disch := decide) only [↓ View.readCov_skip, ↓ View.readCov_fill, View.readAt_eq_ld, Memref.IsWhole.read_unread, View.ld_unit_lit, View.canon_cons_unit_lit, View.readCov_eq_canon']
  unfold heads_over pieces
  refine congrArg View.canon ?_
  unfold head0 head1 head2 head3 head4 head5 head6 head7
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  all_goals
    simp only [k0_pay1, k0_pay2, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, next, solved, right, unit_inverse, better, square1, masked, mm3, hi, lo, mm, mmt, tmm, blank, zero]

/-- The last chunk's state is written out. -/
theorem out_C (hc0 : ¬cond0_0 i) (hc1 : cond0_1 i) :
    out0_C_8 (F := Ideal) c i arg3 harg3 arg4 harg4 arg5 harg5 arg6 harg6 arg7 harg7 arg8 harg8 arg9 harg9 arg10 harg10 arg11 harg11 arg12 harg12 hc0 hc1 x0 x1 x2 x3 x4 x5 x6 s = k0_pay3 (F := Ideal) (heads i x1 x2 x3 x4 x5 s) := by
  unfold out0_C_8
  rw [View.read_writes_eq_canon _ _ _ (cover0_C_8 (F := Ideal) c i arg3 harg3 arg4 harg4 arg5 harg5 arg6 harg6 arg7 harg7 arg8 harg8 arg9 harg9 arg10 harg10 arg11 harg11 arg12 harg12 hc0 hc1 x0 x1 x2 x3 x4 x5 x6 s)]
  unfold kernelRun0_C
  dsimp only
  sl_unfold_words
  simp (disch := decide) only [↓ View.readCov_fill, View.readAt_eq_ld, Memref.IsWhole.read_unread, View.ld_unit_lit, View.canon_cons_unit_lit, View.readCov_eq_canon']
  refine congrArg k0_pay3 ?_
  refine (View.ld_unit_lit (S := S8x64x64) (Val := Elt Ideal) (e := .f32) (off := ![0, 0, 0]) inb_S8x64x64_S8x64x64_0_0_0 _ (by decide)).trans ?_
  unfold heads pieces
  refine congrArg View.canon ?_
  unfold head0 head1 head2 head3 head4 head5 head6 head7
  refine congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl)))))))
  all_goals
    simp only [k0_pay1, k0_pay2, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, next, solved, right, unit_inverse, better, square1, masked, mm3, hi, lo, mm, mmt, tmm, blank, zero]

end Cert.ScanIdeal.Block
end
-- ==== Proof.Scan.Blocks.lean ====
/-
  WHAT THE WINDOWS' BLOCKS HOLD at a grid point, in coordinates of the arguments. The point `t` works on the segment
  `t / 8`, the direction `t / 4 % 2` and the `t % 4`-th of the direction's chunks.
-/
module

public import proofs.«01_k».proof.Proof.Scan.Cases
public import proofs.«01_k».proof.Proof.Gen.ScanIdeal.Value
public import Idealize.ShloMosaic.Lib.Claim

@[expose] public section

set_option maxRecDepth 16384

noncomputable section

namespace Cert.ScanIdeal.Block

open Cert.ScanIdeal Cert.ScanIdeal.Gen Idealize.ShloMosaic Idealize.ShloMosaic.TcCoe Idealize.SL.Sem
open Idealize.ShloMosaic.Pipeline (Dat)

/-- A point's chunk of the segment. -/
def chunkOf (t : ℕ) : ℕ := if t / 4 % 2 = 0 then t % 4 else 3 - t % 4

theorem idx : ∀ t : Fin cfg0.N, win0_1.index t = ![256 + t.val / 8 * 4 + chunkOf t.val, 0]
    ∧ win0_2.index t = ![256 + t.val / 8 * 4 + chunkOf t.val, 0]
    ∧ win0_3.index t = ![t.val / 4 % 2, 256 + t.val / 8 * 4 + chunkOf t.val, 0]
    ∧ win0_4.index t = ![t.val / 4 % 2, 256 + t.val / 8 * 4 + chunkOf t.val, 0]
    ∧ win0_5.index t = ![t.val / 4 % 2, 256 + t.val / 8 * 4 + chunkOf t.val, 0]
    ∧ win0_6.index t = ![t.val / 8, t.val / 4 % 2, 0, 0, 0] ∧ win0_8.index t = ![t.val / 8, t.val / 4 % 2, 0, 0, 0]
    ∧ (grid0.coords t 1).val = t.val / 4 % 2 :=
  (by decide +kernel : ∀ t : Fin grid0.N, _)

variable (m : (ℓ : Loc nD τ sig) → Buf (Elt Ideal) ℓ) (c : Dev nD) (t : Fin cfg0.N)

theorem tlt : t.val < 128 := lt_of_lt_of_eq t.isLt (show cfg0.N = 128 from N_0)

theorem blk1 (r : Fin 64) (e : Fin 512) (n : Fin 20480) (hn : n.val = (256 + t.val / 8 * 4 + chunkOf t.val) * 64 + r.val) :
    iblk m c 1 t (ix2 r e) = m ((c : Thread nD τ).loc main_arg1) (ix2 n e) := by
  obtain ⟨n, h⟩ := n
  obtain rfl : n = _ := hn
  blk_ext! [iblk, V, idx t]

theorem blk2 (r : Fin 64) (e : Fin 512) (n : Fin 20480) (hn : n.val = (256 + t.val / 8 * 4 + chunkOf t.val) * 64 + r.val) :
    iblk m c 2 t (ix2 r e) = m ((c : Thread nD τ).loc main_arg2) (ix2 n e) := by
  obtain ⟨n, h⟩ := n
  obtain rfl : n = _ := hn
  blk_ext! [iblk, V, idx t]

theorem blk3 (r : Fin 64) (e : Fin 512) (d : Fin 2) (hd : d.val = t.val / 4 % 2) (n : Fin 20480) (hn : n.val = (256 + t.val / 8 * 4 + chunkOf t.val) * 64 + r.val) :
    iblk m c 3 t (ix3 0 r e) = m ((c : Thread nD τ).loc main_arg3) (ix3 d n e) := by
  obtain ⟨n, h⟩ := n
  obtain rfl : n = _ := hn
  obtain ⟨d, h'⟩ := d
  obtain rfl : d = _ := hd
  blk_ext! [iblk, V, idx t]

theorem blk4 (r : Fin 64) (e : Fin 512) (d : Fin 2) (hd : d.val = t.val / 4 % 2) (n : Fin 20480) (hn : n.val = (256 + t.val / 8 * 4 + chunkOf t.val) * 64 + r.val) :
    iblk m c 4 t (ix3 0 r e) = m ((c : Thread nD τ).loc main_arg4) (ix3 d n e) := by
  obtain ⟨n, h⟩ := n
  obtain rfl : n = _ := hn
  obtain ⟨d, h'⟩ := d
  obtain rfl : d = _ := hd
  blk_ext! [iblk, V, idx t]

theorem blk5 (r : Fin 64) (e : Fin 512) (d : Fin 2) (hd : d.val = t.val / 4 % 2) (n : Fin 20480) (hn : n.val = (256 + t.val / 8 * 4 + chunkOf t.val) * 64 + r.val) :
    iblk m c 5 t (ix3 0 r e) = m ((c : Thread nD τ).loc main_arg5) (ix3 d n e) := by
  obtain ⟨n, h⟩ := n
  obtain rfl : n = _ := hn
  obtain ⟨d, h'⟩ := d
  obtain rfl : d = _ := hd
  blk_ext! [iblk, V, idx t]

theorem blk6 (h : Fin 8) (x y : Fin 64) (bb : Fin 16) (hb : bb.val = t.val / 8) (d : Fin 2) (hd : d.val = t.val / 4 % 2) :
    iblk m c 6 t (ix5 0 0 h x y) = m ((c : Thread nD τ).loc main_arg6) (ix5 bb d h x y) := by
  obtain ⟨bb, h'⟩ := bb
  obtain rfl : bb = _ := hb
  obtain ⟨d, h''⟩ := d
  obtain rfl : d = _ := hd
  blk_ext! [iblk, V, idx t]

/-! What the carried state and the written block are after a point. -/

theorem before_lt : t.val - 1 < cfg0.N := Nat.lt_of_le_of_lt (Nat.sub_le _ _) t.isLt

theorem first_state (h : t.val % 4 = 0) : (outsAt0 m c t.val t.isLt).2.2
    = heads_over (grid0.coords t) (iblk m c 1 t) (iblk m c 2 t) (iblk m c 3 t) (iblk m c 4 t) (iblk m c 5 t) (k0_pay4 (F := Ideal) (iblk m c 6 t)) := by
  rw [outsAt0_A m c t h (by omega)]
  dsimp only
  exact scratch_A ..

theorem later_state (h : ¬t.val % 4 = 0) : (outsAt0 m c t.val t.isLt).2.2
    = heads (grid0.coords t) (iblk m c 1 t) (iblk m c 2 t) (iblk m c 3 t) (iblk m c 4 t) (iblk m c 5 t) (outsAt0 m c (t.val - 1) (before_lt t)).2.2 := by
  by_cases h' : t.val % 4 = 3
  · rw [outsAt0_C m c t h h']
    dsimp only
    exact scratch_C ..
  · rw [outsAt0_B m c t h h']
    dsimp only
    exact scratch_B ..

theorem last_out (h : t.val % 4 = 3) : (outsAt0 m c t.val t.isLt).2.1
    = k0_pay3 (F := Ideal) (heads (grid0.coords t) (iblk m c 1 t) (iblk m c 2 t) (iblk m c 3 t) (iblk m c 4 t) (iblk m c 5 t) (outsAt0 m c (t.val - 1) (before_lt t)).2.2) := by
  rw [outsAt0_C m c t (by omega) h]
  dsimp only
  exact out_C ..

end Cert.ScanIdeal.Block
end
-- ==== Proof.Scan.Chunk.lean ====
/-
  ONE CHUNK OF THE RECURRENCE, over the real numbers. The state takes one step per row: it decays, gives up what the
  row's key reads out of it, and gains the row's value. Over a chunk the values read out solve a triangular system;
  its inverse is a product of six factors, since the system's strictly triangular part vanishes in its 64th power.
-/
module

public import Idealize.ShloMosaic.PureOps.Ideal.Laws
public import Mathlib.LinearAlgebra.Matrix.NonsingularInverse

@[expose] public section

noncomputable section

namespace Cert.Scan

open scoped BigOperators
open Matrix

abbrev Mat := Matrix (Fin 64) (Fin 64) ℝ

/-- The six factors' product, multiplied out as squares are found. -/
def inverse (N : Mat) : Mat :=
  let p1 := N * N
  let x0 := 1 - N
  let x1 := x0 + x0 * p1
  let p2 := p1 * p1
  let x2 := x1 + x1 * p2
  let p3 := p2 * p2
  let x3 := x2 + x2 * p3
  let p4 := p3 * p3
  let x4 := x3 + x3 * p4
  let p5 := p4 * p4
  x4 + x4 * p5

theorem grow (a x p : Mat) (h : a * x = 1 - p) : a * (x + x * p) = 1 - p * p := by
  rw [Matrix.mul_add, ← Matrix.mul_assoc, h, Matrix.sub_mul, Matrix.one_mul]
  abel

/-- A matrix whose entry vanishes unless the row's place is `n` or more after the column's. -/
def Lower (at' : Fin 64 → ℕ) (n : ℕ) (M : Mat) : Prop := ∀ i j, at' i < at' j + n → M i j = 0

theorem Lower.mul {at' : Fin 64 → ℕ} {a b : ℕ} {A B : Mat} (hA : Lower at' a A) (hB : Lower at' b B) : Lower at' (a + b) (A * B) := by
  intro i j h
  rw [Matrix.mul_apply]
  refine Finset.sum_eq_zero fun l _ => ?_
  by_cases h1 : at' i < at' l + a
  · rw [hA i l h1, zero_mul]
  · rw [hB l j (by omega), mul_zero]

theorem inverse_mul (at' : Fin 64 → ℕ) (hat : ∀ i, at' i < 64) (N : Mat) (hN : Lower at' 1 N) : inverse N * (1 + N) = 1 := by
  have h2 := hN.mul hN
  have h4 := h2.mul h2
  have h8 := h4.mul h4
  have h16 := h8.mul h8
  have h32 := h16.mul h16
  have h64 := h32.mul h32
  have z := Matrix.ext fun i j => (h64 i j (by have := hat i; omega)).trans (Matrix.zero_apply (α := ℝ) i j).symm
  have g0 : (1 + N) * (1 - N) = 1 - N * N := by simp only [Matrix.add_mul, Matrix.mul_sub, Matrix.one_mul, Matrix.mul_one]; abel
  have g1 := grow _ _ _ g0
  have g2 := grow _ _ _ g1
  have g3 := grow _ _ _ g2
  have g4 := grow _ _ _ g3
  have g5 := grow _ _ _ g4
  rw [z, sub_zero] at g5
  exact mul_eq_one_comm.1 g5

/-- The state after `n` rows, the rows taken in the order `row 0, row 1, …`. -/
def after (w k v kk b : ℕ → Fin 64 → ℝ) (S : Fin 64 → Fin 64 → ℝ) : ℕ → Fin 64 → Fin 64 → ℝ
  | 0 => S
  | n + 1 => fun x y => after w k v kk b S n x y * w n y - (∑ z, after w k v kk b S n x z * kk n z) * b n y + v n x * k n y

theorem after_add (w k v kk b : ℕ → Fin 64 → ℝ) (S : Fin 64 → Fin 64 → ℝ) (a n : ℕ) :
    after w k v kk b S (a + n) = after (fun t => w (a + t)) (fun t => k (a + t)) (fun t => v (a + t)) (fun t => kk (a + t))
      (fun t => b (a + t)) (after w k v kk b S a) n := by
  induction n with
  | zero => rfl
  | succ n ih => rw [← Nat.add_assoc]; funext x y; simp only [after, ih]

theorem after_congr {w k v kk b w' k' v' kk' b' : ℕ → Fin 64 → ℝ} (S : Fin 64 → Fin 64 → ℝ) (n : ℕ)
    (h : ∀ t < n, w t = w' t ∧ k t = k' t ∧ v t = v' t ∧ kk t = kk' t ∧ b t = b' t) :
    after w k v kk b S n = after w' k' v' kk' b' S n := by
  induction n with
  | zero => rfl
  | succ n ih =>
    have e := ih fun t ht => h t (by omega)
    obtain ⟨h1, h2, h3, h4, h5⟩ := h n (by omega)
    funext x y
    simp only [after, e, h1, h2, h3, h4, h5]

section Chunk

variable (lw k v kk b : ℕ → Fin 64 → ℝ) (S : Fin 64 → Fin 64 → ℝ)

/-- The logarithm of the decay over the first `n` rows. -/
def cum (n : ℕ) (y : Fin 64) : ℝ := ∑ t ∈ Finset.range n, lw t y

/-- What row `t`'s key takes out of the state. -/
def taken (t : ℕ) (x : Fin 64) : ℝ := -∑ z, after (fun t y => Real.exp (lw t y)) k v kk b S t x z * kk t z

theorem after_eq (n : ℕ) (x y : Fin 64) :
    after (fun t y => Real.exp (lw t y)) k v kk b S n x y = Real.exp (cum lw n y) * (S x y
      + ∑ t ∈ Finset.range n, (taken lw k v kk b S t x * (b t y * Real.exp (-cum lw (t + 1) y))
        + v t x * (k t y * Real.exp (-cum lw (t + 1) y)))) := by
  induction n with
  | zero => simp [after, cum]
  | succ n ih =>
    have e : Real.exp (cum lw (n + 1) y) = Real.exp (cum lw n y) * Real.exp (lw n y) := by
      rw [← Real.exp_add]; simp [cum, Finset.sum_range_succ]
    have i : Real.exp (cum lw (n + 1) y) * Real.exp (-cum lw (n + 1) y) = 1 := by rw [← Real.exp_add]; simp
    have t : after (fun t y => Real.exp (lw t y)) k v kk b S (n + 1) x y
        = after (fun t y => Real.exp (lw t y)) k v kk b S n x y * Real.exp (lw n y) + taken lw k v kk b S n x * b n y + v n x * k n y := by
      simp only [after, taken]; ring
    rw [t, ih, Finset.sum_range_succ, e]
    rw [e] at i
    linear_combination (-(taken lw k v kk b S n x * b n y) - v n x * k n y) * i

end Chunk

end Cert.Scan
end
-- ==== Proof.Scan.Triangle.lean ====
/-
  THE CHUNK'S TRIANGULAR FORM IS ITS 64 STEPS. The chunk's rows are taken in an order: place `t` has row `row t`, row
  `a` has place `at' a`.
-/
module

public import proofs.«01_k».proof.Proof.Scan.Chunk

@[expose] public section

noncomputable section

namespace Cert.Scan

open scoped BigOperators
open Matrix

section Order

variable (row : ℕ → Fin 64) (at' : Fin 64 → ℕ) (hrow : ∀ a, row (at' a) = a) (hat : ∀ t < 64, at' (row t) = t) (hlt : ∀ a, at' a < 64)

include hrow hat in
/-- A sum over the first places is a sum over the rows placed there. -/
theorem sum_rows (f : Fin 64 → ℝ) (n : ℕ) (hn : n ≤ 64) :
    ∑ t ∈ Finset.range n, f (row t) = ∑ a, if at' a < n then f a else 0 := by
  rw [← Finset.sum_filter]
  refine Finset.sum_nbij' row at' ?_ ?_ ?_ ?_ ?_
  · intro t ht
    have := Finset.mem_range.1 ht
    simp only [Finset.mem_filter, Finset.mem_univ, true_and]
    rw [hat t (by omega)]; exact this
  · intro a ha
    exact Finset.mem_range.2 (Finset.mem_filter.1 ha).2
  · intro t ht
    have := Finset.mem_range.1 ht
    exact hat t (by omega)
  · intro a _; exact hrow a
  · intro t _; rfl

include hrow hat hlt in
theorem sum_all (f : Fin 64 → ℝ) : ∑ t ∈ Finset.range 64, f (row t) = ∑ a, f a := by
  rw [sum_rows row at' hrow hat f 64 le_rfl]
  exact Finset.sum_congr rfl fun a _ => if_pos (hlt a)

variable (lw k v kk b : Fin 64 → Fin 64 → ℝ) (S : Fin 64 → Fin 64 → ℝ)

/-- The logarithm of the decay up to a row, the row's own included; and over the chunk. -/
def upto (a y : Fin 64) : ℝ := ∑ l, if at' l ≤ at' a then lw l y else 0
def total (y : Fin 64) : ℝ := ∑ l, lw l y

def key (a y : Fin 64) : ℝ := kk a y * Real.exp (upto at' lw a y - lw a y)
def grown (u : Fin 64 → Fin 64 → ℝ) (a y : Fin 64) : ℝ := u a y * Real.exp (-upto at' lw a y)
def toEnd (u : Fin 64 → Fin 64 → ℝ) (a y : Fin 64) : ℝ := u a y * Real.exp (total lw y - upto at' lw a y)

def low (p q : Fin 64 → Fin 64 → ℝ) : Mat := fun a l => if at' l < at' a then ∑ y, p a y * q l y else 0

def rhs : Mat := fun a x => -(∑ y, key at' lw kk a y * S x y
  + ∑ l, low at' (key at' lw kk) (grown at' lw k) a l * v l x)

def solution : Mat := inverse (low at' (key at' lw kk) (grown at' lw b)) * rhs at' lw k v kk S

/-- The state after the chunk, by the triangular form. -/
def chunk (x y : Fin 64) : ℝ := S x y * Real.exp (total lw y) + ∑ a, solution at' lw k v kk b S a x * toEnd at' lw b a y
  + ∑ a, v a x * toEnd at' lw k a y

def seq (u : Fin 64 → Fin 64 → ℝ) (t : ℕ) : Fin 64 → ℝ := u (row t)

include hrow hat hlt in
theorem cum_upto (a y : Fin 64) : cum (seq row lw) (at' a + 1) y = upto at' lw a y := by
  have := hlt a
  refine (sum_rows row at' hrow hat (fun l => lw l y) (at' a + 1) (by omega)).trans ?_
  exact Finset.sum_congr rfl fun l _ => by simp only [Nat.lt_succ_iff]

include hrow hat hlt in
theorem cum_total (y : Fin 64) : cum (seq row lw) 64 y = total lw y :=
  sum_all row at' hrow hat hlt fun l => lw l y

include hrow hat hlt in
theorem cum_before (a y : Fin 64) : cum (seq row lw) (at' a) y = upto at' lw a y - lw a y := by
  rw [← cum_upto row at' hrow hat hlt lw a y]
  simp only [cum, Finset.sum_range_succ, seq, hrow]
  ring

/-- What a row's key takes out of the state. -/
def out : Mat := fun a x => taken (seq row lw) (seq row k) (seq row v) (seq row kk) (seq row b) S (at' a) x

include hrow hat hlt in
theorem before_sum (n : ℕ) (hn : n ≤ 64) (x y : Fin 64) :
    ∑ t ∈ Finset.range n, (taken (seq row lw) (seq row k) (seq row v) (seq row kk) (seq row b) S t x
        * (seq row b t y * Real.exp (-cum (seq row lw) (t + 1) y))
      + seq row v t x * (seq row k t y * Real.exp (-cum (seq row lw) (t + 1) y)))
    = ∑ l, if at' l < n then out row at' lw k v kk b S l x * grown at' lw b l y + v l x * grown at' lw k l y else 0 := by
  rw [← sum_rows row at' hrow hat (fun l => out row at' lw k v kk b S l x * grown at' lw b l y + v l x * grown at' lw k l y) n hn]
  refine Finset.sum_congr rfl fun t ht => ?_
  have := Finset.mem_range.1 ht
  have e := hat t (by omega)
  have c := cum_upto row at' hrow hat hlt lw (row t) y
  rw [e] at c
  simp only [out, grown, e, ← c, seq]

include hrow hat hlt in
theorem system : (1 + low at' (key at' lw kk) (grown at' lw b)) * out row at' lw k v kk b S = rhs at' lw k v kk S := by
  funext a x
  rw [Matrix.add_mul, Matrix.one_mul, Matrix.add_apply, Matrix.mul_apply]
  have e : out row at' lw k v kk b S a x = -∑ z, key at' lw kk a z * (S x z
      + ∑ l, if at' l < at' a then out row at' lw k v kk b S l x * grown at' lw b l z + v l x * grown at' lw k l z else 0) := by
    show taken _ _ _ _ _ _ _ _ = _
    unfold taken
    congr 1
    refine Finset.sum_congr rfl fun z _ => ?_
    rw [after_eq, before_sum row at' hrow hat hlt lw k v kk b S (at' a) (hlt a).le x z, cum_before row at' hrow hat hlt lw a z]
    simp only [key, seq, hrow]
    ring
  have f : ∑ z, key at' lw kk a z * (∑ l, if at' l < at' a then out row at' lw k v kk b S l x * grown at' lw b l z + v l x * grown at' lw k l z else 0)
      = ∑ l, low at' (key at' lw kk) (grown at' lw b) a l * out row at' lw k v kk b S l x
        + ∑ l, low at' (key at' lw kk) (grown at' lw k) a l * v l x := by
    simp only [Finset.mul_sum]
    rw [Finset.sum_comm, ← Finset.sum_add_distrib]
    refine Finset.sum_congr rfl fun l _ => ?_
    unfold low
    by_cases h : at' l < at' a
    · simp only [h, if_true, Finset.sum_mul]
      rw [← Finset.sum_add_distrib]
      exact Finset.sum_congr rfl fun z _ => by ring
    · simp [h]
  rw [e]
  simp only [mul_add, Finset.sum_add_distrib]
  rw [f]
  unfold rhs
  ring

include hrow hat hlt in
/-- The triangular form gives the state after the chunk's 64 steps. -/
theorem chunk_eq (x y : Fin 64) : chunk at' lw k v kk b S x y
    = after (fun t y => Real.exp (seq row lw t y)) (seq row k) (seq row v) (seq row kk) (seq row b) S 64 x y := by
  have hs : solution at' lw k v kk b S = out row at' lw k v kk b S := by
    unfold solution
    rw [← system row at' hrow hat hlt lw k v kk b S, ← Matrix.mul_assoc, inverse_mul at' hlt, Matrix.one_mul]
    intro i j h
    exact if_neg (by omega)
  rw [after_eq, before_sum row at' hrow hat hlt lw k v kk b S 64 le_rfl x y, cum_total row at' hrow hat hlt]
  unfold chunk
  rw [hs]
  simp only [hlt, if_true, Finset.sum_add_distrib, mul_add, Finset.mul_sum]
  rw [mul_comm (S x y), add_assoc]
  congr 1
  have g : ∀ (u : Fin 64 → Fin 64 → ℝ) (p : ℝ) (a : Fin 64), p * toEnd at' lw u a y = Real.exp (total lw y) * (p * grown at' lw u a y) := by
    intro u p a
    simp only [toEnd, grown, sub_eq_add_neg, Real.exp_add]
    ring
  simp only [g]

end Order

end Cert.Scan
end
-- ==== Proof.Scan.Real.lean ====
/-
  MATRICES OF REAL NUMBERS, held in the kernel's arrays, and the kernel's products of them.
-/
module

public import proofs.«01_k».proof.Proof.Scan.Head
public import proofs.«01_k».proof.Proof.Scan.Triangle

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open scoped BigOperators

theorem sum_real {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The array holds the matrix. -/
def Holds {φ : FTy} (A : FVec Ideal S64x64 φ) (M : Mat) : Prop := ∀ a b, A (ix2 a b) = ((M a b : ℝ) : EReal)

theorem mm_apply (a b : M16) (i j : Fin 64) : mm a b (ix2 i j) = ∑ k, a (ix2 i k) * b (ix2 k j) := by
  pointwise [mm, zero]
theorem mmt_apply (a b : M16) (i j : Fin 64) : mmt a b (ix2 i j) = ∑ k, a (ix2 i k) * b (ix2 j k) := by
  pointwise [mmt, zero]
theorem tmm_apply (a b : M16) (i j : Fin 64) : tmm a b (ix2 i j) = ∑ k, a (ix2 k i) * b (ix2 k j) := by
  pointwise [tmm, zero]

variable {A B : M16} {a b : M32} {M N : Mat}

theorem Holds.mm (hA : Holds A M) (hB : Holds B N) : Holds (mm A B) (M * N) := fun i j => by
  rw [mm_apply, Matrix.mul_apply, ← sum_real]
  exact Finset.sum_congr rfl fun k _ => by rw [hA, hB, EReal.coe_mul]

theorem Holds.hi (ha : Holds a M) : Holds (hi a) M := fun i j => ha i j

theorem Holds.lo (ha : Holds a M) : Holds (lo a) 0 := fun i j => by
  show a (ix2 i j) - a (ix2 i j) = _
  rw [ha, ← EReal.coe_sub, sub_self]; rfl

theorem Holds.add (ha : Holds a M) (hb : Holds b N) : Holds (addf a b) (M + N) := fun i j => by
  show a (ix2 i j) + b (ix2 i j) = _
  rw [ha, hb, ← EReal.coe_add]; rfl

theorem Holds.sub (ha : Holds a M) (hb : Holds b N) : Holds (subf a b) (M - N) := fun i j => by
  show a (ix2 i j) - b (ix2 i j) = _
  rw [ha, hb, ← EReal.coe_sub]; rfl

theorem Holds.mm3 (ha : Holds a M) (hb : Holds b N) : Holds (mm3 a b) (M * N) := by
  have h := (ha.hi.mm hb.hi).add ((ha.hi.mm hb.lo).add (ha.lo.mm hb.hi))
  rw [Matrix.mul_zero, Matrix.zero_mul, add_zero, add_zero] at h
  exact h

theorem Holds.better (ha : Holds a M) (hb : Holds b N) : Holds (better a b) (M + M * N) := ha.add (ha.mm3 hb)
theorem Holds.square1 (ha : Holds a M) : Holds (square1 a) (M * M) := ha.mm3 ha

theorem Holds.unit_inverse (ha : Holds a M) (hb : Holds b 1) : Holds (unit_inverse a b) (inverse M) :=
  have h1 := ha.square1
  have h2 := h1.square1
  have h3 := h2.square1
  have h4 := h3.square1
  have h5 := h4.square1
  (((((hb.sub ha).better h1).better h2).better h3).better h4).better h5

theorem blank_holds : Holds blank 0 := fun i j => by
  show Ideal.ofBits .f32 0x00000000#32 = _
  simp [Ideal.ofBits, Ideal.ieee]

variable {k : IVec S64x64 1} {at' : Fin 64 → ℕ} (hk : ∀ a l, k (ix2 a l) = if at' l < at' a then 1#1 else 0#1)

include hk in
theorem Holds.masked (hA : Holds A M) (hB : Holds B N) : Holds (masked k A B) (low at' M N) := fun i j => by
  show (if k (ix2 i j) = 1#1 then mmt A B (ix2 i j) else blank (ix2 i j)) = _
  rw [hk, blank_holds, mmt_apply]
  unfold low
  by_cases h : at' j < at' i
  · simp only [h, if_true]
    rw [← sum_real]
    exact Finset.sum_congr rfl fun k _ => by rw [hA, hB, EReal.coe_mul]
  · simp [h]

end Cert.ScanIdeal.Block
end
-- ==== Proof.Scan.Operands.lean ====
/-
  THE CHUNK'S OPERANDS, entry by entry, when the arguments are real numbers. The rows of direction 0 are taken from the
  first to the last and those of direction 1 from the last to the first.
-/
module

public import proofs.«01_k».proof.Proof.Scan.Real

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open scoped BigOperators

/-- The place of a row in its direction's order, and the row of a place. -/
def place (d : ℕ) (a : Fin 64) : ℕ := if d = 0 then a.val else 63 - a.val
def row (d : ℕ) (t : ℕ) : Fin 64 := if d = 0 then ⟨t % 64, Nat.mod_lt _ (by omega)⟩ else ⟨63 - t % 64, by omega⟩

theorem row_place (d : ℕ) (a : Fin 64) : row d (place d a) = a := by
  have := a.isLt
  unfold row place
  by_cases h : d = 0
  · simp only [h, if_true]; exact Fin.ext (by show a.val % 64 = a.val; omega)
  · simp only [h, if_false]; exact Fin.ext (by show 63 - (63 - a.val) % 64 = a.val; omega)

theorem place_row (d : ℕ) (t : ℕ) (ht : t < 64) : place d (row d t) = t := by
  unfold row place
  by_cases h : d = 0
  · simp only [h, if_true]; omega
  · simp only [h, if_false]; omega

theorem place_lt (d : ℕ) (a : Fin 64) : place d a < 64 := by
  have := a.isLt
  unfold place
  split <;> omega

variable (i : grid0.Coords)

theorem before_bits : ∀ (d : Fin 2) (a l : Fin 64), IntOp.cmpi CmpIPredicate.slt
      (IntOp.muli (IntOp.subi (BitVec.ofNat 32 l.val) (BitVec.ofNat 32 a.val))
        (Scalar.subi (1#32) (Scalar.muli (2#32) (BitVec.ofNat 32 d.val)))) 0#32
      = if place d.val l < place d.val a then 1#1 else 0#1 := by decide +kernel

theorem upto_bits : ∀ (d : Fin 2) (a l : Fin 64), IntOp.cmpi CmpIPredicate.sle
      (IntOp.muli (IntOp.subi (BitVec.ofNat 32 l.val) (BitVec.ofNat 32 a.val))
        (Scalar.subi (1#32) (Scalar.muli (2#32) (BitVec.ofNat 32 d.val)))) 0#32
      = if place d.val l ≤ place d.val a then 1#1 else 0#1 := by decide +kernel

theorem eye_bits : ∀ a b : Fin 64, BitVec.setWidth 32 (IntOp.cmpi CmpIPredicate.eq (BitVec.ofNat 32 b.val) (BitVec.ofNat 32 a.val))
      = if a = b then 1#32 else 0#32 := by decide +kernel

theorem before_apply (a l : Fin 64) : k0_pay5 i (ix2 a l) = if place (i 1).val l < place (i 1).val a then 1#1 else 0#1 := by
  refine Eq.trans ?_ (before_bits (i 1) a l)
  pointwise [k0_pay5]

theorem upto_apply (a l : Fin 64) : k0_pay6 i (ix2 a l) = if place (i 1).val l ≤ place (i 1).val a then 1#1 else 0#1 := by
  refine Eq.trans ?_ (upto_bits (i 1) a l)
  pointwise [k0_pay6]

theorem float_one : FloatOps.sitofp (F := Ideal) .f32 1#32 = ((1 : ℝ) : EReal) := by
  show (((1#32 : BitVec 32).toInt : ℝ) : EReal) = _
  simp
theorem float_zero : FloatOps.sitofp (F := Ideal) .f32 0#32 = ((0 : ℝ) : EReal) := by
  show (((0#32 : BitVec 32).toInt : ℝ) : EReal) = _
  simp

theorem eye_holds : Holds (k0_pay7 (F := Ideal)) 1 := fun a b => by
  have e : k0_pay7 (F := Ideal) (ix2 a b) = FloatOps.sitofp (F := Ideal) .f32 (BitVec.setWidth 32 (IntOp.cmpi CmpIPredicate.eq (BitVec.ofNat 32 b.val) (BitVec.ofNat 32 a.val))) := by
    pointwise [k0_pay7]
  rw [e, eye_bits]
  by_cases h : a = b
  · rw [if_pos h, float_one, h, Matrix.one_apply_eq]
  · rw [if_neg h, float_zero, Matrix.one_apply_ne h]

variable (x3 : FVec Ideal S1x64x512 .f32)
theorem cs_apply (a : Fin 64) (e : Fin 512) : k0_pay9 (F := Ideal) i x3 (ix2 a e) = ∑ l, FloatOps.sitofp (F := Ideal) .f32 (BitVec.setWidth 32 (k0_pay6 i (ix2 a l))) * x3 (ix3 0 l e) := by
  pointwise [k0_pay9, k0_pay8]
theorem tot_apply (e : Fin 512) : k0_pay10 (F := Ideal) x3 (ix2 0 e) = ∑ l, x3 (ix3 0 l e) := by
  pointwise [k0_pay10, k0_pay8]
variable (x2 : FVec Ideal S64x512 .f32)
theorem key_apply (a : Fin 64) (e : Fin 512) : k0_pay12 (F := Ideal) i x3 x2 (ix2 a e) = x2 (ix2 a e) * Ideal.exp (k0_pay9 (F := Ideal) i x3 (ix2 a e) - x3 (ix3 0 a e)) := by
  pointwise [k0_pay12, k0_pay8]
theorem grown_apply (x : FVec Ideal S1x64x512 .f32) (a : Fin 64) (e : Fin 512) : k0_pay16 (F := Ideal) (k0_pay11 i x3) x (ix2 a e) = x (ix3 0 a e) * Ideal.exp (0 - k0_pay9 (F := Ideal) i x3 (ix2 a e)) := by
  pointwise [k0_pay16, k0_pay14, k0_pay11]
theorem grown_apply' (x : FVec Ideal S1x64x512 .f32) (a : Fin 64) (e : Fin 512) : k0_pay17 (F := Ideal) (k0_pay11 i x3) x (ix2 a e) = x (ix3 0 a e) * Ideal.exp (0 - k0_pay9 (F := Ideal) i x3 (ix2 a e)) := by
  pointwise [k0_pay17, k0_pay15, k0_pay11]
theorem toEnd_apply (x : FVec Ideal S1x64x512 .f32) (a : Fin 64) (e : Fin 512) : k0_pay19 (F := Ideal) (k0_pay9 i x3) (k0_pay10 x3) x (ix2 a e) = x (ix3 0 a e) * Ideal.exp (k0_pay10 (F := Ideal) x3 (ix2 0 e) - k0_pay9 (F := Ideal) i x3 (ix2 a e)) := by
  pointwise [k0_pay19, k0_pay14, k0_pay18]
theorem toEnd_apply' (x : FVec Ideal S1x64x512 .f32) (a : Fin 64) (e : Fin 512) : k0_pay20 (F := Ideal) (k0_pay9 i x3) (k0_pay10 x3) x (ix2 a e) = x (ix3 0 a e) * Ideal.exp (k0_pay10 (F := Ideal) x3 (ix2 0 e) - k0_pay9 (F := Ideal) i x3 (ix2 a e)) := by
  pointwise [k0_pay20, k0_pay15, k0_pay18]
theorem decay_apply (e : Fin 512) : k0_pay21 (F := Ideal) (k0_pay10 x3) (ix2 0 e) = Ideal.exp (k0_pay10 (F := Ideal) x3 (ix2 0 e)) := by
  pointwise [k0_pay21]

/-! The operands as real numbers. -/

section Reals

variable (lw : Fin 64 → Fin 512 → ℝ) (h3 : ∀ a e, x3 (ix3 0 a e) = ((lw a e : ℝ) : EReal))

def sofar (d : ℕ) (lw : Fin 64 → Fin 512 → ℝ) (a : Fin 64) (e : Fin 512) : ℝ := ∑ l, if place d l ≤ place d a then lw l e else 0

include h3 in
theorem cs_real (a : Fin 64) (e : Fin 512) : k0_pay9 (F := Ideal) i x3 (ix2 a e) = ((sofar (i 1).val lw a e : ℝ) : EReal) := by
  rw [cs_apply]
  unfold sofar
  rw [← sum_real]
  refine Finset.sum_congr rfl fun l _ => ?_
  rw [upto_apply, h3]
  by_cases h : place (i 1).val l ≤ place (i 1).val a
  · rw [if_pos h, if_pos h]
    refine (congrArg (· * _) float_one).trans ?_
    rw [← EReal.coe_mul, one_mul]
  · rw [if_neg h, if_neg h]
    refine (congrArg (· * _) float_zero).trans ?_
    rw [← EReal.coe_mul, zero_mul]

include h3 in
theorem tot_real (e : Fin 512) : k0_pay10 (F := Ideal) x3 (ix2 0 e) = ((∑ l, lw l e : ℝ) : EReal) := by
  rw [tot_apply, ← sum_real]
  exact Finset.sum_congr rfl fun l _ => h3 l e

include h3 in
theorem key_real (kk : Fin 64 → Fin 512 → ℝ) (h2 : ∀ a e, x2 (ix2 a e) = ((kk a e : ℝ) : EReal)) (a : Fin 64) (e : Fin 512) :
    k0_pay12 (F := Ideal) i x3 x2 (ix2 a e) = ((kk a e * Real.exp (sofar (i 1).val lw a e - lw a e) : ℝ) : EReal) := by
  rw [key_apply, cs_real i x3 lw h3, h2, h3, ← EReal.coe_sub, Ideal.exp_coe, ← EReal.coe_mul]

variable (x : FVec Ideal S1x64x512 .f32) (u : Fin 64 → Fin 512 → ℝ) (h : ∀ a e, x (ix3 0 a e) = ((u a e : ℝ) : EReal))

include h3 h in
theorem grown_real (a : Fin 64) (e : Fin 512) :
    k0_pay16 (F := Ideal) (k0_pay11 i x3) x (ix2 a e) = ((u a e * Real.exp (-sofar (i 1).val lw a e) : ℝ) : EReal) := by
  rw [grown_apply, cs_real i x3 lw h3, h, ← EReal.coe_zero, ← EReal.coe_sub, zero_sub, Ideal.exp_coe, ← EReal.coe_mul]

include h3 h in
theorem grown_real' (a : Fin 64) (e : Fin 512) :
    k0_pay17 (F := Ideal) (k0_pay11 i x3) x (ix2 a e) = ((u a e * Real.exp (-sofar (i 1).val lw a e) : ℝ) : EReal) := by
  rw [grown_apply', cs_real i x3 lw h3, h, ← EReal.coe_zero, ← EReal.coe_sub, zero_sub, Ideal.exp_coe, ← EReal.coe_mul]

include h3 h in
theorem toEnd_real (a : Fin 64) (e : Fin 512) : k0_pay19 (F := Ideal) (k0_pay9 i x3) (k0_pay10 x3) x (ix2 a e)
    = ((u a e * Real.exp ((∑ l, lw l e) - sofar (i 1).val lw a e) : ℝ) : EReal) := by
  rw [toEnd_apply, cs_real i x3 lw h3, tot_real x3 lw h3, h, ← EReal.coe_sub, Ideal.exp_coe, ← EReal.coe_mul]

include h3 h in
theorem toEnd_real' (a : Fin 64) (e : Fin 512) : k0_pay20 (F := Ideal) (k0_pay9 i x3) (k0_pay10 x3) x (ix2 a e)
    = ((u a e * Real.exp ((∑ l, lw l e) - sofar (i 1).val lw a e) : ℝ) : EReal) := by
  rw [toEnd_apply', cs_real i x3 lw h3, tot_real x3 lw h3, h, ← EReal.coe_sub, Ideal.exp_coe, ← EReal.coe_mul]

include h3 in
theorem decay_real (e : Fin 512) : k0_pay21 (F := Ideal) (k0_pay10 x3) (ix2 0 e) = ((Real.exp (∑ l, lw l e) : ℝ) : EReal) := by
  rw [decay_apply, tot_real x3 lw h3, Ideal.exp_coe]

end Reals

end Cert.ScanIdeal.Block
end
-- ==== Proof.Scan.Next.lean ====
/-
  ONE HEAD'S NEXT STATE is the chunk's triangular form, when the operands hold real numbers.
-/
module

public import proofs.«01_k».proof.Proof.Scan.Real

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open scoped BigOperators

/-- The triangular system's right side. -/
def rightSide (at' : Fin 64 → ℕ) (KK K V S : Mat) : Mat := fun a x => -(∑ y, KK a y * S x y + ∑ l, low at' KK K a l * V l x)

variable {k : IVec S64x64 1} {at' : Fin 64 → ℕ} (hk : ∀ a l, k (ix2 a l) = if at' l < at' a then 1#1 else 0#1)
  {eye : M32} (he : Holds eye 1) {kkt bt kt bh kh vb : M16} {KK B K BH KH V : Mat}
  (hkk : Holds kkt KK) (hb : Holds bt B) (hkt : Holds kt K) (hbh : Holds bh BH) (hkh : Holds kh KH) (hv : Holds vb V)

include hk hkk hkt hv in
theorem right_holds {s : M32} {S : Mat} (hs : Holds s S) :
    Holds (right k kkt kt vb s) (rightSide at' KK K V S) := fun a x => by
  show blank (ix2 a x) - (mmt kkt (hi s) (ix2 a x) + mm (hi (masked k kkt kt)) vb (ix2 a x)) = _
  rw [blank_holds, (Holds.hi (Holds.masked hk hkk hkt)).mm hv, mmt_apply]
  have e : ∑ y, kkt (ix2 a y) * hi s (ix2 x y) = ((∑ y, KK a y * S x y : ℝ) : EReal) := by
    rw [← sum_real]
    exact Finset.sum_congr rfl fun y _ => by rw [hkk, hs.hi, EReal.coe_mul]
  rw [e, ← EReal.coe_add, ← EReal.coe_sub, Matrix.mul_apply]
  refine congrArg _ ?_
  show (0 : ℝ) - _ = _
  rw [zero_sub]
  rfl

include hk he hkk hb hkt hv in
theorem solved_holds {s : M32} {S : Mat} (hs : Holds s S) : Holds (solved k eye kkt bt kt vb s)
    (inverse (low at' KK B) * rightSide at' KK K V S) :=
  (Holds.unit_inverse (Holds.masked hk hkk hb) he).mm3 (right_holds hk hkk hkt hv hs)

include hk he hkk hb hkt hbh hkh hv in
theorem next_real {w : FVec Ideal S1x64 .f32} {W : Fin 64 → ℝ} (hw : ∀ y, w (ix2 0 y) = ((W y : ℝ) : EReal))
    {s : FVec Ideal S1x64x64 .f32} {S : Mat} (hs : ∀ x y, s (ix3 0 x y) = ((S x y : ℝ) : EReal)) (x y : Fin 64) :
    next k eye kkt bt kt bh kh vb w s (ix3 0 x y) = ((S x y * W y
      + ∑ a, (inverse (low at' KK B) * rightSide at' KK K V S) a x * BH a y
      + ∑ a, V a x * KH a y : ℝ) : EReal) := by
  have h : Holds (shapeCast S64x64 s shapeCasts_S1x64x64_S64x64) S := fun x y => by
    refine Eq.trans ?_ (hs x y)
    pointwise []
  have hu := solved_holds hk he hkk hb hkt hv h
  have e : next k eye kkt bt kt bh kh vb w s (ix3 0 x y) = s (ix3 0 x y) * w (ix2 0 y)
      + tmm (hi (solved k eye kkt bt kt vb (shapeCast S64x64 s shapeCasts_S1x64x64_S64x64))) bh (ix2 x y)
      + tmm vb kh (ix2 x y) := by
    generalize hp : solved k eye kkt bt kt vb (shapeCast S64x64 s shapeCasts_S1x64x64_S64x64) = p
    unfold next
    rw [hp]
    generalize tmm (hi p) bh = q
    generalize tmm vb kh = r
    pointwise []
  rw [e, hs, hw, tmm_apply, tmm_apply]
  have e1 : ∑ a, hi (solved k eye kkt bt kt vb (shapeCast S64x64 s shapeCasts_S1x64x64_S64x64)) (ix2 a x) * bh (ix2 a y)
      = ((∑ a, (inverse (low at' KK B) * rightSide at' KK K V S) a x * BH a y : ℝ) : EReal) := by
    rw [← sum_real]
    exact Finset.sum_congr rfl fun a _ => by rw [hu.hi, hbh, EReal.coe_mul]
  have e2 : ∑ a, vb (ix2 a x) * kh (ix2 a y) = ((∑ a, V a x * KH a y : ℝ) : EReal) := by
    rw [← sum_real]
    exact Finset.sum_congr rfl fun a _ => by rw [hv, hkh, EReal.coe_mul]
  rw [e1, e2, ← EReal.coe_mul, ← EReal.coe_add, ← EReal.coe_add]

end Cert.ScanIdeal.Block
end
-- ==== Proof.Scan.Heads.lean ====
/-
  THE CARRIED STATE, entry by entry, after a grid point whose operands hold real numbers.
-/
module

public import proofs.«01_k».proof.Proof.Scan.Operands
public import proofs.«01_k».proof.Proof.Scan.Next

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open scoped BigOperators

/-- A head's columns. -/
def col (h : Fin 8) (y : Fin 64) : Fin 512 := ⟨h.val * 64 + y.val, by omega⟩
def part (u : Fin 64 → Fin 512 → ℝ) (h : Fin 8) (a y : Fin 64) : ℝ := u a (col h y)

/-- The state after a chunk. -/
def forward (d : ℕ) (lw k v kk b : Fin 64 → Fin 512 → ℝ) (S : Fin 8 → Fin 64 → Fin 64 → ℝ) (h : Fin 8) (x y : Fin 64) : ℝ :=
  chunk (place d) (part lw h) (part k h) (part v h) (part kk h) (part b h) (S h) x y

variable (i : grid0.Coords)
    (x1 : FVec Ideal S64x512 .f32) (x2 : FVec Ideal S64x512 .f32) (x3 : FVec Ideal S1x64x512 .f32) (x4 : FVec Ideal S1x64x512 .f32) (x5 : FVec Ideal S1x64x512 .f32)
    (s : FVec Ideal S8x64x64 .f32)
    (lw k v kk b : Fin 64 → Fin 512 → ℝ) (S : Fin 8 → Fin 64 → Fin 64 → ℝ)
    (h1 : ∀ a e, x1 (ix2 a e) = ((v a e : ℝ) : EReal)) (h2 : ∀ a e, x2 (ix2 a e) = ((kk a e : ℝ) : EReal))
    (h3 : ∀ a e, x3 (ix3 0 a e) = ((lw a e : ℝ) : EReal)) (h4 : ∀ a e, x4 (ix3 0 a e) = ((k a e : ℝ) : EReal))
    (h5 : ∀ a e, x5 (ix3 0 a e) = ((b a e : ℝ) : EReal)) (hS : ∀ h x y, s (ix3 h x y) = ((S h x y : ℝ) : EReal))

include h1 h2 h3 h4 h5 hS in
theorem head_real (h : Fin 8) {kkt bt kt bh kh vb : M16} {w : FVec Ideal S1x64 .f32} {r : FVec Ideal S1x64x64 .f32}
    (ekk : ∀ a y, kkt (ix2 a y) = k0_pay12 (F := Ideal) i x3 x2 (ix2 a (col h y)))
    (eb : ∀ a y, bt (ix2 a y) = k0_pay16 (F := Ideal) (k0_pay11 i x3) x5 (ix2 a (col h y)))
    (ek : ∀ a y, kt (ix2 a y) = k0_pay17 (F := Ideal) (k0_pay11 i x3) x4 (ix2 a (col h y)))
    (ebh : ∀ a y, bh (ix2 a y) = k0_pay19 (F := Ideal) (k0_pay9 i x3) (k0_pay10 x3) x5 (ix2 a (col h y)))
    (ekh : ∀ a y, kh (ix2 a y) = k0_pay20 (F := Ideal) (k0_pay9 i x3) (k0_pay10 x3) x4 (ix2 a (col h y)))
    (ev : ∀ a y, vb (ix2 a y) = x1 (ix2 a (col h y)))
    (ew : ∀ y, w (ix2 0 y) = k0_pay21 (F := Ideal) (k0_pay10 x3) (ix2 0 (col h y)))
    (er : ∀ x y, r (ix3 0 x y) = s (ix3 h x y)) (x y : Fin 64) :
    next (k0_pay5 i) k0_pay7 kkt bt kt bh kh vb w r (ix3 0 x y) = ((forward (i 1).val lw k v kk b S h x y : ℝ) : EReal) := by
  refine (next_real (at' := place (i 1).val) (before_apply i) eye_holds
    (KK := key (place (i 1).val) (part lw h) (part kk h)) (B := grown (place (i 1).val) (part lw h) (part b h))
    (K := grown (place (i 1).val) (part lw h) (part k h)) (BH := toEnd (place (i 1).val) (part lw h) (part b h))
    (KH := toEnd (place (i 1).val) (part lw h) (part k h)) (V := part v h) ?_ ?_ ?_ ?_ ?_ ?_
    (W := fun y => Real.exp (total (part lw h) y)) ?_ (S := S h) ?_ x y).trans ?_
  · intro a y; rw [ekk, key_real i x3 x2 lw h3 kk h2]; rfl
  · intro a y; rw [eb, grown_real i x3 lw h3 x5 b h5]; rfl
  · intro a y; rw [ek, grown_real' i x3 lw h3 x4 k h4]; rfl
  · intro a y; rw [ebh, toEnd_real i x3 lw h3 x5 b h5]; rfl
  · intro a y; rw [ekh, toEnd_real' i x3 lw h3 x4 k h4]; rfl
  · intro a y; rw [ev]; exact h1 a (col h y)
  · intro y; rw [ew, decay_real x3 lw h3]; rfl
  · intro x y; rw [er, hS]
  · rfl

/-! A head's columns of an operand, and its slice of the state. -/

theorem state_cut (n : Fin 8) (inb : ∀ a, (![n.val, 0, 0] : Fin 3 → ℕ) a + S1x64x64.size a ≤ S8x64x64.size a) (x y : Fin 64) :
    View.ld (Val := Elt Ideal) (e' := .f32) s (Rect.unit (s := S8x64x64) ![n.val, 0, 0] S1x64x64.size inb) (ix3 0 x y) = s (ix3 n x y) := by
  refine congrArg s (funext fun a => Fin.ext ((Rect.idx_unit_val ..).trans ?_))
  match a with
  | ⟨0, _⟩ => show n.val + 0 = n.val; omega
  | ⟨1, _⟩ => show 0 + x.val = x.val; omega
  | ⟨2, _⟩ => show 0 + y.val = y.val; omega

theorem cut0 {α : Type} (X : S64x512.Idx → α) (a y : Fin 64) :
    extractStridedSlice S64x64 ![0, 0] X slices_S64x512_o0_0_S64x64 (ix2 a y) = X (ix2 a (col 0 y)) := by
  unfold col; pointwise []
theorem row_cut0 (X : FVec Ideal S1x512 .f32) (y : Fin 64) :
    extractStridedSlice S1x64 ![0, 0] X slices_S1x512_o0_0_S1x64 (ix2 0 y) = X (ix2 0 (col 0 y)) := by
  unfold col; pointwise []
theorem cut1 {α : Type} (X : S64x512.Idx → α) (a y : Fin 64) :
    extractStridedSlice S64x64 ![0, 64] X slices_S64x512_o0_64_S64x64 (ix2 a y) = X (ix2 a (col 1 y)) := by
  unfold col; pointwise []
theorem row_cut1 (X : FVec Ideal S1x512 .f32) (y : Fin 64) :
    extractStridedSlice S1x64 ![0, 64] X slices_S1x512_o0_64_S1x64 (ix2 0 y) = X (ix2 0 (col 1 y)) := by
  unfold col; pointwise []
theorem cut2 {α : Type} (X : S64x512.Idx → α) (a y : Fin 64) :
    extractStridedSlice S64x64 ![0, 128] X slices_S64x512_o0_128_S64x64 (ix2 a y) = X (ix2 a (col 2 y)) := by
  unfold col; pointwise []
theorem row_cut2 (X : FVec Ideal S1x512 .f32) (y : Fin 64) :
    extractStridedSlice S1x64 ![0, 128] X slices_S1x512_o0_128_S1x64 (ix2 0 y) = X (ix2 0 (col 2 y)) := by
  unfold col; pointwise []
theorem cut3 {α : Type} (X : S64x512.Idx → α) (a y : Fin 64) :
    extractStridedSlice S64x64 ![0, 192] X slices_S64x512_o0_192_S64x64 (ix2 a y) = X (ix2 a (col 3 y)) := by
  unfold col; pointwise []
theorem row_cut3 (X : FVec Ideal S1x512 .f32) (y : Fin 64) :
    extractStridedSlice S1x64 ![0, 192] X slices_S1x512_o0_192_S1x64 (ix2 0 y) = X (ix2 0 (col 3 y)) := by
  unfold col; pointwise []
theorem cut4 {α : Type} (X : S64x512.Idx → α) (a y : Fin 64) :
    extractStridedSlice S64x64 ![0, 256] X slices_S64x512_o0_256_S64x64 (ix2 a y) = X (ix2 a (col 4 y)) := by
  unfold col; pointwise []
theorem row_cut4 (X : FVec Ideal S1x512 .f32) (y : Fin 64) :
    extractStridedSlice S1x64 ![0, 256] X slices_S1x512_o0_256_S1x64 (ix2 0 y) = X (ix2 0 (col 4 y)) := by
  unfold col; pointwise []
theorem cut5 {α : Type} (X : S64x512.Idx → α) (a y : Fin 64) :
    extractStridedSlice S64x64 ![0, 320] X slices_S64x512_o0_320_S64x64 (ix2 a y) = X (ix2 a (col 5 y)) := by
  unfold col; pointwise []
theorem row_cut5 (X : FVec Ideal S1x512 .f32) (y : Fin 64) :
    extractStridedSlice S1x64 ![0, 320] X slices_S1x512_o0_320_S1x64 (ix2 0 y) = X (ix2 0 (col 5 y)) := by
  unfold col; pointwise []
theorem cut6 {α : Type} (X : S64x512.Idx → α) (a y : Fin 64) :
    extractStridedSlice S64x64 ![0, 384] X slices_S64x512_o0_384_S64x64 (ix2 a y) = X (ix2 a (col 6 y)) := by
  unfold col; pointwise []
theorem row_cut6 (X : FVec Ideal S1x512 .f32) (y : Fin 64) :
    extractStridedSlice S1x64 ![0, 384] X slices_S1x512_o0_384_S1x64 (ix2 0 y) = X (ix2 0 (col 6 y)) := by
  unfold col; pointwise []
theorem cut7 {α : Type} (X : S64x512.Idx → α) (a y : Fin 64) :
    extractStridedSlice S64x64 ![0, 448] X slices_S64x512_o0_448_S64x64 (ix2 a y) = X (ix2 a (col 7 y)) := by
  unfold col; pointwise []
theorem row_cut7 (X : FVec Ideal S1x512 .f32) (y : Fin 64) :
    extractStridedSlice S1x64 ![0, 448] X slices_S1x512_o0_448_S1x64 (ix2 0 y) = X (ix2 0 (col 7 y)) := by
  unfold col; pointwise []
include h1 h2 h3 h4 h5 hS in
theorem head0_real (x y : Fin 64) : head0 i x1 x2 x3 x4 x5 s (ix3 0 x y) = ((forward (i 1).val lw k v kk b S 0 x y : ℝ) : EReal) := by
  unfold head0
  exact head_real i x1 x2 x3 x4 x5 s lw k v kk b S h1 h2 h3 h4 h5 hS 0 (cut0 _) (cut0 _) (cut0 _) (cut0 _) (cut0 _) (cut0 _)
    (row_cut0 _) (state_cut s 0 _) x y

include h1 h2 h3 h4 h5 hS in
theorem head1_real (x y : Fin 64) : head1 i x1 x2 x3 x4 x5 s (ix3 0 x y) = ((forward (i 1).val lw k v kk b S 1 x y : ℝ) : EReal) := by
  unfold head1
  exact head_real i x1 x2 x3 x4 x5 s lw k v kk b S h1 h2 h3 h4 h5 hS 1 (cut1 _) (cut1 _) (cut1 _) (cut1 _) (cut1 _) (cut1 _)
    (row_cut1 _) (state_cut s 1 _) x y

include h1 h2 h3 h4 h5 hS in
theorem head2_real (x y : Fin 64) : head2 i x1 x2 x3 x4 x5 s (ix3 0 x y) = ((forward (i 1).val lw k v kk b S 2 x y : ℝ) : EReal) := by
  unfold head2
  exact head_real i x1 x2 x3 x4 x5 s lw k v kk b S h1 h2 h3 h4 h5 hS 2 (cut2 _) (cut2 _) (cut2 _) (cut2 _) (cut2 _) (cut2 _)
    (row_cut2 _) (state_cut s 2 _) x y

include h1 h2 h3 h4 h5 hS in
theorem head3_real (x y : Fin 64) : head3 i x1 x2 x3 x4 x5 s (ix3 0 x y) = ((forward (i 1).val lw k v kk b S 3 x y : ℝ) : EReal) := by
  unfold head3
  exact head_real i x1 x2 x3 x4 x5 s lw k v kk b S h1 h2 h3 h4 h5 hS 3 (cut3 _) (cut3 _) (cut3 _) (cut3 _) (cut3 _) (cut3 _)
    (row_cut3 _) (state_cut s 3 _) x y

include h1 h2 h3 h4 h5 hS in
theorem head4_real (x y : Fin 64) : head4 i x1 x2 x3 x4 x5 s (ix3 0 x y) = ((forward (i 1).val lw k v kk b S 4 x y : ℝ) : EReal) := by
  unfold head4
  exact head_real i x1 x2 x3 x4 x5 s lw k v kk b S h1 h2 h3 h4 h5 hS 4 (cut4 _) (cut4 _) (cut4 _) (cut4 _) (cut4 _) (cut4 _)
    (row_cut4 _) (state_cut s 4 _) x y

include h1 h2 h3 h4 h5 hS in
theorem head5_real (x y : Fin 64) : head5 i x1 x2 x3 x4 x5 s (ix3 0 x y) = ((forward (i 1).val lw k v kk b S 5 x y : ℝ) : EReal) := by
  unfold head5
  exact head_real i x1 x2 x3 x4 x5 s lw k v kk b S h1 h2 h3 h4 h5 hS 5 (cut5 _) (cut5 _) (cut5 _) (cut5 _) (cut5 _) (cut5 _)
    (row_cut5 _) (state_cut s 5 _) x y

include h1 h2 h3 h4 h5 hS in
theorem head6_real (x y : Fin 64) : head6 i x1 x2 x3 x4 x5 s (ix3 0 x y) = ((forward (i 1).val lw k v kk b S 6 x y : ℝ) : EReal) := by
  unfold head6
  exact head_real i x1 x2 x3 x4 x5 s lw k v kk b S h1 h2 h3 h4 h5 hS 6 (cut6 _) (cut6 _) (cut6 _) (cut6 _) (cut6 _) (cut6 _)
    (row_cut6 _) (state_cut s 6 _) x y

include h1 h2 h3 h4 h5 hS in
theorem head7_real (x y : Fin 64) : head7 i x1 x2 x3 x4 x5 s (ix3 0 x y) = ((forward (i 1).val lw k v kk b S 7 x y : ℝ) : EReal) := by
  unfold head7
  exact head_real i x1 x2 x3 x4 x5 s lw k v kk b S h1 h2 h3 h4 h5 hS 7 (cut7 _) (cut7 _) (cut7 _) (cut7 _) (cut7 _) (cut7 _)
    (row_cut7 _) (state_cut s 7 _) x y

end Cert.ScanIdeal.Block
end
-- ==== Proof.Scan.Pieces.lean ====
/-
  THE CARRIED STATE as a whole, after a grid point whose operands hold real numbers: every head's piece of it.
-/
module

public import proofs.«01_k».proof.Proof.Scan.Heads

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open scoped BigOperators

variable (i : grid0.Coords)
    (x1 : FVec Ideal S64x512 .f32) (x2 : FVec Ideal S64x512 .f32) (x3 : FVec Ideal S1x64x512 .f32) (x4 : FVec Ideal S1x64x512 .f32) (x5 : FVec Ideal S1x64x512 .f32)
    (s : FVec Ideal S8x64x64 .f32)
    (lw k v kk b : Fin 64 → Fin 512 → ℝ) (S : Fin 8 → Fin 64 → Fin 64 → ℝ)
    (h1 : ∀ a e, x1 (ix2 a e) = ((v a e : ℝ) : EReal)) (h2 : ∀ a e, x2 (ix2 a e) = ((kk a e : ℝ) : EReal))
    (h3 : ∀ a e, x3 (ix3 0 a e) = ((lw a e : ℝ) : EReal)) (h4 : ∀ a e, x4 (ix3 0 a e) = ((k a e : ℝ) : EReal))
    (h5 : ∀ a e, x5 (ix3 0 a e) = ((b a e : ℝ) : EReal)) (hS : ∀ h x y, s (ix3 h x y) = ((S h x y : ℝ) : EReal))

/-- What the heads leave. -/
def left (y : S8x64x64.Idx) : EReal := ((forward (i 1).val lw k v kk b S (y 0) (y 1) (y 2) : ℝ) : EReal)

theorem piece_real (n : Fin 8) (inb : ∀ a, (![n.val, 0, 0] : Fin 3 → ℕ) a + S1x64x64.size a ≤ S8x64x64.size a) (g : FVec Ideal S1x64x64 .f32)
    (hg : ∀ x y, g (ix3 0 x y) = ((forward (i 1).val lw k v kk b S n x y : ℝ) : EReal)) (z : S1x64x64.Idx) :
    g z = left i lw k v kk b S ((Rect.unit (s := S8x64x64) ![n.val, 0, 0] S1x64x64.size inb).emb z) := by
  obtain ⟨x, y, rfl⟩ : ∃ (x y : Fin 64), z = ix3 (0 : Fin 1) x y :=
    ⟨z 1, z 2, (eq_ix3 z).trans (congrArg (fun q : Fin 1 => (ix3 q (z 1) (z 2) : S1x64x64.Idx)) (Subsingleton.elim (α := Fin 1) _ _))⟩
  rw [hg]
  have e0 : ((Rect.unit (s := S8x64x64) ![n.val, 0, 0] S1x64x64.size inb).emb (ix3 (0 : Fin 1) x y) 0 : Fin 8) = n := Fin.ext (by blk_simp; exact Nat.add_zero _)
  have e1 : ((Rect.unit (s := S8x64x64) ![n.val, 0, 0] S1x64x64.size inb).emb (ix3 (0 : Fin 1) x y) 1 : Fin 64) = x := Fin.ext (by blk_simp)
  have e2 : ((Rect.unit (s := S8x64x64) ![n.val, 0, 0] S1x64x64.size inb).emb (ix3 (0 : Fin 1) x y) 2 : Fin 64) = y := Fin.ext (by blk_simp)
  exact (congrArg (fun r : ℝ => (r : EReal)) (congr (congr (congrArg (forward (i 1).val lw k v kk b S) e0) e1) e2)).symm

include h1 h2 h3 h4 h5 hS in
theorem pieces_real (before : List (View.Piece (Elt Ideal) S8x64x64 .f32)) (h : Fin 8) (x y : Fin 64) :
    View.canon (pieces i x1 x2 x3 x4 x5 s before) (ix3 h x y) = ((forward (i 1).val lw k v kk b S h x y : ℝ) : EReal) := by
  refine View.canon_append_of_piecesOf (Val := Elt Ideal) (e := .f32) (left i lw k v kk b S) before (pieces i x1 x2 x3 x4 x5 s []) ?_ (ix3 h x y) ?_
  · refine ⟨?_, ?_, ?_, ?_, ?_, ?_, ?_, ?_, trivial⟩
    · exact piece_real i lw k v kk b S 7 inb_S8x64x64_S1x64x64_7_0_0 _ (head7_real i x1 x2 x3 x4 x5 s lw k v kk b S h1 h2 h3 h4 h5 hS)
    · exact piece_real i lw k v kk b S 6 inb_S8x64x64_S1x64x64_6_0_0 _ (head6_real i x1 x2 x3 x4 x5 s lw k v kk b S h1 h2 h3 h4 h5 hS)
    · exact piece_real i lw k v kk b S 5 inb_S8x64x64_S1x64x64_5_0_0 _ (head5_real i x1 x2 x3 x4 x5 s lw k v kk b S h1 h2 h3 h4 h5 hS)
    · exact piece_real i lw k v kk b S 4 inb_S8x64x64_S1x64x64_4_0_0 _ (head4_real i x1 x2 x3 x4 x5 s lw k v kk b S h1 h2 h3 h4 h5 hS)
    · exact piece_real i lw k v kk b S 3 inb_S8x64x64_S1x64x64_3_0_0 _ (head3_real i x1 x2 x3 x4 x5 s lw k v kk b S h1 h2 h3 h4 h5 hS)
    · exact piece_real i lw k v kk b S 2 inb_S8x64x64_S1x64x64_2_0_0 _ (head2_real i x1 x2 x3 x4 x5 s lw k v kk b S h1 h2 h3 h4 h5 hS)
    · exact piece_real i lw k v kk b S 1 inb_S8x64x64_S1x64x64_1_0_0 _ (head1_real i x1 x2 x3 x4 x5 s lw k v kk b S h1 h2 h3 h4 h5 hS)
    · exact piece_real i lw k v kk b S 0 inb_S8x64x64_S1x64x64_0_0_0 _ (head0_real i x1 x2 x3 x4 x5 s lw k v kk b S h1 h2 h3 h4 h5 hS)
  · have hh := h.isLt
    have hm : ∀ n : ℕ, h.val = n → ∀ inb, (ix3 h x y : S8x64x64.Idx) ∈ (Rect.unit (s := S8x64x64) ![n, 0, 0] S1x64x64.size inb).set := by
      intro n e inb
      refine Rect.mem_set_unit.2 fun a => ?_
      match a with
      | ⟨0, _⟩ => exact ⟨by show n ≤ h.val; omega, by show h.val < n + 1; omega⟩
      | ⟨1, _⟩ => exact ⟨Nat.zero_le _, by show x.val < 0 + 64; omega⟩
      | ⟨2, _⟩ => exact ⟨Nat.zero_le _, by show y.val < 0 + 64; omega⟩
    unfold pieces
    match h, hm with
    | 0, hm => exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), hm 0 rfl inb_S8x64x64_S1x64x64_0_0_0⟩
    | 1, hm => exact ⟨_, List.mem_cons_of_mem _ (List.mem_cons_of_mem _ (List.mem_cons_of_mem _ (List.mem_cons_of_mem _ (List.mem_cons_of_mem _ (List.mem_cons_of_mem _ (List.mem_cons_self ..)))))), hm 1 rfl inb_S8x64x64_S1x64x64_1_0_0⟩
    | 2, hm => exact ⟨_, List.mem_cons_of_mem _ (List.mem_cons_of_mem _ (List.mem_cons_of_mem _ (List.mem_cons_of_mem _ (List.mem_cons_of_mem _ (List.mem_cons_self ..))))), hm 2 rfl inb_S8x64x64_S1x64x64_2_0_0⟩
    | 3, hm => exact ⟨_, List.mem_cons_of_mem _ (List.mem_cons_of_mem _ (List.mem_cons_of_mem _ (List.mem_cons_of_mem _ (List.mem_cons_self ..)))), hm 3 rfl inb_S8x64x64_S1x64x64_3_0_0⟩
    | 4, hm => exact ⟨_, List.mem_cons_of_mem _ (List.mem_cons_of_mem _ (List.mem_cons_of_mem _ (List.mem_cons_self ..))), hm 4 rfl inb_S8x64x64_S1x64x64_4_0_0⟩
    | 5, hm => exact ⟨_, List.mem_cons_of_mem _ (List.mem_cons_of_mem _ (List.mem_cons_self ..)), hm 5 rfl inb_S8x64x64_S1x64x64_5_0_0⟩
    | 6, hm => exact ⟨_, List.mem_cons_of_mem _ (List.mem_cons_self ..), hm 6 rfl inb_S8x64x64_S1x64x64_6_0_0⟩
    | 7, hm => exact ⟨_, List.mem_cons_self .., hm 7 rfl inb_S8x64x64_S1x64x64_7_0_0⟩

end Cert.ScanIdeal.Block
end
-- ==== Proof.Scan.Sequence.lean ====
/-
  THE SCAN OVER REAL ARGUMENTS: the state of each head after so many rows of its segment.
-/
module

public import proofs.«01_k».proof.Proof.Scan.Chunk

@[expose] public section

noncomputable section

namespace Cert.Scan

/-- The arguments, as real numbers: the values and the removal keys, shared by the two directions; the decays' logarithms,
    the keys and the removal weights of each direction; and the states before. -/
structure Args where
  v : Fin 20480 → Fin 512 → ℝ
  kk : Fin 20480 → Fin 512 → ℝ
  lw : Fin 2 → Fin 20480 → Fin 512 → ℝ
  k : Fin 2 → Fin 20480 → Fin 512 → ℝ
  b : Fin 2 → Fin 20480 → Fin 512 → ℝ
  s : Fin 16 → Fin 2 → Fin 8 → Fin 64 → Fin 64 → ℝ

/-- The row that step `t` of a direction takes in a segment. -/
def rowAt (d : Fin 2) (bb : Fin 16) (t : ℕ) : Fin 20480 :=
  ⟨16384 + (bb.val * 256 + if d.val = 0 then t % 256 else 255 - t % 256), by split <;> omega⟩
def colAt (h : Fin 8) (y : Fin 64) : Fin 512 := ⟨h.val * 64 + y.val, by omega⟩

def Args.state (A : Args) (bb : Fin 16) (d : Fin 2) (h : Fin 8) : ℕ → Fin 64 → Fin 64 → ℝ :=
  after (fun t y => Real.exp (A.lw d (rowAt d bb t) (colAt h y))) (fun t y => A.k d (rowAt d bb t) (colAt h y))
    (fun t y => A.v (rowAt d bb t) (colAt h y)) (fun t y => A.kk (rowAt d bb t) (colAt h y))
    (fun t y => A.b d (rowAt d bb t) (colAt h y)) (A.s bb d h)

end Cert.Scan
end
-- ==== Proof.Scan.Array.lean ====
/-
  WHAT THE RESULT ARRAY HOLDS after the run, on real arguments: every head's state after its segment's 256 rows. A
  direction's four chunks follow one another; the last one writes the block.
-/
module

public import proofs.«01_k».proof.Proof.Scan.Blocks
public import proofs.«01_k».proof.Proof.Scan.Pieces
public import proofs.«01_k».proof.Proof.Scan.Sequence

@[expose] public section

set_option maxRecDepth 16384

noncomputable section

namespace Cert.ScanIdeal.Block

open Cert.ScanIdeal Cert.ScanIdeal.Gen Cert.Scan Idealize.ShloMosaic Idealize.ShloMosaic.TcCoe Idealize.SL.Sem
open Idealize.ShloMosaic.Pipeline (Dat)

variable (m : (ℓ : Loc nD τ sig) → Buf (Elt Ideal) ℓ) (c : Dev nD) (A : Args)

/-- The arguments are the real numbers `A`. -/
structure Real : Prop where
  v : ∀ n e, (m ((c : Thread nD τ).loc main_arg1) : FVec Ideal S20480x512 .f32) (ix2 n e) = ((A.v n e : ℝ) : EReal)
  kk : ∀ n e, (m ((c : Thread nD τ).loc main_arg2) : FVec Ideal S20480x512 .f32) (ix2 n e) = ((A.kk n e : ℝ) : EReal)
  lw : ∀ d n e, (m ((c : Thread nD τ).loc main_arg3) : FVec Ideal S2x20480x512 .f32) (ix3 d n e) = ((A.lw d n e : ℝ) : EReal)
  k : ∀ d n e, (m ((c : Thread nD τ).loc main_arg4) : FVec Ideal S2x20480x512 .f32) (ix3 d n e) = ((A.k d n e : ℝ) : EReal)
  b : ∀ d n e, (m ((c : Thread nD τ).loc main_arg5) : FVec Ideal S2x20480x512 .f32) (ix3 d n e) = ((A.b d n e : ℝ) : EReal)
  s : ∀ bb d h x y, (m ((c : Thread nD τ).loc main_arg6) : FVec Ideal S16x2x8x64x64 .f32) (ix5 bb d h x y) = ((A.s bb d h x y : ℝ) : EReal)

variable (t : Fin cfg0.N)

/-- The point's segment, direction and rows. -/
def seg : Fin 16 := ⟨t.val / 8, by have := tlt t; omega⟩
def dir : Fin 2 := ⟨t.val / 4 % 2, by omega⟩
def rowIn (a : Fin 64) : Fin 20480 := ⟨(256 + t.val / 8 * 4 + chunkOf t.val) * 64 + a.val, by
  have := tlt t
  have : chunkOf t.val < 4 := by unfold chunkOf; split <;> omega
  omega⟩

theorem rowIn_row (u : ℕ) (hu : u < 64) : rowIn t (row (dir t).val u) = rowAt (dir t) (seg t) (t.val % 4 * 64 + u) := by
  have := tlt t
  refine Fin.ext ?_
  unfold rowIn rowAt row chunkOf
  show (256 + t.val / 8 * 4 + if t.val / 4 % 2 = 0 then t.val % 4 else 3 - t.val % 4) * 64
      + (if t.val / 4 % 2 = 0 then (⟨u % 64, _⟩ : Fin 64) else ⟨63 - u % 64, _⟩).val
    = 16384 + (t.val / 8 * 256 + if t.val / 4 % 2 = 0 then (t.val % 4 * 64 + u) % 256 else 255 - (t.val % 4 * 64 + u) % 256)
  by_cases h : t.val / 4 % 2 = 0
  · simp only [h, if_true]; omega
  · simp only [h, if_false]; omega

/-- A chunk takes the state before its rows to the state after them. -/
theorem forward_state (h : Fin 8) (x y : Fin 64) :
    forward (dir t).val (fun a e => A.lw (dir t) (rowIn t a) e) (fun a e => A.k (dir t) (rowIn t a) e) (fun a e => A.v (rowIn t a) e)
      (fun a e => A.kk (rowIn t a) e) (fun a e => A.b (dir t) (rowIn t a) e) (fun h => A.state (seg t) (dir t) h (t.val % 4 * 64)) h x y
      = A.state (seg t) (dir t) h (t.val % 4 * 64 + 64) x y := by
  unfold forward
  rw [chunk_eq (row (dir t).val) (place (dir t).val) (row_place _) (place_row _) (place_lt _)]
  unfold Args.state
  rw [after_add]
  refine congrFun (congrFun (after_congr _ 64 fun u hu => ?_) x) y
  have e := rowIn_row t u hu
  refine ⟨?_, ?_, ?_, ?_, ?_⟩ <;> (funext y; rw [← e]; rfl)

section Point

variable (hA : Real m c A)

theorem dir_eq : (grid0.coords t 1).val = (dir t).val := (idx t).2.2.2.2.2.2.2

include hA in
/-- A point over a state. -/
theorem point_real (s : FVec Ideal S8x64x64 .f32)
    (hs : ∀ h x y, s (ix3 h x y) = ((A.state (seg t) (dir t) h (t.val % 4 * 64) x y : ℝ) : EReal))
    (before : List (View.Piece (Elt Ideal) S8x64x64 .f32)) (h : Fin 8) (x y : Fin 64) :
    View.canon (pieces (grid0.coords t) (iblk m c 1 t) (iblk m c 2 t) (iblk m c 3 t) (iblk m c 4 t) (iblk m c 5 t) s before) (ix3 h x y)
      = ((A.state (seg t) (dir t) h (t.val % 4 * 64 + 64) x y : ℝ) : EReal) := by
  rw [← forward_state A t h x y, ← dir_eq t]
  exact pieces_real (grid0.coords t) (iblk m c 1 t) (iblk m c 2 t) (iblk m c 3 t) (iblk m c 4 t) (iblk m c 5 t) s
    (fun a e => A.lw (dir t) (rowIn t a) e) (fun a e => A.k (dir t) (rowIn t a) e) (fun a e => A.v (rowIn t a) e)
    (fun a e => A.kk (rowIn t a) e) (fun a e => A.b (dir t) (rowIn t a) e) (fun h => A.state (seg t) (dir t) h (t.val % 4 * 64))
    (fun a e => (blk1 m c t a e (rowIn t a) rfl).trans (hA.v _ _))
    (fun a e => (blk2 m c t a e (rowIn t a) rfl).trans (hA.kk _ _))
    (fun a e => (blk3 m c t a e (dir t) rfl (rowIn t a) rfl).trans (hA.lw _ _ _))
    (fun a e => (blk4 m c t a e (dir t) rfl (rowIn t a) rfl).trans (hA.k _ _ _))
    (fun a e => (blk5 m c t a e (dir t) rfl (rowIn t a) rfl).trans (hA.b _ _ _)) hs before h x y

theorem start_apply (x6 : FVec Ideal S1x1x8x64x64 .f32) (h : Fin 8) (x y : Fin 64) :
    k0_pay4 (F := Ideal) x6 (ix3 h x y) = x6 (ix5 0 0 h x y) := by
  pointwise [k0_pay4]

theorem result_apply (s : FVec Ideal S8x64x64 .f32) (h : Fin 8) (x y : Fin 64) :
    k0_pay3 (F := Ideal) s (ix5 0 0 h x y) = s (ix3 h x y) := by
  pointwise [k0_pay3]

include hA in
theorem first_real (h4 : t.val % 4 = 0) (h : Fin 8) (x y : Fin 64) :
    (outsAt0 m c t.val t.isLt).2.2 (ix3 h x y) = ((A.state (seg t) (dir t) h (t.val % 4 * 64 + 64) x y : ℝ) : EReal) := by
  rw [first_state m c t h4]
  refine point_real m c A t hA _ (fun h x y => ?_) _ h x y
  rw [start_apply, h4]
  exact (blk6 m c t h x y (seg t) rfl (dir t) rfl).trans (hA.s _ _ _ _ _)

/-- The point before, of the same segment and direction. -/
theorem before_state (h4 : ¬t.val % 4 = 0) (h : Fin 8) (x y : Fin 64) :
    A.state (seg ⟨t.val - 1, before_lt t⟩) (dir ⟨t.val - 1, before_lt t⟩) h ((t.val - 1) % 4 * 64 + 64) x y
      = A.state (seg t) (dir t) h (t.val % 4 * 64) x y := by
  have e1 : seg ⟨t.val - 1, before_lt t⟩ = seg t := Fin.ext (by show (t.val - 1) / 8 = t.val / 8; omega)
  have e2 : dir ⟨t.val - 1, before_lt t⟩ = dir t := Fin.ext (by show (t.val - 1) / 4 % 2 = t.val / 4 % 2; omega)
  rw [e1, e2, show (t.val - 1) % 4 * 64 + 64 = t.val % 4 * 64 by omega]

end Point

/-- The carried state, after every point. -/
theorem carried (hA : Real m c A) (n : ℕ) (hn : n < cfg0.N) (h : Fin 8) (x y : Fin 64) :
    (outsAt0 m c n hn).2.2 (ix3 h x y) = ((A.state (seg ⟨n, hn⟩) (dir ⟨n, hn⟩) h (n % 4 * 64 + 64) x y : ℝ) : EReal) := by
  induction n generalizing h x y with
  | zero => exact first_real m c A ⟨0, hn⟩ hA (Nat.zero_mod _) h x y
  | succ n ih =>
    by_cases h4 : (n + 1) % 4 = 0
    · exact first_real m c A ⟨n + 1, hn⟩ hA h4 h x y
    · refine (congrFun (later_state m c ⟨n + 1, hn⟩ h4) _).trans ?_
      refine point_real m c A ⟨n + 1, hn⟩ hA _ (fun h x y => ?_) _ h x y
      exact (ih (Nat.lt_of_succ_lt hn) h x y).trans (congrArg (fun r : ℝ => (r : EReal)) (before_state A ⟨n + 1, hn⟩ h4 h x y))

theorem written (hA : Real m c A) (h4 : t.val % 4 = 3) (h : Fin 8) (x y : Fin 64) :
    (outsAt0 m c t.val t.isLt).2.1 (ix5 0 0 h x y) = ((A.state (seg t) (dir t) h 256 x y : ℝ) : EReal) := by
  rw [last_out m c t h4, result_apply, ← later_state m c t (by omega), carried m c A hA t.val t.isLt h x y, h4]

theorem final (hA : Real m c A) : (dats m 0 c).arrAt 8 cfg0.N
    = fun i : S16x2x8x64x64.Idx => ((A.state (i 0) (i 1) (i 2) 256 (i 3) (i 4) : ℝ) : EReal) := by
  refine (dats m 0 c).arrAt_eq_of_covers 8 _ (by decide +kernel) fun t hf y => ?_
  have h4 : t.val % 4 = 3 := by
    have := (by decide +kernel : ∀ t : Fin grid0.N, win0_8.flush t = true → t.val % 4 = 3) t
    exact this hf
  blk_simp
  obtain ⟨h, x, z, rfl⟩ : ∃ (h : Fin 8) (x z : Fin 64), y = ix5 (0 : Fin 1) (0 : Fin 1) h x z := by
    refine ⟨y 2, y 3, y 4, (eq_ix5 y).trans ?_⟩
    exact congrArg₂ (fun p q : Fin 1 => (ix5 p q (y 2) (y 3) (y 4) : S1x1x8x64x64.Idx)) (Subsingleton.elim (α := Fin 1) _ _) (Subsingleton.elim (α := Fin 1) _ _)
  have e0 : ((win0_8.blk t).view.emb (ix5 (0 : Fin 1) (0 : Fin 1) h x z) 0 : Fin 16) = seg t := Fin.ext (by blk_simp [idx t]; exact Nat.add_zero _)
  have e1 : ((win0_8.blk t).view.emb (ix5 (0 : Fin 1) (0 : Fin 1) h x z) 1 : Fin 2) = dir t := Fin.ext (by blk_simp [idx t]; exact Nat.add_zero _)
  have e2 : ((win0_8.blk t).view.emb (ix5 (0 : Fin 1) (0 : Fin 1) h x z) 2 : Fin 8) = h := Fin.ext (by blk_simp [idx t])
  have e3 : ((win0_8.blk t).view.emb (ix5 (0 : Fin 1) (0 : Fin 1) h x z) 3 : Fin 64) = x := Fin.ext (by blk_simp [idx t])
  have e4 : ((win0_8.blk t).view.emb (ix5 (0 : Fin 1) (0 : Fin 1) h x z) 4 : Fin 64) = z := Fin.ext (by blk_simp [idx t])
  rw [after0_8]
  refine (written m c A t hA h4 h x z).trans ?_
  exact (congrArg (fun r : ℝ => (r : EReal)) (by rw [e0, e1, e2, e3, e4])).symm

end Cert.ScanIdeal.Block
end
-- ==== Proof.Scan.Precondition.lean ====
/-
  THE PRECONDITION, read: the arguments the state depends on are real numbers, and `numbers` are those numbers.
-/
module

public import proofs.«01_k».proof.Defs
public import proofs.«01_k».proof.Proof.Gen.ScanIdeal
public import proofs.«01_k».proof.Proof.Attn.Precondition
public import proofs.«01_k».proof.Proof.Scan.Array

@[expose] public section

noncomputable section

namespace Cert.Scan

/-- The shapes the precondition compares: a single bound is spread over each. -/
instance finite_facts : Cert.Pre_finite_scan.Facts where
  bcast_S_S20480x512 := by decide
  bcast_S_S2x20480x512 := by decide
  bcast_S_S16x2x8x64x64 := by decide

open Idealize.ShloMosaic Idealize.ShloMosaic.TcCoe Idealize.SL.Sem Cert.ScanIdeal Cert.Attention

variable (m : (ℓ : Loc nD τ sig) → Buf (Elt Ideal) ℓ)

theorem value_real (h : Pre_ScanIdeal_finite_scan m) (c : Dev nD) (i : S20480x512.Idx) :
    ∃ r : ℝ, m ((c : Thread nD τ).loc main_arg1) i = (r : EReal) := by
  have e := congrFun (h c).1 i
  simp only [Cert.Pre_finite_scan.fn, cmpf, Host.absf, broadcastInDim, constant] at e
  exact real_of_below_top _ _ top32 e

theorem removal_real (h : Pre_ScanIdeal_finite_scan m) (c : Dev nD) (i : S20480x512.Idx) :
    ∃ r : ℝ, m ((c : Thread nD τ).loc main_arg2) i = (r : EReal) := by
  have e := congrFun (h c).2.1 i
  simp only [Cert.Pre_finite_scan.fn, cmpf, Host.absf, broadcastInDim, constant] at e
  exact real_of_below_top _ _ top32 e

theorem decay_real (h : Pre_ScanIdeal_finite_scan m) (c : Dev nD) (i : S2x20480x512.Idx) :
    ∃ r : ℝ, m ((c : Thread nD τ).loc main_arg3) i = (r : EReal) := by
  have e := congrFun (h c).2.2.1 i
  simp only [Cert.Pre_finite_scan.fn, cmpf, Host.absf, broadcastInDim, constant] at e
  exact real_of_below_top _ _ top32 e

theorem key_real (h : Pre_ScanIdeal_finite_scan m) (c : Dev nD) (i : S2x20480x512.Idx) :
    ∃ r : ℝ, m ((c : Thread nD τ).loc main_arg4) i = (r : EReal) := by
  have e := congrFun (h c).2.2.2.1 i
  simp only [Cert.Pre_finite_scan.fn, cmpf, Host.absf, broadcastInDim, constant] at e
  exact real_of_below_top _ _ top32 e

theorem weight_real (h : Pre_ScanIdeal_finite_scan m) (c : Dev nD) (i : S2x20480x512.Idx) :
    ∃ r : ℝ, m ((c : Thread nD τ).loc main_arg5) i = (r : EReal) := by
  have e := congrFun (h c).2.2.2.2.1 i
  simp only [Cert.Pre_finite_scan.fn, cmpf, Host.absf, broadcastInDim, constant] at e
  exact real_of_below_top _ _ top32 e

theorem start_real (h : Pre_ScanIdeal_finite_scan m) (c : Dev nD) (i : S16x2x8x64x64.Idx) :
    ∃ r : ℝ, m ((c : Thread nD τ).loc main_arg6) i = (r : EReal) := by
  have e := congrFun (h c).2.2.2.2.2 i
  simp only [Cert.Pre_finite_scan.fn, cmpf, Host.absf, broadcastInDim, constant] at e
  exact real_of_below_top _ _ top32 e

/-- The real numbers the arguments are. -/
def numbers (c : Dev nD) : Args where
  v n e := EReal.toReal ((m ((c : Thread nD τ).loc main_arg1) : FVec Ideal S20480x512 .f32) (ix2 n e))
  kk n e := EReal.toReal ((m ((c : Thread nD τ).loc main_arg2) : FVec Ideal S20480x512 .f32) (ix2 n e))
  lw d n e := EReal.toReal ((m ((c : Thread nD τ).loc main_arg3) : FVec Ideal S2x20480x512 .f32) (ix3 d n e))
  k d n e := EReal.toReal ((m ((c : Thread nD τ).loc main_arg4) : FVec Ideal S2x20480x512 .f32) (ix3 d n e))
  b d n e := EReal.toReal ((m ((c : Thread nD τ).loc main_arg5) : FVec Ideal S2x20480x512 .f32) (ix3 d n e))
  s bb d h x y := EReal.toReal ((m ((c : Thread nD τ).loc main_arg6) : FVec Ideal S16x2x8x64x64 .f32) (ix5 bb d h x y))

theorem of_real (x : EReal) (h : ∃ r : ℝ, x = (r : EReal)) : x = ((EReal.toReal x : ℝ) : EReal) := by
  obtain ⟨r, rfl⟩ := h
  rfl

theorem numbers_real (h : Pre_ScanIdeal_finite_scan m) (c : Dev nD) : Cert.ScanIdeal.Block.Real m c (numbers m c) where
  v n e := of_real _ (value_real m h c _)
  kk n e := of_real _ (removal_real m h c _)
  lw d n e := of_real _ (decay_real m h c _)
  k d n e := of_real _ (key_real m h c _)
  b d n e := of_real _ (weight_real m h c _)
  s bb d h' x y := of_real _ (start_real m h c _)

end Cert.Scan
end
-- ==== Proof.Scan.Inputs.lean ====
/-
  THE REFERENCE'S ARGUMENTS, put in the order its steps take them: direction 0 from the first row to the last,
  direction 1 from the last row to the first.
-/
module

public import proofs.«01_k».proof.Proof.Gen.ScanRefIdeal.Step
public import Idealize.ShloMosaic.PureOps.Ideal.Laws
public import Idealize.ShloMosaic.Lib.Pointwise

@[expose] public section

set_option maxRecDepth 16384

noncomputable section

namespace Cert.ScanRefIdeal.Step

open Idealize.ShloMosaic Cert.ScanRefIdeal Cert.ScanRefIdeal.Gen
open scoped BigOperators

/-- The row of the arguments that step `t` of direction `d` takes, and a head's column. -/
def rowOf (d : Fin 2) (bb : Fin 16) (t : Fin 256) : Fin 20480 := ⟨16384 + (bb.val * 256 + if d.val = 0 then t.val else 255 - t.val), by split <;> omega⟩
def colOf (h : Fin 8) (x : Fin 64) : Fin 512 := ⟨h.val * 64 + x.val, by omega⟩
def turned (t : Fin 256) : Fin 256 := ⟨255 - t.val, by omega⟩
def source (bb : Fin 16) (t : Fin 256) : Fin 20480 := ⟨16384 + (bb.val * 256 + t.val), by omega⟩

def split (X : FVec Ideal S2x20480x512 .f32) : FVec Ideal S2x16x256x8x64 .f32 :=
  shapeCast _ (extractStridedSlice S2x4096x512 ![0, 16384, 0] X slices_S2x20480x512_S2x4096x512_0_16384_0) shapeCasts_S2x4096x512_S2x16x256x8x64
def split1 (X : FVec Ideal S20480x512 .f32) : FVec Ideal S16x256x8x64 .f32 :=
  shapeCast _ (extractStridedSlice S4096x512 ![16384, 0] X slices_S20480x512_S4096x512_16384_0) shapeCasts_S4096x512_S16x256x8x64

theorem split_apply (X : FVec Ideal S2x20480x512 .f32) (d : Fin 2) (bb : Fin 16) (t : Fin 256) (h : Fin 8) (x : Fin 64) :
    split X (ix5 d bb t h x) = X (ix3 d (source bb t) (colOf h x)) := by
  unfold source colOf
  pointwise [split]

theorem split1_apply (X : FVec Ideal S20480x512 .f32) (bb : Fin 16) (t : Fin 256) (h : Fin 8) (x : Fin 64) :
    split1 X (ix4 bb t h x) = X (ix2 (source bb t) (colOf h x)) := by
  unfold source colOf
  pointwise [split1]

def first (Y : FVec Ideal S2x16x256x8x64 .f32) : FVec Ideal S16x256x8x64 .f32 :=
  shapeCast _ (extractStridedSlice S1x16x256x8x64 ![0, 0, 0, 0, 0] Y slices_S2x16x256x8x64_S1x16x256x8x64_0_0_0_0_0) shapeCasts_S1x16x256x8x64_S16x256x8x64
def second (Y : FVec Ideal S2x16x256x8x64 .f32) : FVec Ideal S16x256x8x64 .f32 :=
  shapeCast _ (Host.reverse [2] (extractStridedSlice S1x16x256x8x64 ![1, 0, 0, 0, 0] Y slices_S2x16x256x8x64_S1x16x256x8x64_1_0_0_0_0)) shapeCasts_S1x16x256x8x64_S16x256x8x64
def stack (A B : FVec Ideal S16x256x8x64 .f32) : FVec Ideal S256x16x2x8x64 .f32 :=
  transpose S256x16x2x8x64 [2, 1, 0, 3, 4] (concatenate S2x16x256x8x64 0 [⟨S1x16x256x8x64, broadcastInDim S1x16x256x8x64 ![1, 2, 3, 4] bcast_S16x256x8x64_S1x16x256x8x64_1_2_3_4 A⟩,
    ⟨S1x16x256x8x64, broadcastInDim S1x16x256x8x64 ![1, 2, 3, 4] bcast_S16x256x8x64_S1x16x256x8x64_1_2_3_4 B⟩] concatenates_S1x16x256x8x64_S1x16x256x8x64_S2x16x256x8x64_d0)
    transposes_S2x16x256x8x64_S256x16x2x8x64_2_1_0_3_4

theorem first_apply (Y : FVec Ideal S2x16x256x8x64 .f32) (bb : Fin 16) (t : Fin 256) (h : Fin 8) (x : Fin 64) :
    first Y (ix4 bb t h x) = Y (ix5 0 bb t h x) := by
  pointwise [first]
theorem second_apply (Y : FVec Ideal S2x16x256x8x64 .f32) (bb : Fin 16) (t : Fin 256) (h : Fin 8) (x : Fin 64) :
    second Y (ix4 bb t h x) = Y (ix5 1 bb (turned t) h x) := by
  unfold turned
  pointwise [second, Host.reverse]
  exact congrArg (fun k => Y (ix5 1 bb k h x)) (Fin.ext (by show 256 - (t.val + 1) = 255 - t.val; omega))
theorem turn_apply (Y : FVec Ideal S16x256x8x64 .f32) (bb : Fin 16) (t : Fin 256) (h : Fin 8) (x : Fin 64) :
    Host.reverse [1] Y (ix4 bb t h x) = Y (ix4 bb (turned t) h x) := by
  refine congrArg Y (funext fun a => ?_)
  match a with
  | ⟨0, _⟩ => rfl
  | ⟨1, _⟩ => exact Fin.ext (by show 256 - (t.val + 1) = 255 - t.val; omega)
  | ⟨2, _⟩ => rfl
  | ⟨3, _⟩ => rfl
theorem stack_apply0 (A B : FVec Ideal S16x256x8x64 .f32) (bb : Fin 16) (t : Fin 256) (h : Fin 8) (x : Fin 64) :
    stack A B (ix5 t bb 0 h x) = A (ix4 bb t h x) := by
  pointwise [stack]
theorem stack_apply1 (A B : FVec Ideal S16x256x8x64 .f32) (bb : Fin 16) (t : Fin 256) (h : Fin 8) (x : Fin 64) :
    stack A B (ix5 t bb 1 h x) = B (ix4 bb t h x) := by
  pointwise [stack]

theorem oriented (X : FVec Ideal S2x20480x512 .f32) (t : Fin 256) (bb : Fin 16) (d : Fin 2) (h : Fin 8) (x : Fin 64) :
    stack (first (split X)) (second (split X)) (ix5 t bb d h x) = X (ix3 d (rowOf d bb t) (colOf h x)) := by
  match d with
  | 0 => rw [stack_apply0, first_apply, split_apply]; rfl
  | 1 => rw [stack_apply1, second_apply, split_apply]; rfl

theorem doubled (X : FVec Ideal S20480x512 .f32) (t : Fin 256) (bb : Fin 16) (d : Fin 2) (h : Fin 8) (x : Fin 64) :
    stack (split1 X) (Host.reverse [1] (split1 X)) (ix5 t bb d h x) = X (ix2 (rowOf d bb t) (colOf h x)) := by
  match d with
  | 0 => rw [stack_apply0, split1_apply]; rfl
  | 1 => rw [stack_apply1, turn_apply, split1_apply]; rfl

variable (x1 x2 : FVec Ideal S20480x512 .f32) (x3 x4 x5 : FVec Ideal S2x20480x512 .f32)
    (t : Fin 256) (bb : Fin 16) (d : Fin 2) (h : Fin 8) (x : Fin 64)

theorem decay_input : A_main_v53 (F := Ideal) x1 x2 x3 x4 x5 (ix5 t bb d h x) = Ideal.exp (x3 (ix3 d (rowOf d bb t) (colOf h x))) :=
  oriented (Host.exp x3) t bb d h x
theorem key_input : A_main_v54 (F := Ideal) x1 x2 x3 x4 x5 (ix5 t bb d h x) = x4 (ix3 d (rowOf d bb t) (colOf h x)) :=
  oriented x4 t bb d h x
theorem value_input : A_main_v55 (F := Ideal) x1 x2 x3 x4 x5 (ix5 t bb d h x) = x1 (ix2 (rowOf d bb t) (colOf h x)) :=
  doubled x1 t bb d h x
theorem removal_input : A_main_v56 (F := Ideal) x1 x2 x3 x4 x5 (ix5 t bb d h x) = x2 (ix2 (rowOf d bb t) (colOf h x)) :=
  doubled x2 t bb d h x
theorem weight_input : A_main_v57 (F := Ideal) x1 x2 x3 x4 x5 (ix5 t bb d h x) = x5 (ix3 d (rowOf d bb t) (colOf h x)) :=
  oriented x5 t bb d h x

end Cert.ScanRefIdeal.Step
end
-- ==== Proof.Scan.Reference.lean ====
/-
  THE REFERENCE'S STEPS: what one step does to an entry of the state, and the state after all of them.
-/
module

public import proofs.«01_k».proof.Proof.Scan.Inputs
public import proofs.«01_k».proof.Proof.Scan.Sequence
public import Idealize.ShloMosaic.Lib.DynamicIndex

@[expose] public section

set_option maxRecDepth 16384

noncomputable section

namespace Cert.ScanRefIdeal.Step

open Idealize.ShloMosaic Cert.ScanRefIdeal Cert.ScanRefIdeal.Gen Cert.Scan
open scoped BigOperators

/-- One step's row out of all of them. -/
def pick (n : BitVec 32) (X : FVec Ideal S256x16x2x8x64 .f32) : FVec Ideal S16x2x8x64 .f32 :=
  shapeCast S16x2x8x64 (Host.dynamicSlice S1x16x2x8x64 X (fun k => (((![select (cmpi .slt (constantI S_ 32 n) (constantI S_ 32 0#32)) (addi (id (constantI S_ 32 n)) (constantI S_ 32 256#32)) (constantI S_ 32 n), constantI S_ 32 0#32, constantI S_ 32 0#32, constantI S_ 32 0#32, constantI S_ 32 0#32] : Fin 5 → (⟨S_, .i32⟩ : BufTy).Contents (Elt Ideal))) k (Shape.Idx.first h_S_)).toInt) sliceFits_S256x16x2x8x64_S1x16x2x8x64) shapeCasts_S1x16x2x8x64_S16x2x8x64

theorem pick_apply (X : FVec Ideal S256x16x2x8x64 .f32) (j : Fin 256) (bb : Fin 16) (d : Fin 2) (h : Fin 8) (x : Fin 64) :
    pick (BitVec.ofNat 32 j.val) X (ix4 bb d h x) = X (ix5 j bb d h x) := by
  have hj := j.isLt
  have hoff : S256x16x2x8x64.Slices ![j.val, 0, 0, 0, 0] S1x16x2x8x64 := ⟨rfl, fun a => by
    match a with
    | ⟨0, _⟩ => show j.val + 1 ≤ 256; omega
    | ⟨1, _⟩ => show 0 + 16 ≤ 16; omega
    | ⟨2, _⟩ => show 0 + 2 ≤ 2; omega
    | ⟨3, _⟩ => show 0 + 8 ≤ 8; omega
    | ⟨4, _⟩ => show 0 + 64 ≤ 64; omega⟩
  unfold pick
  rw [Host.dynamicSlice_eq_extractStridedSlice _ _ _ ![j.val, 0, 0, 0, 0] _ hoff (fun a => by
    match a with
    | ⟨0, _⟩ => exact toInt_wrap_ofNat j.val (by omega)
    | ⟨1, _⟩ => rfl
    | ⟨2, _⟩ => rfl
    | ⟨3, _⟩ => rfl
    | ⟨4, _⟩ => rfl)]
  pointwise []

variable (s : State Ideal) (j : Fin 256) (bb : Fin 16) (d : Fin 2) (h : Fin 8)

theorem decay_row (x : Fin 64) : b13 (F := Ideal) j.val s (ix4 bb d h x) = s.main_v58_0 (ix5 j bb d h x) := pick_apply _ j bb d h x
theorem key_row (x : Fin 64) : b25 (F := Ideal) j.val s (ix4 bb d h x) = s.main_v58_1 (ix5 j bb d h x) := pick_apply _ j bb d h x
theorem value_row (x : Fin 64) : b37 (F := Ideal) j.val s (ix4 bb d h x) = s.main_v58_2 (ix5 j bb d h x) := pick_apply _ j bb d h x
theorem removal_row (x : Fin 64) : b49 (F := Ideal) j.val s (ix4 bb d h x) = s.main_v58_3 (ix5 j bb d h x) := pick_apply _ j bb d h x
theorem weight_row (x : Fin 64) : b61 (F := Ideal) j.val s (ix4 bb d h x) = s.main_v58_4 (ix5 j bb d h x) := pick_apply _ j bb d h x

theorem removed_apply (j : ℕ) (x : Fin 64) : b62 (F := Ideal) j s (ix4 bb d h x)
    = ∑ z, s.main_v58_7 (ix5 bb d h x z) * b49 (F := Ideal) j s (ix4 bb d h z) := by
  unfold b62
  generalize b49 (F := Ideal) j s = q
  pointwise []

theorem step_apply (x y : Fin 64) : (step (F := Ideal) j.val s).main_v58_7 (ix5 bb d h x y)
    = (s.main_v58_7 (ix5 bb d h x y) * s.main_v58_0 (ix5 j bb d h y)
        - (∑ z, s.main_v58_7 (ix5 bb d h x z) * s.main_v58_3 (ix5 j bb d h z)) * s.main_v58_4 (ix5 j bb d h y))
      + s.main_v58_2 (ix5 j bb d h x) * s.main_v58_1 (ix5 j bb d h y) := by
  have e : b77 (F := Ideal) j.val s (ix5 bb d h x y) = (s.main_v58_7 (ix5 bb d h x y) * b13 (F := Ideal) j.val s (ix4 bb d h y)
      - b62 (F := Ideal) j.val s (ix4 bb d h x) * b61 (F := Ideal) j.val s (ix4 bb d h y))
      + b37 (F := Ideal) j.val s (ix4 bb d h x) * b25 (F := Ideal) j.val s (ix4 bb d h y) := by
    unfold b77 b76 b75 b74 b73 b72 b71 b70 b69 b68 b67 b66 b65 b64 b63
    generalize b13 (F := Ideal) j.val s = q1
    generalize b62 (F := Ideal) j.val s = q2
    generalize b61 (F := Ideal) j.val s = q3
    generalize b37 (F := Ideal) j.val s = q4
    generalize b25 (F := Ideal) j.val s = q5
    pointwise []
  refine (congrFun (step_main_v58_7 j.val s) _).trans (e.trans ?_)
  rw [removed_apply, decay_row, weight_row, value_row, key_row]
  simp only [removal_row]

theorem sum_real {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

section Run

variable (A : Args) (x1 x2 : FVec Ideal S20480x512 .f32) (x3 x4 x5 : FVec Ideal S2x20480x512 .f32) (x6 : FVec Ideal S16x2x8x64x64 .f32)
  (h1 : ∀ n e, x1 (ix2 n e) = ((A.v n e : ℝ) : EReal)) (h2 : ∀ n e, x2 (ix2 n e) = ((A.kk n e : ℝ) : EReal))
  (h3 : ∀ d n e, x3 (ix3 d n e) = ((A.lw d n e : ℝ) : EReal)) (h4 : ∀ d n e, x4 (ix3 d n e) = ((A.k d n e : ℝ) : EReal))
  (h5 : ∀ d n e, x5 (ix3 d n e) = ((A.b d n e : ℝ) : EReal)) (h6 : ∀ bb d h x y, x6 (ix5 bb d h x y) = ((A.s bb d h x y : ℝ) : EReal))

/-- The states of the run. -/
def states : ℕ → State Ideal
  | 0 => init (F := Ideal) x6 x1 x2 x3 x4 x5
  | n + 1 => step (F := Ideal) n (states n)

theorem kept (n : ℕ) : (states x1 x2 x3 x4 x5 x6 n).main_v58_0 = A_main_v53 (F := Ideal) x1 x2 x3 x4 x5
    ∧ (states x1 x2 x3 x4 x5 x6 n).main_v58_1 = A_main_v54 (F := Ideal) x1 x2 x3 x4 x5
    ∧ (states x1 x2 x3 x4 x5 x6 n).main_v58_2 = A_main_v55 (F := Ideal) x1 x2 x3 x4 x5
    ∧ (states x1 x2 x3 x4 x5 x6 n).main_v58_3 = A_main_v56 (F := Ideal) x1 x2 x3 x4 x5
    ∧ (states x1 x2 x3 x4 x5 x6 n).main_v58_4 = A_main_v57 (F := Ideal) x1 x2 x3 x4 x5 := by
  induction n with
  | zero => exact ⟨rfl, rfl, rfl, rfl, rfl⟩
  | succ n ih => exact ih

theorem rowOf_eq (d : Fin 2) (bb : Fin 16) (n : ℕ) (hn : n < 256) : rowOf d bb ⟨n, hn⟩ = rowAt d bb n := by
  refine Fin.ext ?_
  unfold rowOf rowAt
  show 16384 + (bb.val * 256 + if d.val = 0 then n else 255 - n) = 16384 + (bb.val * 256 + if d.val = 0 then n % 256 else 255 - n % 256)
  rw [Nat.mod_eq_of_lt hn]

include h1 h2 h3 h4 h5 h6 in
theorem states_real (n : ℕ) (hn : n ≤ 256) (bb : Fin 16) (d : Fin 2) (h : Fin 8) (x y : Fin 64) :
    (states x1 x2 x3 x4 x5 x6 n).main_v58_7 (ix5 bb d h x y) = ((A.state bb d h n x y : ℝ) : EReal) := by
  induction n generalizing x y with
  | zero => exact h6 bb d h x y
  | succ n ih =>
    have ih := ih (by omega)
    obtain ⟨k0, k1, k2, k3, k4⟩ := kept x1 x2 x3 x4 x5 x6 n
    refine (step_apply (states x1 x2 x3 x4 x5 x6 n) ⟨n, by omega⟩ bb d h x y).trans ?_
    rw [k0, k1, k2, k3, k4, decay_input, key_input, value_input, weight_input, rowOf_eq d bb n (by omega), h1, h3, h4, h5, ih, Ideal.exp_coe]
    have e : ∑ z, (states x1 x2 x3 x4 x5 x6 n).main_v58_7 (ix5 bb d h x z) * A_main_v56 (F := Ideal) x1 x2 x3 x4 x5 (ix5 ⟨n, by omega⟩ bb d h z)
        = ((∑ z, A.state bb d h n x z * A.kk (rowAt d bb n) (colOf h z) : ℝ) : EReal) := by
      rw [← sum_real]
      refine Finset.sum_congr rfl fun z _ => ?_
      rw [ih, removal_input, rowOf_eq d bb n (by omega), h2, EReal.coe_mul]
    rw [e, ← EReal.coe_mul, ← EReal.coe_mul, ← EReal.coe_mul, ← EReal.coe_sub, ← EReal.coe_add]
    rfl

end Run

end Cert.ScanRefIdeal.Step
end
-- ==== Proof.Scan.Equal.lean ====
/-
  THE SCAN'S EQUATION: under the precondition the kernel's states and the reference's are equal.
-/
module

public import proofs.«01_k».proof.Proof.Scan.Precondition
public import proofs.«01_k».proof.Proof.Scan.Reference
public import proofs.«01_k».proof.Proof.Gen.ScanIdeal.Value
public import proofs.«01_k».proof.Proof.Gen.ScanRefIdeal.StepRun

@[expose] public section

set_option maxRecDepth 16384

noncomputable section

namespace Cert.Scan

open Idealize.ShloMosaic Idealize.ShloMosaic.TcCoe Idealize.SL.Sem Cert.ScanIdeal

/-- The reference's states from the argument arrays of a memory. -/
def referenceStates (m' : (ℓ : Loc Cert.ScanRefIdeal.nD Cert.ScanRefIdeal.τ Cert.ScanRefIdeal.sig) → Buf (Elt Ideal) ℓ) (c : Dev Cert.ScanRefIdeal.nD) :=
  Cert.ScanRefIdeal.Step.states (m' ((c : Thread Cert.ScanRefIdeal.nD Cert.ScanRefIdeal.τ).loc Cert.ScanRefIdeal.main_arg1))
    (m' ((c : Thread Cert.ScanRefIdeal.nD Cert.ScanRefIdeal.τ).loc Cert.ScanRefIdeal.main_arg2))
    (m' ((c : Thread Cert.ScanRefIdeal.nD Cert.ScanRefIdeal.τ).loc Cert.ScanRefIdeal.main_arg3))
    (m' ((c : Thread Cert.ScanRefIdeal.nD Cert.ScanRefIdeal.τ).loc Cert.ScanRefIdeal.main_arg4))
    (m' ((c : Thread Cert.ScanRefIdeal.nD Cert.ScanRefIdeal.τ).loc Cert.ScanRefIdeal.main_arg5))
    (m' ((c : Thread Cert.ScanRefIdeal.nD Cert.ScanRefIdeal.τ).loc Cert.ScanRefIdeal.main_arg6))

theorem reference_start (m' : (ℓ : Loc Cert.ScanRefIdeal.nD Cert.ScanRefIdeal.τ Cert.ScanRefIdeal.sig) → Buf (Elt Ideal) ℓ) (c : Dev Cert.ScanRefIdeal.nD) :
    referenceStates m' c 0 = Cert.ScanRefIdeal.StepRun.initState m' c := rfl

theorem reference_step (m' : (ℓ : Loc Cert.ScanRefIdeal.nD Cert.ScanRefIdeal.τ Cert.ScanRefIdeal.sig) → Buf (Elt Ideal) ℓ) (c : Dev Cert.ScanRefIdeal.nD) (n : ℕ) :
    referenceStates m' c (n + 1) = Cert.ScanRefIdeal.Step.step n (referenceStates m' c n) := rfl

theorem algebraic : algebraic_ScanIdeal_ScanRefIdeal_pre_finite_scan := by
  pair_intro
  · run_from (Cert.ScanIdeal.Value.run_blocks m g)
  · run_from (Cert.ScanRefIdeal.StepRun.run_iter m' g' (referenceStates m') (reference_start m') (reference_step m'))
    obtain ⟨_, e1, e2, e3, e4, e5, e6⟩ := hagree c
    have hA := numbers_real m hpre c
    rw [Cert.ScanIdeal.Block.final m c (numbers m c) hA]
    funext i
    rw [eq_ix5 i]
    exact Cert.ScanRefIdeal.Step.states_real (numbers m c) _ _ _ _ _ _ hA.v hA.kk hA.lw hA.k hA.b hA.s 256 le_rfl (i 0) (i 1) (i 2) (i 3) (i 4)

end Cert.Scan
end
-- ==== Proof.Frames.lean ====
/- The frames of the references: straight-line host programs, which keep their arguments and declare no semaphore. -/
module

public import proofs.«01_k».proof.Defs
public import proofs.«01_k».proof.Proof.Gen.AttnRefIdeal
public import proofs.«01_k».proof.Proof.Gen.AttnRefIdeal.Run
public import proofs.«01_k».proof.Proof.Gen.FfnRefIdeal
public import proofs.«01_k».proof.Proof.Gen.FfnRefIdeal.Run
public import proofs.«01_k».proof.Proof.Gen.InProjRefIdeal
public import proofs.«01_k».proof.Proof.Gen.InProjRefIdeal.Run
public import proofs.«01_k».proof.Proof.Gen.OutProjRefIdeal
public import proofs.«01_k».proof.Proof.Gen.OutProjRefIdeal.Run
public import proofs.«01_k».proof.Proof.Gen.QkvRefIdeal
public import proofs.«01_k».proof.Proof.Gen.QkvRefIdeal.Run
public import proofs.«01_k».proof.Proof.Gen.LastSampleRefIdeal
public import proofs.«01_k».proof.Proof.Gen.LastSampleRefIdeal.Run
public import proofs.«01_k».proof.Proof.Gen.LastPromptRefIdeal
public import proofs.«01_k».proof.Proof.Gen.LastPromptRefIdeal.Run
public import proofs.«01_k».proof.Proof.Gen.ScanRefIdeal
public import proofs.«01_k».proof.Proof.Gen.ScanRefIdeal.Run
public import Idealize.ShloMosaic.Adequacy
public import Idealize.ShloMosaic.Lib.Quiescent
public import Idealize.ShloMosaic.Init

@[expose] public section

noncomputable section

namespace Cert.Frames

open Idealize.ShloMosaic Idealize.SL.Sem

/-- The attention's reference ends with its arguments as they were and every counter at zero. -/
theorem attn_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The feed-forward's reference ends with its arguments as they were and every counter at zero. -/
theorem ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of the input projection ends with its arguments as they were and every counter at zero. -/
theorem in_proj_ref : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- The reference of the output projection ends with its arguments as they were and every counter at zero. -/
theorem out_proj_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The reference of the preparation of queries and keys ends with its arguments as they were and every counter at zero. -/
theorem qkv_ref : Cert.quiescent_QkvRefIdeal := fun m ρ _ =>
  (θ_run Cert.QkvRefIdeal.defs _ _).mono (fun r h => ⟨fun c => (h c).2.2.2.2, sem_eq_zero_of_no_sems (by decide) r.2⟩)
    (Cert.QkvRefIdeal.Value.run (F := Ideal) m ρ)

/-- The reference of the sample batch's last norm ends with its arguments as they were and every counter at zero. -/
theorem last_sample_ref : Cert.quiescent_LastSampleRefIdeal := fun m ρ _ =>
  (θ_run Cert.LastSampleRefIdeal.defs _ _).mono (fun r h => ⟨fun c => (h c).2, sem_eq_zero_of_no_sems (by decide) r.2⟩)
    (Cert.LastSampleRefIdeal.Value.run (F := Ideal) m ρ)

/-- The reference of the prompt batch's last norm ends with its arguments as they were and every counter at zero. -/
theorem last_prompt_ref : Cert.quiescent_LastPromptRefIdeal := fun m ρ _ =>
  (θ_run Cert.LastPromptRefIdeal.defs _ _).mono (fun r h => ⟨fun c => (h c).2, sem_eq_zero_of_no_sems (by decide) r.2⟩)
    (Cert.LastPromptRefIdeal.Value.run (F := Ideal) m ρ)

/-- The scan's reference ends with its arguments as they were and every counter at zero. -/
theorem scan_ref : Cert.quiescent_ScanRefIdeal := fun m ρ _ =>
  (θ_run Cert.ScanRefIdeal.defs _ _).mono (fun r h => ⟨fun c => (h c).2, sem_eq_zero_of_no_sems (by decide) r.2⟩)
    (Cert.ScanRefIdeal.Value.run (F := Ideal) m ρ)

end Cert.Frames

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_finite_keys
public import proofs.«01_k».proof.Proof.Gen.InProj
public import proofs.«01_k».proof.Proof.Gen.InProjIdeal
public import proofs.«01_k».proof.Proof.Gen.InProj.Skeleton
public import proofs.«01_k».proof.Proof.Gen.InProjIdeal.Skeleton
public import proofs.«01_k».proof.Proof.Gen.InProj.Launch
public import proofs.«01_k».proof.Proof.Gen.InProjIdeal.Launch
public import proofs.«01_k».proof.Proof.Gen.InProj.Points
public import proofs.«01_k».proof.Proof.Gen.InProjIdeal.Points
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProjIdeal
public import proofs.«01_k».proof.Proof.Gen.OutProj.Skeleton
public import proofs.«01_k».proof.Proof.Gen.OutProjIdeal.Skeleton
public import proofs.«01_k».proof.Proof.Gen.OutProj.Launch
public import proofs.«01_k».proof.Proof.Gen.OutProjIdeal.Launch
public import proofs.«01_k».proof.Proof.Gen.OutProj.Points
public import proofs.«01_k».proof.Proof.Gen.OutProjIdeal.Points
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Qkv
public import proofs.«01_k».proof.Proof.Gen.QkvIdeal
public import proofs.«01_k».proof.Proof.Gen.Qkv.Skeleton
public import proofs.«01_k».proof.Proof.Gen.QkvIdeal.Skeleton
public import proofs.«01_k».proof.Proof.Gen.Qkv.Launch
public import proofs.«01_k».proof.Proof.Gen.QkvIdeal.Launch
public import proofs.«01_k».proof.Proof.Gen.Qkv.Points
public import proofs.«01_k».proof.Proof.Gen.QkvIdeal.Points
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.LastSample
public import proofs.«01_k».proof.Proof.Gen.LastSampleIdeal
public import proofs.«01_k».proof.Proof.Gen.LastSample.Skeleton
public import proofs.«01_k».proof.Proof.Gen.LastSampleIdeal.Skeleton
public import proofs.«01_k».proof.Proof.Gen.LastSample.Launch
public import proofs.«01_k».proof.Proof.Gen.LastSampleIdeal.Launch
public import proofs.«01_k».proof.Proof.Gen.LastSample.Points
public import proofs.«01_k».proof.Proof.Gen.LastSampleIdeal.Points
public import proofs.«01_k».proof.Proof.Gen.LastSample.Frame
public import proofs.«01_k».proof.Proof.Gen.LastSampleIdeal.Frame
public import proofs.«01_k».proof.Proof.Gen.LastSampleIdeal.Value
public import proofs.«01_k».proof.Proof.Gen.LastSampleRefIdeal
public import proofs.«01_k».proof.Proof.Gen.LastSampleRefIdeal.Run
public import proofs.«01_k».proof.Proof.Gen.LastSampleRefIdeal.Read
public import proofs.«01_k».proof.Proof.Gen.LastPrompt
public import proofs.«01_k».proof.Proof.Gen.LastPromptIdeal
public import proofs.«01_k».proof.Proof.Gen.LastPrompt.Skeleton
public import proofs.«01_k».proof.Proof.Gen.LastPromptIdeal.Skeleton
public import proofs.«01_k».proof.Proof.Gen.LastPrompt.Launch
public import proofs.«01_k».proof.Proof.Gen.LastPromptIdeal.Launch
public import proofs.«01_k».proof.Proof.Gen.LastPrompt.Points
public import proofs.«01_k».proof.Proof.Gen.LastPromptIdeal.Points
public import proofs.«01_k».proof.Proof.Gen.LastPrompt.Frame
public import proofs.«01_k».proof.Proof.Gen.LastPromptIdeal.Frame
public import proofs.«01_k».proof.Proof.Gen.LastPromptIdeal.Value
public import proofs.«01_k».proof.Proof.Gen.LastPromptRefIdeal
public import proofs.«01_k».proof.Proof.Gen.LastPromptRefIdeal.Run
public import proofs.«01_k».proof.Proof.Gen.LastPromptRefIdeal.Read
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Step
public import proofs.«01_k».proof.Proof.Gen.ScanRefIdeal.StepRun
public import proofs.«01_k».proof.Proof.Attn.Equal
public import proofs.«01_k».proof.Proof.Ffn.Equal
public import proofs.«01_k».proof.Proof.In.Equal
public import proofs.«01_k».proof.Proof.Out.Equal
public import proofs.«01_k».proof.Proof.Heads.Equal
public import proofs.«01_k».proof.Proof.Last.Sample
public import proofs.«01_k».proof.Proof.Last.Prompt
public import proofs.«01_k».proof.Proof.Scan.Equal
public import proofs.«01_k».proof.Proof.Frames
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Qkv.Gen.facts, Cert.QkvIdeal.Gen.facts, Cert.QkvRefIdeal.Gen.facts,
    Cert.LastSample.Gen.facts, Cert.LastSampleIdeal.Gen.facts, Cert.LastSampleRefIdeal.Gen.facts,
    Cert.LastPrompt.Gen.facts, Cert.LastPromptIdeal.Gen.facts, Cert.LastPromptRefIdeal.Gen.facts,
    Cert.Scan.Gen.facts, Cert.ScanIdeal.Gen.facts, Cert.ScanRefIdeal.Gen.facts,
    Cert.Pre_finite_keys.Gen.facts, Cert.Scan.finite_facts,
    fun m ρ _ => Cert.Attn.Gen.frame m ρ,
    fun m ρ _ => Cert.AttnIdeal.Gen.frame m ρ,
    fun m ρ _ => Cert.AttnIdeal.Gen.frame m ρ,
    Cert.Frames.attn_ref,
    fun m ρ _ => Cert.Frames.attn_ref m ρ trivial,
    fun m ρ _ => Cert.Ffn.Gen.frame m ρ,
    fun m ρ _ => Cert.FfnIdeal.Gen.frame m ρ,
    Cert.Frames.ffn_ref,
    fun m ρ _ => Cert.InProj.Gen.frame m ρ,
    fun m ρ _ => Cert.InProjIdeal.Gen.frame m ρ,
    Cert.Frames.in_proj_ref,
    fun m ρ _ => Cert.OutProj.Gen.frame m ρ,
    fun m ρ _ => Cert.OutProjIdeal.Gen.frame m ρ,
    Cert.Frames.out_proj_ref,
    fun m ρ _ => Cert.Qkv.Gen.frame m ρ,
    fun m ρ _ => Cert.QkvIdeal.Gen.frame m ρ,
    Cert.Frames.qkv_ref,
    fun m ρ _ => Cert.LastSample.Gen.frame m ρ,
    fun m ρ _ => Cert.LastSampleIdeal.Gen.frame m ρ,
    Cert.Frames.last_sample_ref,
    fun m ρ _ => Cert.LastPrompt.Gen.frame m ρ,
    fun m ρ _ => Cert.LastPromptIdeal.Gen.frame m ρ,
    Cert.Frames.last_prompt_ref,
    fun m ρ _ => Cert.Scan.Gen.frame m ρ,
    fun m ρ _ => Cert.ScanIdeal.Gen.frame m ρ,
    fun m ρ _ => Cert.ScanIdeal.Gen.frame m ρ,
    Cert.Frames.scan_ref,
    fun m ρ _ => Cert.Frames.scan_ref m ρ trivial,
    trivial,
    Cert.Attention.algebraic,
    trivial,
    Cert.Feed.algebraic,
    trivial,
    Cert.Inp.algebraic,
    trivial,
    Cert.Outp.algebraic,
    trivial,
    Cert.Heads.algebraic,
    trivial,
    Cert.Last.algebraic_sample,
    trivial,
    Cert.Last.algebraic_prompt,
    trivial,
    Cert.Scan.algebraic⟩

end Cert.Proof

end
